-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Kernel41Ideal_finite41 [hPre_finite41 : Cert.Pre_finite41.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_finite41.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2))) = (fun _ => 1#1)

def Pre_Reference41Ideal (m : (ℓ : Loc Cert.Reference41Ideal.nD Cert.Reference41Ideal.τ Cert.Reference41Ideal.sig) → Buf (Elt Ideal) ℓ) : Prop :=
  True

def Pre_Reference41Ideal_finite41 [hPre_finite41 : Cert.Pre_finite41.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_finite41.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Kernel41Ideal_pre_finite41 [hKernel41Ideal : Cert.Kernel41Ideal.Facts] [hPre_finite41 : Cert.Pre_finite41.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal_finite41 m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Reference41Ideal_pre_finite41 [hReference41Ideal : Cert.Reference41Ideal.Facts] [hPre_finite41 : Cert.Pre_finite41.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal_finite41 m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def preserves_Reference_ReferenceIdeal : Prop :=
  IdealRules.named_const.Statement Cert.ReferenceIdeal.κ "inv_sqrt2" .f32 0x3F3504F3#32 (((Real.sqrt 2)⁻¹ : ℝ) : EReal)
  ∧ IdealRules.named_const.Statement Cert.ReferenceIdeal.κ "two_over_sqrt_pi" .f32 0x3F906EBB#32 ((2 * (Real.sqrt Real.pi)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v11) = v0 c
          ∧ r.2.mem ((c.tc : Thread Cert.Reference21Ideal.nD Cert.Reference21Ideal.τ).loc Cert.Reference21Ideal.main_v12) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v9_0)) (v1 : (c : Dev Cert.Kernel22Ideal.nD) → Buf (Elt Ideal) ((c.tc : Thread Cert.Kernel22Ideal.nD Cert.Kernel22Ideal.τ).loc Cert.Kernel22Ideal.main_v10)) (v2 : (c : Dev Cert.Kernel22Ideal.nD) → Buf (Elt Ideal) ((c.tc : Thread Cert.Kernel22Ideal.nD Cert.Kernel22Ideal.τ).loc Cert.Kernel22Ideal.main_v9_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v9_0) = v0 c
          ∧ r.2.mem ((c.tc : Thread Cert.Kernel22Ideal.nD Cert.Kernel22Ideal.τ).loc Cert.Kernel22Ideal.main_v10) = v1 c
          ∧ r.2.mem ((c.tc : Thread Cert.Kernel22Ideal.nD Cert.Kernel22Ideal.τ).loc Cert.Kernel22Ideal.main_v9_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v30) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v28) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v37) = v0 c
          ∧ r.2.mem ((c.tc : Thread Cert.Reference23Ideal.nD Cert.Reference23Ideal.τ).loc Cert.Reference23Ideal.main_v19) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v19) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v37) = v0 c
          ∧ r.2.mem ((c.tc : Thread Cert.Reference26Ideal.nD Cert.Reference26Ideal.τ).loc Cert.Reference26Ideal.main_v38) = v1 c
          ∧ r.2.mem ((c.tc : Thread Cert.Reference26Ideal.nD Cert.Reference26Ideal.τ).loc Cert.Reference26Ideal.main_v39) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v52) = v0 c
          ∧ r.2.mem ((c.tc : Thread Cert.Reference27Ideal.nD Cert.Reference27Ideal.τ).loc Cert.Reference27Ideal.main_v35) = v1 c
          ∧ r.2.mem ((c.tc : Thread Cert.Reference27Ideal.nD Cert.Reference27Ideal.τ).loc Cert.Reference27Ideal.main_v24) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v6_0)) (v1 : (c : Dev Cert.Kernel28Ideal.nD) → Buf (Elt Ideal) ((c.tc : Thread Cert.Kernel28Ideal.nD Cert.Kernel28Ideal.τ).loc Cert.Kernel28Ideal.main_v6_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v6_0) = v0 c
          ∧ r.2.mem ((c.tc : Thread Cert.Kernel28Ideal.nD Cert.Kernel28Ideal.τ).loc Cert.Kernel28Ideal.main_v6_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v35) = v0 c
          ∧ r.2.mem ((c.tc : Thread Cert.Reference28Ideal.nD Cert.Reference28Ideal.τ).loc Cert.Reference28Ideal.main_v38) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal_pre_finite41 [hKernel41Ideal : Cert.Kernel41Ideal.Facts] [hReference41Ideal : Cert.Reference41Ideal.Facts] [hPre_finite41 : Cert.Pre_finite41.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal_finite41 m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v73) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts) (hPre_finite28 : Cert.Pre_finite28.Facts) (hPre_finite41 : Cert.Pre_finite41.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Kernel41Ideal_pre_finite41 (hKernel41Ideal := hKernel41Ideal) (hPre_finite41 := hPre_finite41)
    ∧ quiescent_Reference41Ideal (hReference41Ideal := hReference41Ideal)
    ∧ quiescent_Reference41Ideal_pre_finite41 (hReference41Ideal := hReference41Ideal) (hPre_finite41 := hPre_finite41)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal_pre_finite41 (hKernel41Ideal := hKernel41Ideal) (hReference41Ideal := hReference41Ideal) (hPre_finite41 := hPre_finite41)
-- ==== Pre_finite.lean ====
abbrev S8192x5632 : Shape := ⟨2, ![8192, 5632]⟩
abbrev S8192x11264 : Shape := ⟨2, ![8192, 11264]⟩
abbrev S3x11264 : Shape := ⟨2, ![3, 11264]⟩
abbrev S1x11264 : Shape := ⟨2, ![1, 11264]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S8192x11264 : S_.BroadcastsInDim S8192x11264 (![] : Fin 0 → Fin S8192x11264.rank)
  bcast_S_S3x11264 : S_.BroadcastsInDim S3x11264 (![] : Fin 0 → Fin S3x11264.rank)
  bcast_S_S1x11264 : S_.BroadcastsInDim S1x11264 (![] : Fin 0 → Fin S1x11264.rank)

variable [Facts]

def fn {F : FTy → Type} [FloatOps F] (main_arg0 : FVec F S8192x5632 .bf16) (main_arg1 : FVec F S8192x11264 .bf16) (main_arg2 : FVec F S3x11264 .f32) (main_arg3 : FVec F S1x11264 .f32) : IVec S8192x5632 1 × IVec S8192x11264 1 × IVec S3x11264 1 × IVec S1x11264 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x11264 .f32 := (extf .f32 · bitsLt_bf16_f32) main_arg1
  let main_v5 : FVec F S8192x11264 .f32 := Host.absf main_v4
  let main_cst_0 : FVec F S_ .f32 := constant S_ .f32 0x7F800000#32
  let main_v6 : FVec F S8192x11264 .f32 := broadcastInDim S8192x11264 ![] bcast_S_S8192x11264 main_cst_0
  let main_v7 : IVec S8192x11264 1 := cmpf .olt main_v5 main_v6
  let main_v8 : FVec F S3x11264 .f32 := Host.absf main_arg2
  let main_cst_1 : FVec F S_ .f32 := constant S_ .f32 0x7F800000#32
  let main_v9 : FVec F S3x11264 .f32 := broadcastInDim S3x11264 ![] bcast_S_S3x11264 main_cst_1
  let main_v10 : IVec S3x11264 1 := cmpf .olt main_v8 main_v9
  let main_v11 : FVec F S1x11264 .f32 := Host.absf main_arg3
  let main_cst_2 : FVec F S_ .f32 := constant S_ .f32 0x7F800000#32
  let main_v12 : FVec F S1x11264 .f32 := broadcastInDim S1x11264 ![] bcast_S_S1x11264 main_cst_2
  let main_v13 : IVec S1x11264 1 := cmpf .olt main_v11 main_v12
  (main_v3, main_v7, main_v10, main_v13)
-- ==== Pre_finite28.lean ====
abbrev S8192x512 : Shape := ⟨2, ![8192, 512]⟩
abbrev S8192x4 : Shape := ⟨2, ![8192, 4]⟩
abbrev S_ : Shape := ⟨0, ![]⟩

class Facts : Prop where
  bcast_S_S8192x4 : S_.BroadcastsInDim S8192x4 (![] : Fin 0 → Fin S8192x4.rank)

variable [Facts]

def fn {F : FTy → Type} [FloatOps F] (main_arg0 : FVec F S8192x512 .f32) (main_arg1 : FVec F S8192x512 .f32) (main_arg2 : FVec F S8192x512 .f32) (main_arg3 : FVec F S8192x4 .f32) (main_arg4 : FVec F S8192x4 .f32) (main_arg5 : FVec F S8192x4 .f32) : IVec S8192x4 1 × IVec S8192x4 1 × IVec S8192x4 1 :=
  let main_v0 : FVec F S8192x4 .f32 := Host.absf main_arg3
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_v3 : FVec F S8192x4 .f32 := Host.absf main_arg4
  let main_cst_0 : FVec F S_ .f32 := constant S_ .f32 0x7F800000#32
  let main_v4 : FVec F S8192x4 .f32 := broadcastInDim S8192x4 ![] bcast_S_S8192x4 main_cst_0
  let main_v5 : IVec S8192x4 1 := cmpf .olt main_v3 main_v4
  let main_v6 : FVec F S8192x4 .f32 := Host.absf main_arg5
  let main_cst_1 : FVec F S_ .f32 := constant S_ .f32 0x7F800000#32
  let main_v7 : FVec F S8192x4 .f32 := broadcastInDim S8192x4 ![] bcast_S_S8192x4 main_cst_1
  let main_v8 : IVec S8192x4 1 := cmpf .olt main_v6 main_v7
  (main_v2, main_v5, main_v8)
-- ==== Pre_finite41.lean ====
abbrev S8192x1024 : Shape := ⟨2, ![8192, 1024]⟩
abbrev S4x256x256 : Shape := ⟨3, ![4, 256, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S4x256x256 .bf16) (main_arg2 : FVec F S1x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  main_v2
-- ==== Kernel.lean ====
abbrev S8192x5632 : Shape := ⟨2, ![8192, 5632]⟩
abbrev S8192x11264 : Shape := ⟨2, ![8192, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S2x11264 : Shape := ⟨2, ![2, 11264]⟩
abbrev S8194x11264 : Shape := ⟨2, ![8194, 11264]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S528x1408 : Shape := ⟨2, ![528, 1408]⟩
abbrev S512x256 : Shape := ⟨2, ![512, 256]⟩
abbrev S8x1408 : Shape := ⟨2, ![8, 1408]⟩
abbrev S256x1408 : Shape := ⟨2, ![256, 1408]⟩
abbrev S248x1408 : Shape := ⟨2, ![248, 1408]⟩
abbrev S1408 : Shape := ⟨1, ![1408]⟩

abbrev nBuf : Space → Nat
  | .hbm => 38
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S8192x11264, .bf16⟩
  | .hbm, ⟨2, _⟩ => ⟨S3x11264, .f32⟩
  | .hbm, ⟨3, _⟩ => ⟨S1x11264, .f32⟩
  | .hbm, ⟨4, _⟩ => ⟨S8192x11264, .f32⟩
  | .hbm, ⟨5, _⟩ => ⟨S11264, .f32⟩
  | .hbm, ⟨6, _⟩ => ⟨S_, .f32⟩
  | .hbm, ⟨7, _⟩ => ⟨S2x11264, .f32⟩
  | .hbm, ⟨8, _⟩ => ⟨S8194x11264, .f32⟩
  | .hbm, ⟨9, _⟩ => ⟨S1x11264, .f32⟩
  | .hbm, ⟨10, _⟩ => ⟨S11264, .f32⟩
  | .hbm, ⟨11, _⟩ => ⟨S8192x11264, .f32⟩
  | .hbm, ⟨12, _⟩ => ⟨S1x11264, .f32⟩
  | .hbm, ⟨13, _⟩ => ⟨S8192x11264, .f32⟩
  | .hbm, ⟨14, _⟩ => ⟨S8192x11264, .f32⟩
  | .hbm, ⟨15, _⟩ => ⟨S1x11264, .f32⟩
  | .hbm, ⟨16, _⟩ => ⟨S8192x11264, .f32⟩
  | .hbm, ⟨17, _⟩ => ⟨S8192x11264, .f32⟩
  | .hbm, ⟨18, _⟩ => ⟨S1x11264, .f32⟩
  | .hbm, ⟨19, _⟩ => ⟨S11264, .f32⟩
  | .hbm, ⟨20, _⟩ => ⟨S8192x11264, .f32⟩
  | .hbm, ⟨21, _⟩ => ⟨S1x11264, .f32⟩
  | .hbm, ⟨22, _⟩ => ⟨S8192x11264, .f32⟩
  | .hbm, ⟨23, _⟩ => ⟨S8192x11264, .f32⟩
  | .hbm, ⟨24, _⟩ => ⟨S8192x11264, .f32⟩
  | .hbm, ⟨25, _⟩ => ⟨S1x11264, .f32⟩
  | .hbm, ⟨26, _⟩ => ⟨S11264, .f32⟩
  | .hbm, ⟨27, _⟩ => ⟨S8192x11264, .f32⟩
  | .hbm, ⟨28, _⟩ => ⟨S1x11264, .f32⟩
  | .hbm, ⟨29, _⟩ => ⟨S8192x11264, .f32⟩
  | .hbm, ⟨30, _⟩ => ⟨S8192x11264, .f32⟩
  | .hbm, ⟨31, _⟩ => ⟨S8192x11264, .f32⟩
  | .hbm, ⟨32, _⟩ => ⟨S8192x11264, .bf16⟩
  | .hbm, ⟨33, _⟩ => ⟨S8192x5632, .bf16⟩
  | .hbm, ⟨34, _⟩ => ⟨S8192x5632, .bf16⟩
  | .hbm, ⟨35, _⟩ => ⟨S8192x11264, .bf16⟩
  | .hbm, ⟨36, _⟩ => ⟨S1x11264, .f32⟩
  | .hbm, ⟨37, _⟩ => ⟨S3x11264, .f32⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S512x1408, .bf16⟩
  | .local _ .vmem, ⟨9, _⟩ => ⟨S512x1408, .bf16⟩
  | .local _ .vmem, ⟨10, _⟩ => ⟨S16x1408, .bf16⟩
  | .local _ .vmem, ⟨11, _⟩ => ⟨S16x1408, .bf16⟩
  | .local _ .vmem, ⟨12, _⟩ => ⟨S512x1408, .bf16⟩
  | .local _ .vmem, ⟨13, _⟩ => ⟨S512x1408, .bf16⟩
  | .local _ .vmem, ⟨14, _⟩ => ⟨S3x1408, .f32⟩
  | .local _ .vmem, ⟨15, _⟩ => ⟨S3x1408, .f32⟩
  | .local _ .vmem, ⟨16, _⟩ => ⟨S512x1408, .bf16⟩
  | .local _ .vmem, ⟨17, _⟩ => ⟨S512x1408, .bf16⟩
  | .local _ .vmem, ⟨18, _⟩ => ⟨S1x1408, .f32⟩
  | .local _ .vmem, ⟨19, _⟩ => ⟨S1x1408, .f32⟩
  | .local _ .vmem, ⟨20, _⟩ => ⟨S3x1408, .f32⟩
  | .local _ .vmem, ⟨21, _⟩ => ⟨S3x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c4_i32 : BitVec 32 := 4#32
  let v27 : BitVec 1 := Scalar.cmpi .slt arg0 c4_i32
  let v28 : BitVec 32 := Scalar.extui v27
  let c0_i32_12 : BitVec 32 := 0#32
  let v29 : BitVec 1 := Scalar.cmpi .ne v28 c0_i32_12
  v29

def k0_cond3 (i : grid0.Coords) : BitVec 1 :=
  let arg0 : BitVec 32 := BitVec.ofNat 32 (i 0).val
  let c4_i32_13 : BitVec 32 := 4#32
  let v30 : BitVec 1 := Scalar.cmpi .sge arg0 c4_i32_13
  let v31 : BitVec 32 := Scalar.extui v30
  let c0_i32_14 : BitVec 32 := 0#32
  let v32 : BitVec 1 := Scalar.cmpi .ne v31 c0_i32_14
  v32

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.remsi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.remsi arg0 c4_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.remsi arg0 c4_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.remsi arg0 c4_i32
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.remsi arg0 c4_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.remsi arg0 c4_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
variable {F : FTy → Type} [FloatOps F] [Named F]
def κ : String → Option EReal := fun
  | "inv_sqrt2" => some (((Real.sqrt 2)⁻¹ : ℝ) : EReal)
  | "two_over_sqrt_pi" => some ((2 * (Real.sqrt Real.pi)⁻¹ : ℝ) : EReal)
  | _ => none
-- ==== Reference.lean ====
abbrev S8192x5632 : Shape := ⟨2, ![8192, 5632]⟩
abbrev S8192x11264 : Shape := ⟨2, ![8192, 11264]⟩
abbrev S3x11264 : Shape := ⟨2, ![3, 11264]⟩
abbrev S1x11264 : Shape := ⟨2, ![1, 11264]⟩
abbrev S2x11264 : Shape := ⟨2, ![2, 11264]⟩
abbrev S8194x11264 : Shape := ⟨2, ![8194, 11264]⟩
abbrev S11264 : Shape := ⟨1, ![11264]⟩
abbrev S8193x11264 : Shape := ⟨2, ![8193, 11264]⟩

abbrev nBuf : Space → Nat
  | .hbm => 7
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x11264, .bf16⟩
  | .hbm, ⟨2, _⟩ => ⟨S3x11264, .f32⟩
  | .hbm, ⟨3, _⟩ => ⟨S1x11264, .f32⟩
  | .hbm, ⟨4, _⟩ => ⟨S8192x11264, .bf16⟩
  | .hbm, ⟨5, _⟩ => ⟨S1x11264, .f32⟩
  | .hbm, ⟨6, _⟩ => ⟨S3x11264, .f32⟩
  | .local _ .vmem, ⟨0, _⟩ => ⟨S8192x5632, .bf16⟩
  | .local _ .vmem, ⟨1, _⟩ => ⟨S8192x11264, .bf16⟩
  | .local _ .vmem, ⟨2, _⟩ => ⟨S3x11264, .f32⟩
  | .local _ .vmem, ⟨3, _⟩ => ⟨S1x11264, .f32⟩
  | .local _ .vmem, ⟨4, _⟩ => ⟨S8192x11264, .bf16⟩
  | .local _ .vmem, ⟨5, _⟩ => ⟨S1x11264, .f32⟩
  | .local _ .vmem, ⟨6, _⟩ => ⟨S3x11264, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x11264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S8192x2048 : Shape := ⟨2, ![8192, 2048]⟩
abbrev S8192x11264 : Shape := ⟨2, ![8192, 11264]⟩
abbrev S2048x11264 : Shape := ⟨2, ![2048, 11264]⟩
abbrev S512x1024 : Shape := ⟨2, ![512, 1024]⟩
abbrev S512x2816 : Shape := ⟨2, ![512, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x11264 : Shape := ⟨2, ![2048, 11264]⟩
abbrev S8192x11264 : Shape := ⟨2, ![8192, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8192x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S8192x11264 : Shape := ⟨2, ![8192, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8192x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S5632x2048 : Shape := ⟨2, ![5632, 2048]⟩
abbrev S8192x2048 : Shape := ⟨2, ![8192, 2048]⟩
abbrev S8192x5632 : Shape := ⟨2, ![8192, 5632]⟩
abbrev S2048x2048 : Shape := ⟨2, ![2048, 2048]⟩
abbrev S1408x2048 : Shape := ⟨2, ![1408, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .bf16⟩
  | .hbm, ⟨2, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2048x1408, .bf16⟩
  | .local _ .vmem, ⟨5, _⟩ => ⟨S2048x1408, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S5632x2048 : Shape := ⟨2, ![5632, 2048]⟩
abbrev S512x1408 : Shape := ⟨2, ![512, 1408]⟩
abbrev S512x2048 : Shape := ⟨2, ![512, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S512x1408, .bf16⟩
  | .local _ .vmem, ⟨1, _⟩ => ⟨S512x1408, .bf16⟩
  | .local _ .vmem, ⟨2, _⟩ => ⟨S512x2048, .bf16⟩
  | .local _ .vmem, ⟨3, _⟩ => ⟨S512x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S8192x9728 : Shape := ⟨2, ![8192, 9728]⟩
abbrev S2048x9728 : Shape := ⟨2, ![2048, 9728]⟩
abbrev S512x1024 : Shape := ⟨2, ![512, 1024]⟩
abbrev S512x2432 : Shape := ⟨2, ![512, 2432]⟩
abbrev S1024x2432 : Shape := ⟨2, ![1024, 2432]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9728, .bf16⟩
  | .hbm, ⟨2, _⟩ => ⟨S2048x9728, .bf16⟩
  | .local _ .vmem, ⟨0, _⟩ => ⟨S512x1024, .bf16⟩
  | .local _ .vmem, ⟨1, _⟩ => ⟨S512x1024, .bf16⟩
  | .local _ .vmem, ⟨2, _⟩ => ⟨S512x2432, .bf16⟩
  | .local _ .vmem, ⟨3, _⟩ => ⟨S512x2432, .bf16⟩
  | .local _ .vmem, ⟨4, _⟩ => ⟨S1024x2432, .bf16⟩
  | .local _ .vmem, ⟨5, _⟩ => ⟨S1024x2432, .bf16⟩
  | .local _ .vmem, ⟨6, _⟩ => ⟨S1024x2432, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x9728 : Shape := ⟨2, ![8192, 9728]⟩
abbrev S_ : Shape := ⟨0, ![]⟩
abbrev S2048x9728 : Shape := ⟨2, ![2048, 9728]⟩
abbrev S9728x2048 : Shape := ⟨2, ![9728, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9728, .bf16⟩
  | .hbm, ⟨2, _⟩ => ⟨S_, .f32⟩
  | .hbm, ⟨3, _⟩ => ⟨S2048x9728, .f32⟩
  | .hbm, ⟨4, _⟩ => ⟨S8192x2048, .f32⟩
  | .hbm, ⟨5, _⟩ => ⟨S8192x9728, .f32⟩
  | .hbm, ⟨6, _⟩ => ⟨S8192x9728, .f32⟩
  | .hbm, ⟨7, _⟩ => ⟨S9728x2048, .f32⟩
  | .hbm, ⟨8, _⟩ => ⟨S2048x9728, .f32⟩
  | .hbm, ⟨9, _⟩ => ⟨S2048x9728, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x9728 : Shape := ⟨2, ![2048, 9728]⟩
abbrev S8192x9728 : Shape := ⟨2, ![8192, 9728]⟩
abbrev S8192x2048 : Shape := ⟨2, ![8192, 2048]⟩
abbrev S1024x2432 : Shape := ⟨2, ![1024, 2432]⟩
abbrev S2048x2432 : Shape := ⟨2, ![2048, 2432]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x9728, .bf16⟩
  | .hbm, ⟨1, _⟩ => ⟨S8192x9728, .bf16⟩
  | .hbm, ⟨2, _⟩ => ⟨S8192x2048, .bf16⟩
  | .local _ .vmem, ⟨0, _⟩ => ⟨S1024x2432, .bf16⟩
  | .local _ .vmem, ⟨1, _⟩ => ⟨S1024x2432, .bf16⟩
  | .local _ .vmem, ⟨2, _⟩ => ⟨S2048x2432, .bf16⟩
  | .local _ .vmem, ⟨3, _⟩ => ⟨S2048x2432, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x9728 : Shape := ⟨2, ![2048, 9728]⟩
abbrev S8192x9728 : Shape := ⟨2, ![8192, 9728]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x9728, .bf16⟩
  | .hbm, ⟨1, _⟩ => ⟨S8192x9728, .bf16⟩
  | .hbm, ⟨2, _⟩ => ⟨S_, .f32⟩
  | .hbm, ⟨3, _⟩ => ⟨S8192x2048, .f32⟩
  | .hbm, ⟨4, _⟩ => ⟨S2048x9728, .f32⟩
  | .hbm, ⟨5, _⟩ => ⟨S8192x9728, .f32⟩
  | .hbm, ⟨6, _⟩ => ⟨S8192x9728, .f32⟩
  | .hbm, ⟨7, _⟩ => ⟨S8192x2048, .f32⟩
  | .hbm, ⟨8, _⟩ => ⟨S8192x2048, .bf16⟩
  | _, _ => ⟨S2048x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x4096 : Shape := ⟨2, ![8192, 4096]⟩
abbrev S_ : Shape := ⟨0, ![]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S1024x2048 : Shape := ⟨2, ![1024, 2048]⟩
abbrev S8192x4096 : Shape := ⟨2, ![8192, 4096]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S8192x4096, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1024x2048 : Shape := ⟨2, ![1024, 2048]⟩
abbrev S8192x4096 : Shape := ⟨2, ![8192, 4096]⟩
abbrev S_ : Shape := ⟨0, ![]⟩
abbrev S8192x1024 : Shape := ⟨2, ![8192, 1024]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S8192x4096, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x1024, .f32⟩
  | .hbm, ⟨9, _⟩ => ⟨S8192x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x512 : Shape := ⟨2, ![8192, 512]⟩
abbrev S8192x4096 : Shape := ⟨2, ![8192, 4096]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S512x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.addi arg1 c1_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S8192x4096 : Shape := ⟨2, ![8192, 4096]⟩
abbrev S_ : Shape := ⟨0, ![]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S2048x512, .f32⟩
  | .hbm, ⟨9, _⟩ => ⟨S512x2048, .f32⟩
  | .hbm, ⟨10, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S512x2048 : Shape := ⟨2, ![512, 2048]⟩
abbrev S8192x4096 : Shape := ⟨2, ![8192, 4096]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S8192x4096, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S512x2048 : Shape := ⟨2, ![512, 2048]⟩
abbrev S8192x4096 : Shape := ⟨2, ![8192, 4096]⟩
abbrev S_ : Shape := ⟨0, ![]⟩
abbrev S8192x512 : Shape := ⟨2, ![8192, 512]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S8192x4096, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x512, .f32⟩
  | .hbm, ⟨9, _⟩ => ⟨S8192x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S2048x11264 : Shape := ⟨2, ![2048, 11264]⟩
abbrev S8192x11264 : Shape := ⟨2, ![8192, 11264]⟩
abbrev S2048x2048 : Shape := ⟨2, ![2048, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x2048 : Shape := ⟨2, ![8192, 2048]⟩
abbrev S2048x9728 : Shape := ⟨2, ![2048, 9728]⟩
abbrev S8192x1024 : Shape := ⟨2, ![8192, 1024]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x9728 : Shape := ⟨2, ![2048, 9728]⟩
abbrev S8192x9728 : Shape := ⟨2, ![8192, 9728]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S8192x2048, .f32⟩
  | .hbm, ⟨3, _⟩ => ⟨S2048x9728, .f32⟩
  | .hbm, ⟨4, _⟩ => ⟨S8192x9728, .f32⟩
  | .hbm, ⟨5, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x2048 : Shape := ⟨2, ![8192, 2048]⟩
abbrev S2048x9728 : Shape := ⟨2, ![2048, 9728]⟩
abbrev S8192x4608 : Shape := ⟨2, ![8192, 4608]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S8192x4608, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.addi arg1 c2_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x9728 : Shape := ⟨2, ![2048, 9728]⟩
abbrev S8192x9728 : Shape := ⟨2, ![8192, 9728]⟩
abbrev S8192x4608 : Shape := ⟨2, ![8192, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S8192x2048, .f32⟩
  | .hbm, ⟨3, _⟩ => ⟨S2048x9728, .f32⟩
  | .hbm, ⟨4, _⟩ => ⟨S8192x9728, .f32⟩
  | .hbm, ⟨5, _⟩ => ⟨S8192x4608, .f32⟩
  | .hbm, ⟨6, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S8192x2048 : Shape := ⟨2, ![8192, 2048]⟩
abbrev S2048x9728 : Shape := ⟨2, ![2048, 9728]⟩
abbrev S1x4096 : Shape := ⟨2, ![1, 4096]⟩
abbrev S8192x4096 : Shape := ⟨2, ![8192, 4096]⟩
abbrev S2048x2048 : Shape := ⟨2, ![2048, 2048]⟩
abbrev S2048x512 : Shape := ⟨2, ![2048, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S1x4096, .f32⟩
  | .hbm, ⟨3, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c11_i32 : BitVec 32 := 11#32
  let v1 : BitVec 32 := Scalar.addi arg1 c11_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S8192x2048 : Shape := ⟨2, ![8192, 2048]⟩
abbrev S2048x9728 : Shape := ⟨2, ![2048, 9728]⟩
abbrev S1x4096 : Shape := ⟨2, ![1, 4096]⟩
abbrev S8192x9728 : Shape := ⟨2, ![8192, 9728]⟩
abbrev S8192x4096 : Shape := ⟨2, ![8192, 4096]⟩
abbrev S4096 : Shape := ⟨1, ![4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .bf16⟩
  | .hbm, ⟨2, _⟩ => ⟨S1x4096, .f32⟩
  | .hbm, ⟨3, _⟩ => ⟨S8192x2048, .f32⟩
  | .hbm, ⟨4, _⟩ => ⟨S2048x9728, .f32⟩
  | .hbm, ⟨5, _⟩ => ⟨S8192x9728, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel21.lean ====
abbrev S8192x512 : Shape := ⟨2, ![8192, 512]⟩
abbrev S512x2048 : Shape := ⟨2, ![512, 2048]⟩
abbrev S8192x4096 : Shape := ⟨2, ![8192, 4096]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x4096, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference21Ideal.lean ====
abbrev S8192x512 : Shape := ⟨2, ![8192, 512]⟩
abbrev S512x2048 : Shape := ⟨2, ![512, 2048]⟩
abbrev S8192x4096 : Shape := ⟨2, ![8192, 4096]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x4096, .bf16⟩
  | .hbm, ⟨3, _⟩ => ⟨S8192x2048, .bf16⟩
  | .hbm, ⟨4, _⟩ => ⟨S8192x512, .f32⟩
  | .hbm, ⟨5, _⟩ => ⟨S512x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | .hbm, ⟨16, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel22.lean ====
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S8192x9728 : Shape := ⟨2, ![8192, 9728]⟩
abbrev S2048x512 : Shape := ⟨2, ![2048, 512]⟩
abbrev S1x512 : Shape := ⟨2, ![1, 512]⟩
abbrev S512 : Shape := ⟨1, ![512]⟩

abbrev nBuf : Space → Nat
  | .hbm => 20
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .bf16⟩
  | .hbm, ⟨16, _⟩ => ⟨S8192x4096, .bf16⟩
  | .hbm, ⟨17, _⟩ => ⟨S8192x9728, .bf16⟩
  | .hbm, ⟨18, _⟩ => ⟨S1x4096, .f32⟩
  | .hbm, ⟨19, _⟩ => ⟨S8192x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.remsi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference22Ideal.lean ====
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S4096 : Shape := ⟨1, ![4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x4096, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S8192x4096, .f32⟩
  | .hbm, ⟨41, _⟩ => ⟨S8192x4096, .bf16⟩
  | .hbm, ⟨42, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel23.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S8192x11264 : Shape := ⟨2, ![8192, 11264]⟩
abbrev S3x11264 : Shape := ⟨2, ![3, 11264]⟩
abbrev S1x11264 : Shape := ⟨2, ![1, 11264]⟩
abbrev S8192x5632 : Shape := ⟨2, ![8192, 5632]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S512x256 : Shape := ⟨2, ![512, 256]⟩
abbrev S8x1408 : Shape := ⟨2, ![8, 1408]⟩
abbrev S256x1408 : Shape := ⟨2, ![256, 1408]⟩
abbrev S248x1408 : Shape := ⟨2, ![248, 1408]⟩

abbrev nBuf : Space → Nat
  | .hbm => 6
  | .vmem => 22
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S1x11264, .f32⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg1 c4_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference26Ideal.lean ====
abbrev S8192x11264 : Shape := ⟨2, ![8192, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S2x11264 : Shape := ⟨2, ![2, 11264]⟩
abbrev S8194x11264 : Shape := ⟨2, ![8194, 11264]⟩
abbrev S8192x5632 : Shape := ⟨2, ![8192, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S1x11264, .f32⟩
  | .hbm, ⟨3, _⟩ => ⟨S8192x11264, .f32⟩
  | .hbm, ⟨4, _⟩ => ⟨S11264, .f32⟩
  | .hbm, ⟨5, _⟩ => ⟨S_, .f32⟩
  | .hbm, ⟨6, _⟩ => ⟨S2x11264, .f32⟩
  | .hbm, ⟨7, _⟩ => ⟨S8194x11264, .f32⟩
  | .hbm, ⟨8, _⟩ => ⟨S1x11264, .f32⟩
  | .hbm, ⟨9, _⟩ => ⟨S11264, .f32⟩
  | .hbm, ⟨10, _⟩ => ⟨S8192x11264, .f32⟩
  | .hbm, ⟨11, _⟩ => ⟨S1x11264, .f32⟩
  | .hbm, ⟨12, _⟩ => ⟨S8192x11264, .f32⟩
  | .hbm, ⟨13, _⟩ => ⟨S8192x11264, .f32⟩
  | .hbm, ⟨14, _⟩ => ⟨S1x11264, .f32⟩
  | .hbm, ⟨15, _⟩ => ⟨S8192x11264, .f32⟩
  | .hbm, ⟨16, _⟩ => ⟨S8192x11264, .f32⟩
  | .hbm, ⟨17, _⟩ => ⟨S1x11264, .f32⟩
  | .hbm, ⟨18, _⟩ => ⟨S11264, .f32⟩
  | .hbm, ⟨19, _⟩ => ⟨S8192x11264, .f32⟩
  | .hbm, ⟨20, _⟩ => ⟨S1x11264, .f32⟩
  | .hbm, ⟨21, _⟩ => ⟨S8192x11264, .f32⟩
  | .hbm, ⟨22, _⟩ => ⟨S8192x11264, .f32⟩
  | .hbm, ⟨23, _⟩ => ⟨S8192x11264, .f32⟩
  | .hbm, ⟨24, _⟩ => ⟨S1x11264, .f32⟩
  | .hbm, ⟨25, _⟩ => ⟨S11264, .f32⟩
  | .hbm, ⟨26, _⟩ => ⟨S8192x11264, .f32⟩
  | .hbm, ⟨27, _⟩ => ⟨S1x11264, .f32⟩
  | .hbm, ⟨28, _⟩ => ⟨S8192x11264, .f32⟩
  | .hbm, ⟨29, _⟩ => ⟨S8192x11264, .f32⟩
  | .hbm, ⟨30, _⟩ => ⟨S8192x11264, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .bf16⟩
  | .hbm, ⟨44, _⟩ => ⟨S8192x5632, .bf16⟩
  | .hbm, ⟨45, _⟩ => ⟨S8192x5632, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel27.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel28.lean ====
abbrev S8192x512 : Shape := ⟨2, ![8192, 512]⟩
abbrev S8192x4 : Shape := ⟨2, ![8192, 4]⟩
abbrev S8192x4x128 : Shape := ⟨3, ![8192, 4, 128]⟩
abbrev S1024x512 : Shape := ⟨2, ![1024, 512]⟩

abbrev nBuf : Space → Nat
  | .hbm => 14
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x4x128, .f32⟩
  | .hbm, ⟨7, _⟩ => ⟨S8192x512, .f32⟩
  | .hbm, ⟨8, _⟩ => ⟨S8192x4x128, .f32⟩
  | .hbm, ⟨9, _⟩ => ⟨S8192x512, .f32⟩
  | .hbm, ⟨10, _⟩ => ⟨S8192x4x128, .f32⟩
  | .hbm, ⟨11, _⟩ => ⟨S8192x512, .f32⟩
  | .hbm, ⟨12, _⟩ => ⟨S8192x512, .bf16⟩
  | .hbm, ⟨13, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8192x512 : Shape := ⟨2, ![8192, 512]⟩
abbrev S8192x4 : Shape := ⟨2, ![8192, 4]⟩
abbrev S1x8192x4 : Shape := ⟨3, ![1, 8192, 4]⟩
abbrev S3x8192x4 : Shape := ⟨3, ![3, 8192, 4]⟩
abbrev S8192x4x128 : Shape := ⟨3, ![8192, 4, 128]⟩
abbrev S1x8192x4x128 : Shape := ⟨4, ![1, 8192, 4, 128]⟩
abbrev S3x8192x4x128 : Shape := ⟨4, ![3, 8192, 4, 128]⟩
abbrev S_ : Shape := ⟨0, ![]⟩
abbrev S3x8192x4x1 : Shape := ⟨4, ![3, 8192, 4, 1]⟩
abbrev S8192x4x1 : Shape := ⟨3, ![8192, 4, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S1x8192x4, .f32⟩
  | .hbm, ⟨7, _⟩ => ⟨S1x8192x4, .f32⟩
  | .hbm, ⟨8, _⟩ => ⟨S1x8192x4, .f32⟩
  | .hbm, ⟨9, _⟩ => ⟨S3x8192x4, .f32⟩
  | .hbm, ⟨10, _⟩ => ⟨S8192x4x128, .f32⟩
  | .hbm, ⟨11, _⟩ => ⟨S8192x4x128, .f32⟩
  | .hbm, ⟨12, _⟩ => ⟨S8192x4x128, .f32⟩
  | .hbm, ⟨13, _⟩ => ⟨S1x8192x4x128, .f32⟩
  | .hbm, ⟨14, _⟩ => ⟨S1x8192x4x128, .f32⟩
  | .hbm, ⟨15, _⟩ => ⟨S1x8192x4x128, .f32⟩
  | .hbm, ⟨16, _⟩ => ⟨S3x8192x4x128, .f32⟩
  | .hbm, ⟨17, _⟩ => ⟨S_, .f32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S1x8192x4, .f32⟩
  | .hbm, ⟨23, _⟩ => ⟨S3x8192x4, .f32⟩
  | .hbm, ⟨24, _⟩ => ⟨S3x8192x4, .f32⟩
  | .hbm, ⟨25, _⟩ => ⟨S3x8192x4, .f32⟩
  | .hbm, ⟨26, _⟩ => ⟨S_, .f32⟩
  | .hbm, ⟨27, _⟩ => ⟨S8192x4, .f32⟩
  | .hbm, ⟨28, _⟩ => ⟨S1x8192x4, .f32⟩
  | .hbm, ⟨29, _⟩ => ⟨S3x8192x4, .f32⟩
  | .hbm, ⟨30, _⟩ => ⟨S3x8192x4, .f32⟩
  | .hbm, ⟨31, _⟩ => ⟨S3x8192x4x1, .f32⟩
  | .hbm, ⟨32, _⟩ => ⟨S3x8192x4x128, .f32⟩
  | .hbm, ⟨33, _⟩ => ⟨S3x8192x4x128, .f32⟩
  | .hbm, ⟨34, _⟩ => ⟨S_, .f32⟩
  | .hbm, ⟨35, _⟩ => ⟨S8192x4x128, .f32⟩
  | .hbm, ⟨36, _⟩ => ⟨S8192x512, .f32⟩
  | .hbm, ⟨37, _⟩ => ⟨S_, .f32⟩
  | .hbm, ⟨38, _⟩ => ⟨S8192x4, .f32⟩
  | .hbm, ⟨39, _⟩ => ⟨S1x8192x4, .f32⟩
  | .hbm, ⟨40, _⟩ => ⟨S3x8192x4, .f32⟩
  | .hbm, ⟨41, _⟩ => ⟨S3x8192x4, .f32⟩
  | .hbm, ⟨42, _⟩ => ⟨S3x8192x4, .f32⟩
  | .hbm, ⟨43, _⟩ => ⟨S_, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S8192x512, .bf16⟩
  | .hbm, ⟨48, _⟩ => ⟨S8192x4x1, .f32⟩
  | .hbm, ⟨49, _⟩ => ⟨S8192x4x128, .f32⟩
  | .hbm, ⟨50, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel29.lean ====
abbrev S2048x2432 : Shape := ⟨2, ![2048, 2432]⟩
abbrev S128x2432 : Shape := ⟨2, ![128, 2432]⟩

abbrev nBuf : Space → Nat
  | .hbm => 7
  | .vmem => 14
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S2048x2432, .f32⟩
  | .local _ .vmem, ⟨0, _⟩ => ⟨S128x2432, .f32⟩
  | .local _ .vmem, ⟨1, _⟩ => ⟨S128x2432, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S128x2432, .f32⟩
  | .local _ .vmem, ⟨7, _⟩ => ⟨S128x2432, .f32⟩
  | .local _ .vmem, ⟨8, _⟩ => ⟨S128x2432, .f32⟩
  | .local _ .vmem, ⟨9, _⟩ => ⟨S128x2432, .f32⟩
  | .local _ .vmem, ⟨10, _⟩ => ⟨S128x2432, .f32⟩
  | .local _ .vmem, ⟨11, _⟩ => ⟨S128x2432, .f32⟩
  | .local _ .vmem, ⟨12, _⟩ => ⟨S128x2432, .f32⟩
  | .local _ .vmem, ⟨13, _⟩ => ⟨S128x2432, .f32⟩
  | _, _ => ⟨S2048x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2048x2432 : Shape := ⟨2, ![2048, 2432]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S_, .f32⟩
  | .hbm, ⟨5, _⟩ => ⟨S2048x2432, .f32⟩
  | .hbm, ⟨6, _⟩ => ⟨S2048x2432, .f32⟩
  | .hbm, ⟨7, _⟩ => ⟨S_, .f32⟩
  | .hbm, ⟨8, _⟩ => ⟨S2048x2432, .f32⟩
  | .hbm, ⟨9, _⟩ => ⟨S2048x2432, .f32⟩
  | .hbm, ⟨10, _⟩ => ⟨S2048x2432, .f32⟩
  | .hbm, ⟨11, _⟩ => ⟨S_, .f32⟩
  | .hbm, ⟨12, _⟩ => ⟨S2048x2432, .f32⟩
  | .hbm, ⟨13, _⟩ => ⟨S2048x2432, .f32⟩
  | .hbm, ⟨14, _⟩ => ⟨S2048x2432, .f32⟩
  | .hbm, ⟨15, _⟩ => ⟨S_, .f32⟩
  | .hbm, ⟨16, _⟩ => ⟨S2048x2432, .f32⟩
  | .hbm, ⟨17, _⟩ => ⟨S2048x2432, .f32⟩
  | .hbm, ⟨18, _⟩ => ⟨S2048x2432, .f32⟩
  | .hbm, ⟨19, _⟩ => ⟨S_, .f32⟩
  | .hbm, ⟨20, _⟩ => ⟨S2048x2432, .f32⟩
  | .hbm, ⟨21, _⟩ => ⟨S2048x2432, .f32⟩
  | .hbm, ⟨22, _⟩ => ⟨S_, .f32⟩
  | .hbm, ⟨23, _⟩ => ⟨S2048x2432, .f32⟩
  | .hbm, ⟨24, _⟩ => ⟨S2048x2432, .f32⟩
  | .hbm, ⟨25, _⟩ => ⟨S2048x2432, .f32⟩
  | .hbm, ⟨26, _⟩ => ⟨S_, .f32⟩
  | .hbm, ⟨27, _⟩ => ⟨S2048x2432, .f32⟩
  | .hbm, ⟨28, _⟩ => ⟨S2048x2432, .f32⟩
  | .hbm, ⟨29, _⟩ => ⟨S2048x2432, .f32⟩
  | .hbm, ⟨30, _⟩ => ⟨S_, .f32⟩
  | .hbm, ⟨31, _⟩ => ⟨S2048x2432, .f32⟩
  | .hbm, ⟨32, _⟩ => ⟨S2048x2432, .f32⟩
  | .hbm, ⟨33, _⟩ => ⟨S2048x2432, .f32⟩
  | .hbm, ⟨34, _⟩ => ⟨S_, .f32⟩
  | .hbm, ⟨35, _⟩ => ⟨S2048x2432, .f32⟩
  | .hbm, ⟨36, _⟩ => ⟨S2048x2432, .f32⟩
  | _, _ => ⟨S2048x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S3x2816 : Shape := ⟨2, ![3, 2816]⟩

abbrev nBuf : Space → Nat
  | .hbm => 7
  | .vmem => 7
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S3x2816, .f32⟩
  | .hbm, ⟨5, _⟩ => ⟨S3x2816, .f32⟩
  | .hbm, ⟨6, _⟩ => ⟨S3x2816, .f32⟩
  | .local _ .vmem, ⟨0, _⟩ => ⟨S3x2816, .f32⟩
  | .local _ .vmem, ⟨1, _⟩ => ⟨S3x2816, .f32⟩
  | .local _ .vmem, ⟨2, _⟩ => ⟨S3x2816, .f32⟩
  | .local _ .vmem, ⟨3, _⟩ => ⟨S3x2816, .f32⟩
  | .local _ .vmem, ⟨4, _⟩ => ⟨S3x2816, .f32⟩
  | .local _ .vmem, ⟨5, _⟩ => ⟨S3x2816, .f32⟩
  | .local _ .vmem, ⟨6, _⟩ => ⟨S3x2816, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S3x2816 : Shape := ⟨2, ![3, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S_, .f32⟩
  | .hbm, ⟨5, _⟩ => ⟨S3x2816, .f32⟩
  | .hbm, ⟨6, _⟩ => ⟨S3x2816, .f32⟩
  | .hbm, ⟨7, _⟩ => ⟨S_, .f32⟩
  | .hbm, ⟨8, _⟩ => ⟨S3x2816, .f32⟩
  | .hbm, ⟨9, _⟩ => ⟨S3x2816, .f32⟩
  | .hbm, ⟨10, _⟩ => ⟨S3x2816, .f32⟩
  | .hbm, ⟨11, _⟩ => ⟨S_, .f32⟩
  | .hbm, ⟨12, _⟩ => ⟨S3x2816, .f32⟩
  | .hbm, ⟨13, _⟩ => ⟨S3x2816, .f32⟩
  | .hbm, ⟨14, _⟩ => ⟨S3x2816, .f32⟩
  | .hbm, ⟨15, _⟩ => ⟨S_, .f32⟩
  | .hbm, ⟨16, _⟩ => ⟨S3x2816, .f32⟩
  | .hbm, ⟨17, _⟩ => ⟨S3x2816, .f32⟩
  | .hbm, ⟨18, _⟩ => ⟨S3x2816, .f32⟩
  | .hbm, ⟨19, _⟩ => ⟨S_, .f32⟩
  | .hbm, ⟨20, _⟩ => ⟨S3x2816, .f32⟩
  | .hbm, ⟨21, _⟩ => ⟨S3x2816, .f32⟩
  | .hbm, ⟨22, _⟩ => ⟨S_, .f32⟩
  | .hbm, ⟨23, _⟩ => ⟨S3x2816, .f32⟩
  | .hbm, ⟨24, _⟩ => ⟨S3x2816, .f32⟩
  | .hbm, ⟨25, _⟩ => ⟨S3x2816, .f32⟩
  | .hbm, ⟨26, _⟩ => ⟨S_, .f32⟩
  | .hbm, ⟨27, _⟩ => ⟨S3x2816, .f32⟩
  | .hbm, ⟨28, _⟩ => ⟨S3x2816, .f32⟩
  | .hbm, ⟨29, _⟩ => ⟨S3x2816, .f32⟩
  | .hbm, ⟨30, _⟩ => ⟨S_, .f32⟩
  | .hbm, ⟨31, _⟩ => ⟨S3x2816, .f32⟩
  | .hbm, ⟨32, _⟩ => ⟨S3x2816, .f32⟩
  | .hbm, ⟨33, _⟩ => ⟨S3x2816, .f32⟩
  | .hbm, ⟨34, _⟩ => ⟨S_, .f32⟩
  | .hbm, ⟨35, _⟩ => ⟨S3x2816, .f32⟩
  | .hbm, ⟨36, _⟩ => ⟨S3x2816, .f32⟩
  | _, _ => ⟨S3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S1x11264 : Shape := ⟨2, ![1, 11264]⟩

abbrev nBuf : Space → Nat
  | .hbm => 7
  | .vmem => 7
  | .smem => 0
  | _ => 0

abbrev bufTy : (tb : Table) → Fin (tcTables nBuf tb) → BufTy
  | .hbm, ⟨0, _⟩ => ⟨S1x11264, .f32⟩
  | .hbm, ⟨1, _⟩ => ⟨S1x11264, .f32⟩
  | .hbm, ⟨2, _⟩ => ⟨S1x11264, .f32⟩
  | .hbm, ⟨3, _⟩ => ⟨S1x11264, .f32⟩
  | .hbm, ⟨4, _⟩ => ⟨S1x11264, .f32⟩
  | .hbm, ⟨5, _⟩ => ⟨S1x11264, .f32⟩
  | .hbm, ⟨6, _⟩ => ⟨S1x11264, .f32⟩
  | .local _ .vmem, ⟨0, _⟩ => ⟨S1x11264, .f32⟩
  | .local _ .vmem, ⟨1, _⟩ => ⟨S1x11264, .f32⟩
  | .local _ .vmem, ⟨2, _⟩ => ⟨S1x11264, .f32⟩
  | .local _ .vmem, ⟨3, _⟩ => ⟨S1x11264, .f32⟩
  | .local _ .vmem, ⟨4, _⟩ => ⟨S1x11264, .f32⟩
  | .local _ .vmem, ⟨5, _⟩ => ⟨S1x11264, .f32⟩
  | .local _ .vmem, ⟨6, _⟩ => ⟨S1x11264, .f32⟩
  | _, _ => ⟨S1x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S1x11264 : Shape := ⟨2, ![1, 11264]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x11264, .f32⟩
  | .hbm, ⟨1, _⟩ => ⟨S1x11264, .f32⟩
  | .hbm, ⟨2, _⟩ => ⟨S1x11264, .f32⟩
  | .hbm, ⟨3, _⟩ => ⟨S1x11264, .f32⟩
  | .hbm, ⟨4, _⟩ => ⟨S_, .f32⟩
  | .hbm, ⟨5, _⟩ => ⟨S1x11264, .f32⟩
  | .hbm, ⟨6, _⟩ => ⟨S1x11264, .f32⟩
  | .hbm, ⟨7, _⟩ => ⟨S_, .f32⟩
  | .hbm, ⟨8, _⟩ => ⟨S1x11264, .f32⟩
  | .hbm, ⟨9, _⟩ => ⟨S1x11264, .f32⟩
  | .hbm, ⟨10, _⟩ => ⟨S1x11264, .f32⟩
  | .hbm, ⟨11, _⟩ => ⟨S_, .f32⟩
  | .hbm, ⟨12, _⟩ => ⟨S1x11264, .f32⟩
  | .hbm, ⟨13, _⟩ => ⟨S1x11264, .f32⟩
  | .hbm, ⟨14, _⟩ => ⟨S1x11264, .f32⟩
  | .hbm, ⟨15, _⟩ => ⟨S_, .f32⟩
  | .hbm, ⟨16, _⟩ => ⟨S1x11264, .f32⟩
  | .hbm, ⟨17, _⟩ => ⟨S1x11264, .f32⟩
  | .hbm, ⟨18, _⟩ => ⟨S1x11264, .f32⟩
  | .hbm, ⟨19, _⟩ => ⟨S_, .f32⟩
  | .hbm, ⟨20, _⟩ => ⟨S1x11264, .f32⟩
  | .hbm, ⟨21, _⟩ => ⟨S1x11264, .f32⟩
  | .hbm, ⟨22, _⟩ => ⟨S_, .f32⟩
  | .hbm, ⟨23, _⟩ => ⟨S1x11264, .f32⟩
  | .hbm, ⟨24, _⟩ => ⟨S1x11264, .f32⟩
  | .hbm, ⟨25, _⟩ => ⟨S1x11264, .f32⟩
  | .hbm, ⟨26, _⟩ => ⟨S_, .f32⟩
  | .hbm, ⟨27, _⟩ => ⟨S1x11264, .f32⟩
  | .hbm, ⟨28, _⟩ => ⟨S1x11264, .f32⟩
  | .hbm, ⟨29, _⟩ => ⟨S1x11264, .f32⟩
  | .hbm, ⟨30, _⟩ => ⟨S_, .f32⟩
  | .hbm, ⟨31, _⟩ => ⟨S1x11264, .f32⟩
  | .hbm, ⟨32, _⟩ => ⟨S1x11264, .f32⟩
  | .hbm, ⟨33, _⟩ => ⟨S1x11264, .f32⟩
  | .hbm, ⟨34, _⟩ => ⟨S_, .f32⟩
  | .hbm, ⟨35, _⟩ => ⟨S1x11264, .f32⟩
  | .hbm, ⟨36, _⟩ => ⟨S1x11264, .f32⟩
  | _, _ => ⟨S1x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference40Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S8192x1024 : Shape := ⟨2, ![8192, 1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S512x1 : Shape := ⟨2, ![512, 1]⟩
abbrev S528x768 : Shape := ⟨2, ![528, 768]⟩
abbrev S528x512 : Shape := ⟨2, ![528, 512]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x256x256, .bf16⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference41Ideal.lean ====
abbrev S8192x1024 : Shape := ⟨2, ![8192, 1024]⟩
abbrev S4x256x256 : Shape := ⟨3, ![4, 256, 256]⟩
abbrev S1x1024 : Shape := ⟨2, ![1, 1024]⟩
abbrev S8192x4x256 : Shape := ⟨3, ![8192, 4, 256]⟩
abbrev S8192 : Shape := ⟨1, ![8192]⟩
abbrev S8192x1x256 : Shape := ⟨3, ![8192, 1, 256]⟩
abbrev S8192x256 : Shape := ⟨2, ![8192, 256]⟩
abbrev S_ : Shape := ⟨0, ![]⟩
abbrev S8194x256 : Shape := ⟨2, ![8194, 256]⟩
abbrev S8192x1 : Shape := ⟨2, ![8192, 1]⟩
abbrev S8196x256 : Shape := ⟨2, ![8196, 256]⟩
abbrev S8200x256 : Shape := ⟨2, ![8200, 256]⟩
abbrev S8208x256 : Shape := ⟨2, ![8208, 256]⟩
abbrev S4x256x8192 : Shape := ⟨3, ![4, 256, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .bf16⟩
  | .hbm, ⟨2, _⟩ => ⟨S1x1024, .f32⟩
  | .hbm, ⟨3, _⟩ => ⟨S8192x4x256, .f32⟩
  | .hbm, ⟨4, _⟩ => ⟨S8192, .i32⟩
  | .hbm, ⟨5, _⟩ => ⟨S8192x1x256, .f32⟩
  | .hbm, ⟨6, _⟩ => ⟨S8192x256, .f32⟩
  | .hbm, ⟨7, _⟩ => ⟨S_, .f32⟩
  | .hbm, ⟨8, _⟩ => ⟨S_, .f32⟩
  | .hbm, ⟨9, _⟩ => ⟨S8192x256, .f32⟩
  | .hbm, ⟨10, _⟩ => ⟨S_, .i32⟩
  | .hbm, ⟨11, _⟩ => ⟨S_, .f32⟩
  | .hbm, ⟨12, _⟩ => ⟨S8194x256, .f32⟩
  | .hbm, ⟨13, _⟩ => ⟨S8192x256, .f32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x1x256, .f32⟩
  | .hbm, ⟨27, _⟩ => ⟨S8192x256, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .i32⟩
  | .hbm, ⟨32, _⟩ => ⟨S_, .f32⟩
  | .hbm, ⟨33, _⟩ => ⟨S8196x256, .f32⟩
  | .hbm, ⟨34, _⟩ => ⟨S8192x256, .f32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .f32⟩
  | .hbm, ⟨42, _⟩ => ⟨S8192x1, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x1x256, .f32⟩
  | .hbm, ⟨48, _⟩ => ⟨S8192x256, .f32⟩
  | .hbm, ⟨49, _⟩ => ⟨S_, .f32⟩
  | .hbm, ⟨50, _⟩ => ⟨S_, .f32⟩
  | .hbm, ⟨51, _⟩ => ⟨S8192x256, .f32⟩
  | .hbm, ⟨52, _⟩ => ⟨S_, .i32⟩
  | .hbm, ⟨53, _⟩ => ⟨S_, .f32⟩
  | .hbm, ⟨54, _⟩ => ⟨S8200x256, .f32⟩
  | .hbm, ⟨55, _⟩ => ⟨S8192x256, .f32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .f32⟩
  | .hbm, ⟨63, _⟩ => ⟨S8192x1, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x1x256, .f32⟩
  | .hbm, ⟨69, _⟩ => ⟨S8192x256, .f32⟩
  | .hbm, ⟨70, _⟩ => ⟨S_, .f32⟩
  | .hbm, ⟨71, _⟩ => ⟨S_, .f32⟩
  | .hbm, ⟨72, _⟩ => ⟨S8192x256, .f32⟩
  | .hbm, ⟨73, _⟩ => ⟨S_, .i32⟩
  | .hbm, ⟨74, _⟩ => ⟨S_, .f32⟩
  | .hbm, ⟨75, _⟩ => ⟨S8208x256, .f32⟩
  | .hbm, ⟨76, _⟩ => ⟨S8192x256, .f32⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .f32⟩
  | .hbm, ⟨84, _⟩ => ⟨S8192x1, .f32⟩
  | .hbm, ⟨85, _⟩ => ⟨S8192x256, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S8192x1x256, .f32⟩
  | .hbm, ⟨90, _⟩ => ⟨S8192x1x256, .f32⟩
  | .hbm, ⟨91, _⟩ => ⟨S8192x1x256, .f32⟩
  | .hbm, ⟨92, _⟩ => ⟨S8192x1x256, .f32⟩
  | .hbm, ⟨93, _⟩ => ⟨S8192x4x256, .f32⟩
  | .hbm, ⟨94, _⟩ => ⟨S4x256x256, .f32⟩
  | .hbm, ⟨95, _⟩ => ⟨S4x256x8192, .f32⟩
  | .hbm, ⟨96, _⟩ => ⟨S8192x4x256, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call2_call0_cst : Ref sig .tc := ⟨.hbm, 28, rfl⟩
abbrev main_call2_call0_v0 : Ref sig .tc := ⟨.hbm, 29, rfl⟩
abbrev main_v19 : Ref sig .tc := ⟨.hbm, 30, rfl⟩
abbrev main_c_2 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call4_call0_cst : Ref sig .tc := ⟨.hbm, 49, rfl⟩
abbrev main_call4_call0_v0 : Ref sig .tc := ⟨.hbm, 50, rfl⟩
abbrev main_v34 : Ref sig .tc := ⟨.hbm, 51, rfl⟩
abbrev main_c_5 : Ref sig .tc := ⟨.hbm, 52, rfl⟩
abbrev main_call5_v0 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call6_call0_cst : Ref sig .tc := ⟨.hbm, 70, rfl⟩
abbrev main_call6_call0_v0 : Ref sig .tc := ⟨.hbm, 71, rfl⟩
abbrev main_v49 : Ref sig .tc := ⟨.hbm, 72, rfl⟩
abbrev main_c_8 : Ref sig .tc := ⟨.hbm, 73, rfl⟩
abbrev main_call7_v0 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Proof.Shift.lean ====
/- The rows of a tile moved up by one and by two: the kernel multiplies by a one-hot matrix and mends the last rows of each
   half by a rotation. Read at an index both are the tile at the later row. -/
module

public import proofs.«01_k».proof.Proof.Gen.KernelIdeal.Skeleton
public import Idealize.ShloMosaic.Lib.Pointwise
public import Idealize.ShloMosaic.Lib.WordCmp
public import Idealize.ShloMosaic.PureOps.Ideal.Laws

@[expose] public section

set_option maxRecDepth 16384

noncomputable section

namespace Cert.KernelIdeal.Glu

open Cert.KernelIdeal Cert.KernelIdeal.Gen Idealize.ShloMosaic Idealize.ShloMosaic.TcCoe

theorem word_one : (FloatOps.sitofp .f32 1#32 : Ideal .f32) = 1 := by
  show (((1#32 : BitVec 32).toInt : ℝ) : EReal) = 1
  norm_num

theorem word_zero : (FloatOps.sitofp .f32 0#32 : Ideal .f32) = 0 := by
  show (((0#32 : BitVec 32).toInt : ℝ) : EReal) = 0
  norm_num

/-- The one-hot matrix: row `r` of the upper half selects row `r + 1`, row `256 + r` of the lower half row `r + 2`. -/
theorem pay14_apply (r : Fin 512) (k : Fin 256) :
    k0_pay14 (F := Ideal) (ix2 r k) = if (k : ℕ) = (if (r : ℕ) < 256 then (r : ℕ) + 1 else (r : ℕ) - 254) then 1 else 0 := by
  have hr := r.isLt
  have hk := k.isLt
  pointwise [k0_pay14]
  rw [WordCmp.cmpi_slt_ofNat (by omega) (by omega)]
  have e1 : IntOp.addi (BitVec.ofNat 32 r.val) 1#32 = BitVec.ofNat 32 (r.val + 1) := by
    unfold IntOp.addi; apply BitVec.eq_of_toNat_eq; simp
  by_cases h : (r : ℕ) < 256
  · have e : Scalar.select (BitVec.ofBool (decide (r.val < 256))) (IntOp.addi (BitVec.ofNat 32 r.val) 1#32)
        (IntOp.addi (IntOp.subi (BitVec.ofNat 32 r.val) 256#32) 2#32) = BitVec.ofNat 32 (r.val + 1) := by
      rw [e1]; simp [h, Scalar.select]
    rw [e, WordCmp.cmpi_eq_ofNat (by omega) (by omega), if_pos h]
    by_cases h2 : (k : ℕ) = r + 1
    · simp [h2, word_one]
    · simp [h2, word_zero]
  · have e : Scalar.select (BitVec.ofBool (decide (r.val < 256))) (IntOp.addi (BitVec.ofNat 32 r.val) 1#32)
        (IntOp.addi (IntOp.subi (BitVec.ofNat 32 r.val) 256#32) 2#32) = BitVec.ofNat 32 (r.val - 254) := by
      simp only [h, Scalar.select, decide_false, BitVec.ofBool_false]
      unfold IntOp.addi IntOp.subi
      apply BitVec.eq_of_toNat_eq
      simp [BitVec.toNat_sub]
      omega
    rw [e, WordCmp.cmpi_eq_ofNat (by omega) (by omega), if_neg h]
    by_cases h2 : (k : ℕ) = r - 254
    · simp [h2, word_one]
    · simp [h2, word_zero]

/-- A sum against a one-hot row is the selected term. -/
theorem sum_hot (c : ℕ) (hc : c < 256) (f : Fin 256 → EReal) :
    ∑ x : Fin 256, (if (x : ℕ) = c then (1 : EReal) else 0) * f x = f ⟨c, hc⟩ := by
  rw [Finset.sum_eq_single ⟨c, hc⟩]
  · simp
  · intro b _ hb
    rw [if_neg (fun e => hb (Fin.ext e)), zero_mul]
  · intro h; exact absurd (Finset.mem_univ _) h

/-- The upper half of the one-hot matrix moves a half tile up by one. -/
theorem hot_one (f : Fin 256 → EReal) (r : Fin 512) (h : (r : ℕ) < 255) :
    ∑ x : Fin 256, k0_pay14 (F := Ideal) (ix2 r x) * f x = f ⟨r + 1, by omega⟩ := by
  have e : ∀ x : Fin 256, k0_pay14 (F := Ideal) (ix2 r x) = if (x : ℕ) = (r : ℕ) + 1 then (1 : EReal) else 0 := fun x => by
    rw [pay14_apply, if_pos (show (r : ℕ) < 256 by omega)]
  simp only [e]
  exact sum_hot _ _ f

/-- … and its lower half by two. -/
theorem hot_two (f : Fin 256 → EReal) (r : Fin 512) (h : 256 ≤ (r : ℕ)) (h' : (r : ℕ) < 510) :
    ∑ x : Fin 256, k0_pay14 (F := Ideal) (ix2 r x) * f x = f ⟨r - 254, by omega⟩ := by
  have e : ∀ x : Fin 256, k0_pay14 (F := Ideal) (ix2 r x) = if (x : ℕ) = (r : ℕ) - 254 then (1 : EReal) else 0 := fun x => by
    rw [pay14_apply, if_neg (show ¬ (r : ℕ) < 256 by omega)]
  simp only [e]
  exact sum_hot _ _ f

/-- A choice on a comparison of two small words. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

theorem sel_ge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (by simpa using ha) (by simpa using hb)]
  by_cases h : b ≤ a <;> simp [h, Scalar.select]

section Tile
variable (d : FVec Ideal S528x1408 .f32)

/-- The tile's first half against the one-hot matrix. -/
abbrev lo : FVec Ideal S512x1408 .f32 := matmul dot_S512x256_S256x1408_S512x1408_1_0_0_1_n_n none (k0_pay14 (F := Ideal)) (extractStridedSlice S256x1408 ![0, 0] (truncf .bf16 d bitsLt_bf16_f32) slices_S528x1408_o0_0_S256x1408) (constant S512x1408 .f32 0x00000000#32)

/-- Its product's upper half: the rows moved up by one. -/
abbrev loU : FVec Ideal S256x1408 .f32 := extractStridedSlice S256x1408 ![0, 0] (lo d) slices_S512x1408_o0_0_S256x1408

/-- … its lower half: the rows moved up by two. -/
abbrev loL : FVec Ideal S256x1408 .f32 := extractStridedSlice S256x1408 ![256, 0] (lo d) slices_S512x1408_o256_0_S256x1408

/-- The eight rows after the first half. -/
abbrev mid : FVec Ideal S8x1408 .f32 := extractStridedSlice S8x1408 ![0, 0] (extf .f32 (extractStridedSlice S16x1408 ![256, 0] (truncf .bf16 d bitsLt_bf16_f32) slices_S528x1408_o256_0_S16x1408) bitsLt_bf16_f32) slices_S16x1408_o0_0_S8x1408

/-- The tile moved up by one row. -/
theorem shift1 (r : Fin 512) (l : Fin 1408) :
    k0_pay25 (F := Ideal) k0_pay14 (truncf .bf16 d bitsLt_bf16_f32) (iota .tc S8x1408 32 [0] iota_S8x1408_d0_w32)
      (loU d) (mid d) (extractStridedSlice S248x1408 ![0, 0] (loU d) slices_S256x1408_o0_0_S248x1408)
      k0_pay21 7#32 (ix2 r l) = d (ix2 ⟨r + 1, by omega⟩ l) := by
  have hr := r.isLt
  generalize hM : k0_pay14 (F := Ideal) = M
  pointwise [k0_pay25, k0_pay22, k0_pay23, k0_pay21]
  subst hM
  by_cases h1 : (r : ℕ) < 248
  · rw [dif_pos h1]
    exact hot_one (fun x => d (ix2 ⟨x, by omega⟩ l)) r (by omega)
  rw [dif_neg h1]
  by_cases h2 : (r : ℕ) - 248 < 8
  · rw [dif_pos h2, sel_eq _ 7 (by omega) (by omega)]
    split
    · exact congrArg d (by idx_ext)
    · rw [hot_one (fun x => d (ix2 ⟨x, by omega⟩ l)) ⟨248 + (r - 248), by omega⟩ (show 248 + ((r : ℕ) - 248) < 255 by omega)]
      exact congrArg d (by idx_ext)
  rw [dif_neg h2]
  by_cases h3 : (r : ℕ) - 248 - 8 < 248
  · rw [dif_pos h3]
    rw [hot_one (fun x => d (ix2 ⟨256 + x, by omega⟩ l)) ⟨r - 248 - 8, by omega⟩ (show (r : ℕ) - 248 - 8 < 255 by omega)]
    exact congrArg d (by idx_ext <;> omega)
  · rw [dif_neg h3, sel_eq _ 7 (by omega) (by omega)]
    split
    · exact congrArg d (by idx_ext)
    · rw [hot_one (fun x => d (ix2 ⟨256 + x, by omega⟩ l)) ⟨248 + (r - 248 - 8 - 248), by omega⟩ (show 248 + ((r : ℕ) - 248 - 8 - 248) < 255 by omega)]
      exact congrArg d (by idx_ext)

/-- The tile moved up by two rows. -/
theorem shift2 (r : Fin 512) (l : Fin 1408) :
    k0_pay26 (F := Ideal) k0_pay14 (truncf .bf16 d bitsLt_bf16_f32) (iota .tc S8x1408 32 [0] iota_S8x1408_d0_w32)
      (loL d) (mid d) (ix2 r l) = d (ix2 ⟨r + 2, by omega⟩ l) := by
  have hr := r.isLt
  generalize hM : k0_pay14 (F := Ideal) = M
  pointwise [k0_pay26, k0_pay22, k0_pay23]
  subst hM
  by_cases h1 : (r : ℕ) < 248
  · rw [dif_pos h1]
    rw [hot_two (fun x => d (ix2 ⟨x, by omega⟩ l)) ⟨256 + r, by omega⟩ (show 256 ≤ 256 + (r : ℕ) by omega) (show 256 + (r : ℕ) < 510 by omega)]
    exact congrArg d (by idx_ext <;> omega)
  rw [dif_neg h1]
  by_cases h2 : (r : ℕ) - 248 < 8
  · rw [dif_pos h2, sel_ge _ 6 (by omega) (by omega)]
    split
    · exact congrArg d (by idx_ext)
    · rw [hot_two (fun x => d (ix2 ⟨x, by omega⟩ l)) ⟨256 + (248 + (r - 248)), by omega⟩ (show 256 ≤ 256 + (248 + ((r : ℕ) - 248)) by omega) (show 256 + (248 + ((r : ℕ) - 248)) < 510 by omega)]
      exact congrArg d (by idx_ext <;> omega)
  rw [dif_neg h2]
  by_cases h3 : (r : ℕ) - 248 - 8 < 248
  · rw [dif_pos h3]
    rw [hot_two (fun x => d (ix2 ⟨256 + x, by omega⟩ l)) ⟨256 + (r - 248 - 8), by omega⟩ (show 256 ≤ 256 + ((r : ℕ) - 248 - 8) by omega) (show 256 + ((r : ℕ) - 248 - 8) < 510 by omega)]
    exact congrArg d (by idx_ext <;> omega)
  · rw [dif_neg h3, sel_ge _ 6 (by omega) (by omega)]
    split
    · exact congrArg d (by idx_ext)
    · rw [hot_two (fun x => d (ix2 ⟨256 + x, by omega⟩ l)) ⟨256 + (248 + (r - 248 - 8 - 248)), by omega⟩ (show 256 ≤ 256 + (248 + ((r : ℕ) - 248 - 8 - 248)) by omega) (show 256 + (248 + ((r : ℕ) - 248 - 8 - 248)) < 510 by omega)]
      exact congrArg d (by idx_ext <;> omega)

end Tile

end Cert.KernelIdeal.Glu
-- ==== Proof.Names.lean ====
/- The two shifted tiles of each branch, in the names the body gives their pieces. -/
module

public import proofs.«01_k».proof.Proof.Shift

@[expose] public section

set_option maxRecDepth 16384

noncomputable section

namespace Cert.KernelIdeal.Glu

open Cert.KernelIdeal Cert.KernelIdeal.Gen Idealize.ShloMosaic Idealize.ShloMosaic.TcCoe

variable (v0 : BitVec 1) (a g c : FVec Ideal S528x1408 .f32) (b : Vec Ideal S512x1408 .bf16) (b' : Vec Ideal S16x1408 .bf16)

/-- The first branch's tile moved up by one row, in the body's own names. -/
theorem gelu1 (r : Fin 512) (l : Fin 1408) :
    k0_pay25 (F := Ideal) k0_pay14 (k0_pay15 v0 a g c b b') (iota .tc S8x1408 32 [0] iota_S8x1408_d0_w32)
      (k0_pay17 v0 a g c b b') (k0_pay19 v0 a g c b b') (k0_pay20 v0 a g c b b') k0_pay21 7#32 (ix2 r l)
      = k0_pay13 v0 a g c b b' (ix2 ⟨r + 1, by omega⟩ l) := by
  have h := shift1 (k0_pay13 v0 a g c b b') r l
  unfold k0_pay20 k0_pay19 k0_pay17 k0_pay16 k0_pay15
  exact h

/-- … and by two. -/
theorem gelu2 (r : Fin 512) (l : Fin 1408) :
    k0_pay26 (F := Ideal) k0_pay14 (k0_pay15 v0 a g c b b') (iota .tc S8x1408 32 [0] iota_S8x1408_d0_w32)
      (k0_pay18 v0 a g c b b') (k0_pay19 v0 a g c b b') (ix2 r l)
      = k0_pay13 v0 a g c b b' (ix2 ⟨r + 2, by omega⟩ l) := by
  have h := shift2 (k0_pay13 v0 a g c b b') r l
  unfold k0_pay19 k0_pay18 k0_pay16 k0_pay15
  exact h

/-- The two branches build one one-hot matrix. -/
theorem pay29_eq : k0_pay29 (F := Ideal) = k0_pay14 := by
  unfold k0_pay29 k0_pay14
  rfl

/-- The second branch's tile moved up by one row. -/
theorem lin1 (r : Fin 512) (l : Fin 1408) :
    k0_pay46 (F := Ideal) (k0_pay35 a g c) (k0_pay36 a g c) (k0_pay40 a g c) (k0_pay42 a g c) (k0_pay43 a g c) k0_pay44 7#32 (ix2 r l)
      = k0_pay28 a g c (ix2 ⟨r + 1, by omega⟩ l) := by
  have h := shift1 (k0_pay28 a g c) r l
  unfold k0_pay25 k0_pay22 k0_pay23 k0_pay21 at h
  unfold k0_pay46 k0_pay36 k0_pay35 k0_pay34 k0_pay32 k0_pay31 k0_pay40 k0_pay42 k0_pay43 k0_pay40 k0_pay39 k0_pay44 k0_pay30
  rw [pay29_eq]
  exact h

/-- … and by two. -/
theorem lin2 (r : Fin 512) (l : Fin 1408) :
    k0_pay47 (F := Ideal) (iota .tc S8x1408 32 [0] iota_S8x1408_d0_w32) (k0_pay37 a g c) (k0_pay38 a g c) (k0_pay41 a g c) (k0_pay42 a g c) (ix2 r l)
      = k0_pay28 a g c (ix2 ⟨r + 2, by omega⟩ l) := by
  have h := shift2 (k0_pay28 a g c) r l
  unfold k0_pay26 k0_pay22 k0_pay23 at h
  unfold k0_pay47 k0_pay38 k0_pay37 k0_pay34 k0_pay33 k0_pay31 k0_pay42 k0_pay41 k0_pay39 k0_pay30
  rw [pay29_eq]
  exact h

end Cert.KernelIdeal.Glu
-- ==== Proof.Tile.lean ====
/- What one grid point does with its tile of 528 rows, whatever the branch that filled the tile. -/
module

public import proofs.«01_k».proof.Proof.Names
import Idealize.ShloMosaic.Lib.Pointwise

@[expose] public section

set_option maxRecDepth 16384

noncomputable section

namespace Cert.KernelIdeal.Glu

open Cert.KernelIdeal Cert.KernelIdeal.Gen Idealize.ShloMosaic Idealize.ShloMosaic.TcCoe

/-- A tile's three rows under one output row, weighted. -/
abbrev mix (T : FVec Ideal S528x1408 .f32) (w : Vec Ideal S3x1408 .f32) (r : Fin 512) (l : Fin 1408) : EReal :=
  (w (ix2 2 l) * T (ix2 ⟨r, by omega⟩ l) + w (ix2 1 l) * T (ix2 ⟨r + 1, by omega⟩ l)) + w (ix2 0 l) * T (ix2 ⟨r + 2, by omega⟩ l)

/-- One column's sum over a tile's first 512 rows. -/
abbrev colSum (T : FVec Ideal S528x1408 .f32) (l : Fin 1408) : EReal :=
  ∑ r : Fin 512, T (ix2 ⟨r, by omega⟩ l)

/-- One column's sum of a tile, moved up by `e` rows, against the block of `up`. -/
abbrev colDot (T : FVec Ideal S528x1408 .f32) (u : Vec Ideal S512x1408 .bf16) (e : ℕ) (he : e < 3) (l : Fin 1408) : EReal :=
  ∑ r : Fin 512, T (ix2 ⟨r + e, by omega⟩ l) * u (ix2 r l)

variable (v0 : BitVec 1) (a g c : FVec Ideal S528x1408 .f32) (b : Vec Ideal S512x1408 .bf16) (b' : Vec Ideal S16x1408 .bf16)
variable (u : Vec Ideal S512x1408 .bf16) (w : Vec Ideal S3x1408 .f32) (acc : Vec Ideal S1x1408 .f32)

/-- The first branch's output block. -/
theorem geluOut (r : Fin 512) (l : Fin 1408) :
    k0_pay27 (F := Ideal) (k0_pay13 v0 a g c b b') k0_pay14 (k0_pay15 v0 a g c b b') (iota .tc S8x1408 32 [0] iota_S8x1408_d0_w32)
      (k0_pay17 v0 a g c b b') (k0_pay18 v0 a g c b b') (k0_pay19 v0 a g c b b') (k0_pay20 v0 a g c b b') k0_pay21 7#32 w (ix2 r l)
      = mix (k0_pay13 v0 a g c b b') w r l := by
  have h1 := gelu1 v0 a g c b b' r l
  have h2 := gelu2 v0 a g c b b' r l
  unfold k0_pay27
  generalize k0_pay25 (F := Ideal) _ _ _ _ _ _ _ _ = d1 at h1 ⊢
  generalize k0_pay26 (F := Ideal) _ _ _ _ _ = d2 at h2 ⊢
  generalize k0_pay13 (F := Ideal) v0 a g c b b' = T at h1 h2 ⊢
  unfold mix
  rw [← h1, ← h2]
  pointwise [k0_pay24]

/-- The second branch's output block. -/
theorem linOut (r : Fin 512) (l : Fin 1408) :
    k0_pay48 (F := Ideal) (k0_pay28 a g c) (iota .tc S8x1408 32 [0] iota_S8x1408_d0_w32) (k0_pay35 a g c) (k0_pay36 a g c) (k0_pay37 a g c)
      (k0_pay38 a g c) (k0_pay40 a g c) (k0_pay41 a g c) (k0_pay42 a g c) (k0_pay43 a g c) k0_pay44 7#32 w (ix2 r l)
      = mix (k0_pay28 a g c) w r l := by
  have h1 := lin1 a g c r l
  have h2 := lin2 a g c r l
  unfold k0_pay48
  generalize k0_pay46 (F := Ideal) _ _ _ _ _ _ _ = d1 at h1 ⊢
  generalize k0_pay47 (F := Ideal) _ _ _ _ _ = d2 at h2 ⊢
  generalize k0_pay28 (F := Ideal) a g c = T at h1 h2 ⊢
  unfold mix
  rw [← h1, ← h2]
  pointwise [k0_pay45]

/-- The column sums of the first branch. -/
theorem geluSum (T : FVec Ideal S528x1408 .f32) (l : Fin 1408) :
    k0_pay7 (F := Ideal) (k0_pay24 T) acc (ix2 0 l) = acc (ix2 0 l) + colSum T l := by
  pointwise [k0_pay7, k0_pay24]

/-- The column sums of the second. -/
theorem linSum (T : FVec Ideal S528x1408 .f32) (l : Fin 1408) :
    k0_pay50 (F := Ideal) T acc (ix2 0 l) = acc (ix2 0 l) + colSum T l := by
  pointwise [k0_pay50, k0_pay45]

/-- The first branch's row of the weights' gradient that meets the tile itself. -/
theorem geluDot0 (T : FVec Ideal S528x1408 .f32) (l : Fin 1408) :
    k0_pay10 (F := Ideal) (k0_pay24 T) u acc (ix2 0 l) = acc (ix2 0 l) + colDot T u 0 (by decide) l := by
  pointwise [k0_pay10, k0_pay24, k0_pay6]
  rfl

theorem linDot0 (T : FVec Ideal S528x1408 .f32) (l : Fin 1408) :
    k0_pay12 (F := Ideal) (k0_pay45 T) (k0_pay49 u) acc (ix2 0 l) = acc (ix2 0 l) + colDot T u 0 (by decide) l := by
  pointwise [k0_pay12, k0_pay45, k0_pay49]
  rfl

/-- The row that meets the tile moved up by one. -/
theorem geluDot1 (l : Fin 1408) :
    k0_pay9 (F := Ideal) (k0_pay25 k0_pay14 (k0_pay15 v0 a g c b b') (iota .tc S8x1408 32 [0] iota_S8x1408_d0_w32)
      (k0_pay17 v0 a g c b b') (k0_pay19 v0 a g c b b') (k0_pay20 v0 a g c b b') k0_pay21 7#32) u acc (ix2 0 l)
      = acc (ix2 0 l) + colDot (k0_pay13 v0 a g c b b') u 1 (by decide) l := by
  have h1 := fun r => gelu1 v0 a g c b b' r l
  generalize k0_pay25 (F := Ideal) _ _ _ _ _ _ _ _ = d1 at h1 ⊢
  unfold colDot
  simp only [← h1]
  pointwise [k0_pay9, k0_pay6]

theorem linDot1 (l : Fin 1408) :
    k0_pay11 (F := Ideal) (k0_pay46 (k0_pay35 a g c) (k0_pay36 a g c) (k0_pay40 a g c) (k0_pay42 a g c) (k0_pay43 a g c) k0_pay44 7#32)
      (k0_pay49 u) acc (ix2 0 l)
      = acc (ix2 0 l) + colDot (k0_pay28 a g c) u 1 (by decide) l := by
  have h1 := fun r => lin1 a g c r l
  generalize k0_pay46 (F := Ideal) _ _ _ _ _ _ _ = d1 at h1 ⊢
  unfold colDot
  simp only [← h1]
  pointwise [k0_pay11, k0_pay49]

/-- The row that meets the tile moved up by two. -/
theorem geluDot2 (l : Fin 1408) :
    k0_pay8 (F := Ideal) (k0_pay26 k0_pay14 (k0_pay15 v0 a g c b b') (iota .tc S8x1408 32 [0] iota_S8x1408_d0_w32)
      (k0_pay18 v0 a g c b b') (k0_pay19 v0 a g c b b')) u acc (ix2 0 l)
      = acc (ix2 0 l) + colDot (k0_pay13 v0 a g c b b') u 2 (by decide) l := by
  have h1 := fun r => gelu2 v0 a g c b b' r l
  generalize k0_pay26 (F := Ideal) _ _ _ _ _ = d1 at h1 ⊢
  unfold colDot
  simp only [← h1]
  pointwise [k0_pay8, k0_pay6]

theorem linDot2 (l : Fin 1408) :
    k0_pay51 (F := Ideal) (iota .tc S8x1408 32 [0] iota_S8x1408_d0_w32) (k0_pay37 a g c) (k0_pay38 a g c) (k0_pay41 a g c) (k0_pay42 a g c) u acc (ix2 0 l)
      = acc (ix2 0 l) + colDot (k0_pay28 a g c) u 2 (by decide) l := by
  have h1 := fun r => lin2 a g c r l
  unfold k0_pay51
  generalize k0_pay47 (F := Ideal) _ _ _ _ _ = d1 at h1 ⊢
  unfold colDot
  simp only [← h1]
  pointwise [k0_pay49]

/-- The resets. -/
theorem reset1 (l : Fin 1408) : k0_pay1 (F := Ideal) (ix2 0 l) = 0 := by pointwise [k0_pay1]

theorem reset2 (j : S3x1408.Idx) : k0_pay2 (F := Ideal) j = 0 := by pointwise [k0_pay2]

end Cert.KernelIdeal.Glu
-- ==== Proof.Point.lean ====
/- The three outputs' buffers after one grid point, over its tile. -/
module

public import proofs.«01_k».proof.Proof.Tile
public import proofs.«01_k».proof.Proof.Gen.KernelIdeal.Value
import Idealize.ShloMosaic.Lib.Pipeline.ValueKit
import Idealize.ShloMosaic.Lib.Pipeline.ReadBack

@[expose] public section

set_option maxRecDepth 16384

noncomputable section

namespace Cert.KernelIdeal.Glu

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The rows of `a` a point reads, its own 512 and the next 16. -/
abbrev rowsA : FVec Ideal S528x1408 .f32 := k0_pay3 (grid0.coords t) (iblk m c 2 t) (iblk m c 3 t)

/-- Those of the incoming gradient. -/
abbrev rowsG : FVec Ideal S528x1408 .f32 := k0_pay4 (grid0.coords t) (iblk m c 0 t) (iblk m c 1 t)

/-- The distribution function at the rows of `a`. -/
abbrev rowsC : FVec Ideal S528x1408 .f32 := k0_pay5 (grid0.coords t) (iblk m c 2 t) (iblk m c 3 t)

/-- The tile of the first branch. -/
def geluTile : FVec Ideal S528x1408 .f32 :=
  k0_pay13 (Scalar.cmpi .eq (BitVec.ofNat 32 (grid0.coords t 1).val) 15#32) (rowsA m c t) (rowsG m c t) (rowsC m c t) (iblk m c 4 t) (iblk m c 5 t)

/-- The tile of the second. -/
def linTile : FVec Ideal S528x1408 .f32 := k0_pay28 (rowsA m c t) (rowsG m c t) (rowsC m c t)

/-- The point's tile. -/
def tile : FVec Ideal S528x1408 .f32 := if t.val < 64 then geluTile m c t else linTile m c t

theorem row_idx (x : S1x1408.Idx) (l : Fin 1408) (h : l.val = (x 1).val) : x = ix2 0 l := by
  funext a
  fin_cases a
  · exact Subsingleton.elim (α := Fin 1) _ _
  · exact Fin.ext h.symm

theorem row_emb (o : ℕ) (ho : o < 3) (inb : ∀ a, (![o, 0] : Fin 2 → ℕ) a + (![1, 1408] : Fin 2 → ℕ) a ≤ S3x1408.size a) (l : Fin 1408) :
    (Rect.unit (s := S3x1408) ![o, 0] ![1, 1408] inb).emb (ix2 0 l) = ix2 ⟨o, ho⟩ l := by
  funext a
  fin_cases a
  · exact Fin.ext (show o + 1 * 0 = o by omega)
  · exact Fin.ext (show 0 + 1 * l.val = l.val by omega)

theorem row_not_mem (o : ℕ) (inb : ∀ a, (![o, 0] : Fin 2 → ℕ) a + (![1, 1408] : Fin 2 → ℕ) a ≤ S3x1408.size a) (j : Fin 3) (l : Fin 1408)
    (h : j.val ≠ o) : ix2 j l ∉ (Rect.unit (s := S3x1408) ![o, 0] ![1, 1408] inb).set := by
  intro hm
  have h0 := (Rect.mem_set_unit.mp hm) 0
  have h1 : o ≤ j.val := h0.1
  have h2 : j.val < o + 1 := h0.2
  omega

theorem skip1 (r : Rect S3x1408) (q : r.shape.Idx → Elt Ideal .f32) (L : List (View.Piece (Elt Ideal) S3x1408 .f32)) (y : S3x1408.Idx)
    (h : y ∉ r.set) : View.canon (⟨r, q⟩ :: L) y = View.canon L y :=
  View.canon_cons_of_not_mem ⟨r, q⟩ L h

theorem rows3 (q2 q1 q0 : Vec Ideal S1x1408 .f32) (z : Vec Ideal S3x1408 .f32) (G : ∀ j : ℕ, j < 3 → EReal) (l : Fin 1408)
    (h2 : q2 (ix2 0 l) = G 2 (by decide)) (h1 : q1 (ix2 0 l) = G 1 (by decide)) (h0 : q0 (ix2 0 l) = G 0 (by decide)) (j : ℕ) (hj : j < 3) :
    View.canon (Val := Elt Ideal) (e := .f32) [⟨Rect.unit (s := S3x1408) ![2, 0] ![1, 1408] inb_S3x1408_S1x1408_2_0, q2⟩,
      ⟨Rect.unit (s := S3x1408) ![1, 0] ![1, 1408] inb_S3x1408_S1x1408_1_0, q1⟩,
      ⟨Rect.unit (s := S3x1408) ![0, 0] ![1, 1408] inb_S3x1408_S1x1408_0_0, q0⟩,
      ⟨Rect.unit (s := S3x1408) ![0, 0] ![3, 1408] inb_S3x1408_S3x1408_0_0, z⟩] (ix2 ⟨j, hj⟩ l) = G j hj := by
  obtain rfl | rfl | rfl : j = 2 ∨ j = 1 ∨ j = 0 := by omega
  · rw [← row_emb 2 (by decide) inb_S3x1408_S1x1408_2_0 l]
    exact (View.canon_cons_emb _ _ _ _).trans h2
  · have n2 := row_not_mem 2 inb_S3x1408_S1x1408_2_0 ⟨1, hj⟩ l (show (1 : ℕ) ≠ 2 by decide)
    rw [skip1 _ _ _ _ n2]
    rw [← row_emb 1 (by decide) inb_S3x1408_S1x1408_1_0 l]
    exact (View.canon_cons_emb _ _ _ _).trans h1
  · have n2 := row_not_mem 2 inb_S3x1408_S1x1408_2_0 ⟨0, hj⟩ l (show (0 : ℕ) ≠ 2 by decide)
    have n1 := row_not_mem 1 inb_S3x1408_S1x1408_1_0 ⟨0, hj⟩ l (show (0 : ℕ) ≠ 1 by decide)
    rw [skip1 _ _ _ _ n2, skip1 _ _ _ _ n1]
    rw [← row_emb 0 (by decide) inb_S3x1408_S1x1408_0_0 l]
    exact (View.canon_cons_emb _ _ _ _).trans h0

theorem out8_A (h0 : t.val % 16 = 0) (h1 : t.val < 64) (h2 : ¬64 ≤ t.val) (r : Fin 512) (l : Fin 1408) :
    (outsAt0 m c t.val t.isLt).1 (ix2 r l) = mix (geluTile m c t) (iblk m c 7 t) r l := by
  rw [outsAt0_A m c t h0 h1 h2]
  frame_out
  exact geluOut _ _ _ _ _ _ _ r l

theorem out9_A (h0 : t.val % 16 = 0) (h1 : t.val < 64) (h2 : ¬64 ≤ t.val) (l : Fin 1408) :
    (outsAt0 m c t.val t.isLt).2.1 (ix2 0 l) = 0 + colSum (geluTile m c t) l := by
  rw [outsAt0_A m c t h0 h1 h2]
  frame_out
  refine (geluSum _ _ l).trans ?_
  rw [reset1]
  rfl

theorem out10_A (h0 : t.val % 16 = 0) (h1 : t.val < 64) (h2 : ¬64 ≤ t.val) (j : ℕ) (hj : j < 3) (l : Fin 1408) :
    (outsAt0 m c t.val t.isLt).2.2 (ix2 ⟨j, hj⟩ l) = 0 + colDot (geluTile m c t) (iblk m c 6 t) (2 - j) (by omega) l := by
  rw [outsAt0_A m c t h0 h1 h2]
  frame_out
  try simp (disch := decide) only [↓ View.readCov_skip, ↓ View.readCov_cons_toLoadRect, ↓ View.readCov_fill]
  refine rows3 _ _ _ _ (fun j hj => 0 + colDot (geluTile m c t) (iblk m c 6 t) (2 - j) (by omega) l) l ?_ ?_ ?_ j hj
  · exact (geluDot0 _ _ _ l).trans (congrArg₂ (· + ·) (reset2 _) rfl)
  · exact (geluDot1 _ _ _ _ _ _ _ _ l).trans (congrArg₂ (· + ·) (reset2 _) rfl)
  · exact (geluDot2 _ _ _ _ _ _ _ _ l).trans (congrArg₂ (· + ·) (reset2 _) rfl)

theorem out8_B (h0 : ¬t.val % 16 = 0) (h1 : t.val < 64) (h2 : ¬64 ≤ t.val) (r : Fin 512) (l : Fin 1408) :
    (outsAt0 m c t.val t.isLt).1 (ix2 r l) = mix (geluTile m c t) (iblk m c 7 t) r l := by
  rw [outsAt0_B m c t h0 h1 h2]
  frame_out
  exact geluOut _ _ _ _ _ _ _ r l

theorem out9_B (h0 : ¬t.val % 16 = 0) (h1 : t.val < 64) (h2 : ¬64 ≤ t.val) (l : Fin 1408) :
    (outsAt0 m c t.val t.isLt).2.1 (ix2 0 l) = (outsAt0 m c (t.val - 1) (Nat.lt_of_le_of_lt (Nat.sub_le _ _) t.isLt)).2.1 (ix2 0 l) + colSum (geluTile m c t) l := by
  rw [outsAt0_B m c t h0 h1 h2]
  frame_out
  refine (geluSum _ _ l).trans ?_
  rfl

theorem out10_B (h0 : ¬t.val % 16 = 0) (h1 : t.val < 64) (h2 : ¬64 ≤ t.val) (j : ℕ) (hj : j < 3) (l : Fin 1408) :
    (outsAt0 m c t.val t.isLt).2.2 (ix2 ⟨j, hj⟩ l) = (outsAt0 m c (t.val - 1) (Nat.lt_of_le_of_lt (Nat.sub_le _ _) t.isLt)).2.2 (ix2 ⟨j, hj⟩ l) + colDot (geluTile m c t) (iblk m c 6 t) (2 - j) (by omega) l := by
  rw [outsAt0_B m c t h0 h1 h2]
  frame_out
  try simp (disch := decide) only [↓ View.readCov_skip, ↓ View.readCov_cons_toLoadRect, ↓ View.readCov_fill]
  canon_tiles x h
  case piece0 =>
    obtain rfl : j = 2 := by
      have : j = 2 + (x 0).val := h0
      omega
    obtain rfl : x = ix2 0 l := row_idx x l h1
    refine (geluDot0 _ _ _ l).trans ?_
    exact congrArg₂ (· + ·) (congrArg _ (row_emb 2 (by decide) inb_S3x1408_S1x1408_2_0 l)) rfl
  case piece1 =>
    obtain rfl : j = 1 := by
      have : j = 1 + (x 0).val := h0
      omega
    obtain rfl : x = ix2 0 l := row_idx x l h1
    refine (geluDot1 _ _ _ _ _ _ _ _ l).trans ?_
    exact congrArg₂ (· + ·) (congrArg _ (row_emb 1 (by decide) inb_S3x1408_S1x1408_1_0 l)) rfl
  case piece2 =>
    obtain rfl : j = 0 := by
      have : j = (x 0).val := h0
      omega
    obtain rfl : x = ix2 0 l := row_idx x l h1
    refine (geluDot2 _ _ _ _ _ _ _ _ l).trans ?_
    exact congrArg₂ (· + ·) (congrArg _ (row_emb 0 (by decide) inb_S3x1408_S1x1408_0_0 l)) rfl

theorem out8_C (h0 : t.val % 16 = 0) (h1 : ¬t.val < 64) (h2 : 64 ≤ t.val) (r : Fin 512) (l : Fin 1408) :
    (outsAt0 m c t.val t.isLt).1 (ix2 r l) = mix (linTile m c t) (iblk m c 7 t) r l := by
  rw [outsAt0_C m c t h0 h1 h2]
  frame_out
  exact linOut _ _ _ _ r l

theorem out9_C (h0 : t.val % 16 = 0) (h1 : ¬t.val < 64) (h2 : 64 ≤ t.val) (l : Fin 1408) :
    (outsAt0 m c t.val t.isLt).2.1 (ix2 0 l) = 0 + colSum (linTile m c t) l := by
  rw [outsAt0_C m c t h0 h1 h2]
  frame_out
  refine (linSum _ _ l).trans ?_
  rw [reset1]
  rfl

theorem out10_C (h0 : t.val % 16 = 0) (h1 : ¬t.val < 64) (h2 : 64 ≤ t.val) (j : ℕ) (hj : j < 3) (l : Fin 1408) :
    (outsAt0 m c t.val t.isLt).2.2 (ix2 ⟨j, hj⟩ l) = 0 + colDot (linTile m c t) (iblk m c 6 t) (2 - j) (by omega) l := by
  rw [outsAt0_C m c t h0 h1 h2]
  frame_out
  try simp (disch := decide) only [↓ View.readCov_skip, ↓ View.readCov_cons_toLoadRect, ↓ View.readCov_fill]
  refine rows3 _ _ _ _ (fun j hj => 0 + colDot (linTile m c t) (iblk m c 6 t) (2 - j) (by omega) l) l ?_ ?_ ?_ j hj
  · exact (linDot0 _ _ _ l).trans (congrArg₂ (· + ·) (reset2 _) rfl)
  · exact (linDot1 _ _ _ _ _ l).trans (congrArg₂ (· + ·) (reset2 _) rfl)
  · exact (linDot2 _ _ _ _ _ l).trans (congrArg₂ (· + ·) (reset2 _) rfl)

theorem out8_D (h0 : ¬t.val % 16 = 0) (h1 : ¬t.val < 64) (h2 : 64 ≤ t.val) (r : Fin 512) (l : Fin 1408) :
    (outsAt0 m c t.val t.isLt).1 (ix2 r l) = mix (linTile m c t) (iblk m c 7 t) r l := by
  rw [outsAt0_D m c t h0 h1 h2]
  frame_out
  exact linOut _ _ _ _ r l

theorem out9_D (h0 : ¬t.val % 16 = 0) (h1 : ¬t.val < 64) (h2 : 64 ≤ t.val) (l : Fin 1408) :
    (outsAt0 m c t.val t.isLt).2.1 (ix2 0 l) = (outsAt0 m c (t.val - 1) (Nat.lt_of_le_of_lt (Nat.sub_le _ _) t.isLt)).2.1 (ix2 0 l) + colSum (linTile m c t) l := by
  rw [outsAt0_D m c t h0 h1 h2]
  frame_out
  refine (linSum _ _ l).trans ?_
  rfl

theorem out10_D (h0 : ¬t.val % 16 = 0) (h1 : ¬t.val < 64) (h2 : 64 ≤ t.val) (j : ℕ) (hj : j < 3) (l : Fin 1408) :
    (outsAt0 m c t.val t.isLt).2.2 (ix2 ⟨j, hj⟩ l) = (outsAt0 m c (t.val - 1) (Nat.lt_of_le_of_lt (Nat.sub_le _ _) t.isLt)).2.2 (ix2 ⟨j, hj⟩ l) + colDot (linTile m c t) (iblk m c 6 t) (2 - j) (by omega) l := by
  rw [outsAt0_D m c t h0 h1 h2]
  frame_out
  try simp (disch := decide) only [↓ View.readCov_skip, ↓ View.readCov_cons_toLoadRect, ↓ View.readCov_fill]
  canon_tiles x h
  case piece0 =>
    obtain rfl : j = 2 := by
      have : j = 2 + (x 0).val := h0
      omega
    obtain rfl : x = ix2 0 l := row_idx x l h1
    refine (linDot0 _ _ _ l).trans ?_
    exact congrArg₂ (· + ·) (congrArg _ (row_emb 2 (by decide) inb_S3x1408_S1x1408_2_0 l)) rfl
  case piece1 =>
    obtain rfl : j = 1 := by
      have : j = 1 + (x 0).val := h0
      omega
    obtain rfl : x = ix2 0 l := row_idx x l h1
    refine (linDot1 _ _ _ _ _ l).trans ?_
    exact congrArg₂ (· + ·) (congrArg _ (row_emb 1 (by decide) inb_S3x1408_S1x1408_1_0 l)) rfl
  case piece2 =>
    obtain rfl : j = 0 := by
      have : j = (x 0).val := h0
      omega
    obtain rfl : x = ix2 0 l := row_idx x l h1
    refine (linDot2 _ _ _ _ _ l).trans ?_
    exact congrArg₂ (· + ·) (congrArg _ (row_emb 0 (by decide) inb_S3x1408_S1x1408_0_0 l)) rfl

end Cert.KernelIdeal.Glu
-- ==== Proof.Blocks.lean ====
/- The blocks a grid point reads, in the arrays. -/
module

public import proofs.«01_k».proof.Proof.Point
import Idealize.ShloMosaic.Lib.Pipeline.ValueKit
import Idealize.ShloMosaic.Lib.WordCmp
import Idealize.ShloMosaic.Lib.Pointwise

@[expose] public section

set_option maxRecDepth 16384

noncomputable section

namespace Cert.KernelIdeal.Glu

open Cert.KernelIdeal Cert.KernelIdeal.Gen Idealize.ShloMosaic Idealize.ShloMosaic.TcCoe

variable (m : (ℓ : Loc nD τ sig) → Buf (Elt Ideal) ℓ) (c : Dev nD) (t : Fin cfg0.N)

/-- A half, as the kernel's word. -/
abbrev half : EReal := Ideal.ofBits .f32 0x3F000000#32

/-- Minus a half. -/
abbrev negHalf : EReal := Ideal.ofBits .f32 0xBF000000#32

/-- One over the root of two. -/
abbrev invRoot2 : EReal := (((Real.sqrt 2)⁻¹ : ℝ) : EReal)

/-- One over the root of two pi. -/
abbrev invRoot2Pi : EReal := (((Real.sqrt (2 * Real.pi))⁻¹ : ℝ) : EReal)

/-- The distribution function as the kernel computes it. -/
def cdf (a : EReal) : EReal := half * (1 + Ideal.erf (a * invRoot2))

/-- The first branch's gradient at one element. -/
def gluA (d a b : EReal) : EReal := (d * b) * (cdf a + a * (Ideal.exp ((negHalf * a) * a) * invRoot2Pi))

/-- The second branch's. -/
def gluB (d a : EReal) : EReal := d * (a * cdf a)

/-- The row that `R` rows after a point's first is, in the array. -/
abbrev rowOf (R : ℕ) : ℕ := t.val % 16 * 512 + R

/-- The column of a halved array that a point's column `l` is. -/
abbrev colOf (l : Fin 1408) : Fin 5632 := ⟨t.val / 16 % 4 * 1408 + l, by omega⟩

theorem index_in : ∀ t : Fin cfg0.N, win0_0.index t = ![t.val % 16, t.val / 16 % 4] ∧ win0_1.index t = ![min (t.val % 16 * 32 + 32) 511, t.val / 16 % 4]
    ∧ win0_2.index t = ![t.val % 16, t.val / 16 % 4] ∧ win0_3.index t = ![min (t.val % 16 * 32 + 32) 511, t.val / 16 % 4]
    ∧ win0_4.index t = ![t.val % 16, t.val / 16 % 4] ∧ win0_5.index t = ![min (t.val % 16 * 32 + 32) 511, t.val / 16 % 4] :=
  (by decide +kernel : ∀ t : Fin grid0.N, _)

theorem index_out : ∀ t : Fin cfg0.N, win0_6.index t = ![t.val % 16, t.val / 16] ∧ win0_7.index t = ![0, t.val / 16]
    ∧ win0_8.index t = ![t.val % 16, t.val / 16] ∧ win0_9.index t = ![0, t.val / 16] ∧ win0_10.index t = ![0, t.val / 16] :=
  (by decide +kernel : ∀ t : Fin grid0.N, _)

theorem coord1 : ∀ t : Fin cfg0.N, ((grid0.coords t) 1).val = t.val % 16 := (by decide +kernel : ∀ t : Fin grid0.N, _)

/-- The test of the last row of blocks. -/
theorem last_word : Scalar.cmpi .eq (BitVec.ofNat 32 ((grid0.coords t) 1).val) 15#32 = BitVec.ofBool (decide (t.val % 16 = 15)) := by
  rw [coord1]
  have h : t.val % 16 < 16 := Nat.mod_lt _ (by decide)
  generalize t.val % 16 = n at h ⊢
  interval_cases n <;> rfl

/-- An array's row, or zero past its end. -/
def past (X : S8192x5632.Idx → EReal) (s : ℕ) (k : Fin 5632) : EReal := if h : s < 8192 then X (ix2 ⟨s, h⟩ k) else 0

theorem past_of_lt (X : S8192x5632.Idx → EReal) {s : ℕ} (h : s < 8192) (k : Fin 5632) : past X s k = X (ix2 ⟨s, h⟩ k) := dif_pos h

theorem past_of_ge (X : S8192x5632.Idx → EReal) {s : ℕ} (h : ¬s < 8192) (k : Fin 5632) : past X s k = 0 := dif_neg h

theorem select_last (x y : EReal) :
    Scalar.select (Scalar.cmpi .eq (BitVec.ofNat 32 ((grid0.coords t) 1).val) 15#32) x y = if t.val % 16 = 15 then x else y := by
  rw [last_word]
  by_cases h : t.val % 16 = 15
  · rw [if_pos h, decide_eq_true h]; rfl
  · rw [if_neg h, decide_eq_false h]; rfl

/-- Rows of a block and of the 16 after it, the latter zero when the test `v0` holds. -/
abbrev rowSel (v0 : BitVec 1) (x : S512x1408.Idx → EReal) (y : S16x1408.Idx → EReal) (R : Fin 528) (l : Fin 1408) : EReal :=
  if h : R.val < 512 then x (ix2 ⟨R.val, h⟩ l) else Scalar.select v0 (0 : EReal) (y (ix2 ⟨R.val - 512, by omega⟩ l))

theorem rowSel_at (X : S8192x5632.Idx → EReal) (x : S512x1408.Idx → EReal) (y : S16x1408.Idx → EReal) (R : Fin 528) (l : Fin 1408)
    (hx : ∀ (r : Fin 512) (h : rowOf t r < 8192), x (ix2 r l) = X (ix2 ⟨rowOf t r, h⟩ (colOf t l)))
    (hy : t.val % 16 ≠ 15 → ∀ (r : Fin 16) (h : rowOf t (r + 512) < 8192), y (ix2 r l) = X (ix2 ⟨rowOf t (r + 512), h⟩ (colOf t l))) :
    rowSel (Scalar.cmpi .eq (BitVec.ofNat 32 ((grid0.coords t) 1).val) 15#32) x y R l = past X (rowOf t R) (colOf t l) := by
  have hR := R.isLt
  have ht := Nat.mod_lt t.val (show 0 < 16 by decide)
  unfold rowSel
  by_cases h1 : R.val < 512
  · have h3 : rowOf t R < 8192 := by show t.val % 16 * 512 + R.val < 8192; omega
    rw [dif_pos h1, past_of_lt _ h3, hx ⟨R.val, h1⟩ h3]
  · rw [dif_neg h1, select_last]
    by_cases h2 : t.val % 16 = 15
    · rw [if_pos h2, past_of_ge _ (by show ¬t.val % 16 * 512 + R.val < 8192; omega)]
    · have h3 : rowOf t R < 8192 := by show t.val % 16 * 512 + R.val < 8192; omega
      have h4 : rowOf t (R.val - 512 + 512) < 8192 := by show t.val % 16 * 512 + (R.val - 512 + 512) < 8192; omega
      rw [if_neg h2, past_of_lt _ h3, hy h2 ⟨R.val - 512, by omega⟩ h4]
      refine congrArg X (congrArg₂ _ (Fin.ext ?_) rfl)
      show t.val % 16 * 512 + (R.val - 512 + 512) = t.val % 16 * 512 + R.val
      omega

theorem pay3_at (i : grid0.Coords) (x : Vec Ideal S512x1408 .bf16) (y : Vec Ideal S16x1408 .bf16) (R : Fin 528) (l : Fin 1408) :
    k0_pay3 (F := Ideal) i x y (ix2 R l) = rowSel (Scalar.cmpi .eq (BitVec.ofNat 32 (i 1).val) 15#32) x y R l := by
  pointwise [k0_pay3]

theorem pay4_at (i : grid0.Coords) (x : Vec Ideal S512x1408 .bf16) (y : Vec Ideal S16x1408 .bf16) (R : Fin 528) (l : Fin 1408) :
    k0_pay4 (F := Ideal) i x y (ix2 R l) = rowSel (Scalar.cmpi .eq (BitVec.ofNat 32 (i 1).val) 15#32) x y R l := by
  pointwise [k0_pay4]

theorem pay5_at (i : grid0.Coords) (x : Vec Ideal S512x1408 .bf16) (y : Vec Ideal S16x1408 .bf16) (j : S528x1408.Idx) :
    k0_pay5 (F := Ideal) i x y j = cdf (k0_pay3 (F := Ideal) i x y j) := by
  unfold k0_pay5 cdf
  generalize k0_pay3 (F := Ideal) i x y = z
  pointwise
  rfl

theorem pay13_at (v0 : BitVec 1) (a g c : FVec Ideal S528x1408 .f32) (b : Vec Ideal S512x1408 .bf16) (b' : Vec Ideal S16x1408 .bf16)
    (R : Fin 528) (l : Fin 1408) (hc : c (ix2 R l) = cdf (a (ix2 R l))) :
    k0_pay13 (F := Ideal) v0 a g c b b' (ix2 R l) = gluA (g (ix2 R l)) (a (ix2 R l)) (rowSel v0 b b' R l) := by
  unfold gluA
  rw [← hc]
  pointwise [k0_pay13]
  rfl

theorem pay28_at (a g c : FVec Ideal S528x1408 .f32) (R : Fin 528) (l : Fin 1408) (hc : c (ix2 R l) = cdf (a (ix2 R l))) :
    k0_pay28 (F := Ideal) a g c (ix2 R l) = gluB (g (ix2 R l)) (a (ix2 R l)) := by
  unfold gluB
  rw [← hc]
  pointwise [k0_pay28]

theorem rowsA_at (R : Fin 528) (l : Fin 1408) :
    rowsA m c t (ix2 R l) = past (V m c main_v28) (rowOf t R) (colOf t l) := by
  refine (pay3_at _ _ _ R l).trans (rowSel_at t (V m c main_v28) (iblk m c 2 t) (iblk m c 3 t) R l ?_ ?_)
  · intro r h
    blk_ext [iblk, index_in t]
  · intro h2 r h
    have ht := Nat.mod_lt t.val (show 0 < 16 by decide)
    have h3 : min (t.val % 16 * 32 + 32) 511 = t.val % 16 * 32 + 32 := by omega
    blk_ext [iblk, index_in t]
    show min (t.val % 16 * 32 + 32) 511 * 16 + r.val = t.val % 16 * 512 + (r.val + 512)
    omega

theorem rowsG_at (R : Fin 528) (l : Fin 1408) :
    rowsG m c t (ix2 R l) = past (V m c main_arg0) (rowOf t R) (colOf t l) := by
  refine (pay4_at _ _ _ R l).trans (rowSel_at t (V m c main_arg0) (iblk m c 0 t) (iblk m c 1 t) R l ?_ ?_)
  · intro r h
    blk_ext [iblk, index_in t]
  · intro h2 r h
    have ht := Nat.mod_lt t.val (show 0 < 16 by decide)
    have h3 : min (t.val % 16 * 32 + 32) 511 = t.val % 16 * 32 + 32 := by omega
    blk_ext [iblk, index_in t]
    show min (t.val % 16 * 32 + 32) 511 * 16 + r.val = t.val % 16 * 512 + (r.val + 512)
    omega

theorem rowsB_at (R : Fin 528) (l : Fin 1408) :
    rowSel (Scalar.cmpi .eq (BitVec.ofNat 32 ((grid0.coords t) 1).val) 15#32) (iblk m c 4 t) (iblk m c 5 t) R l = past (V m c main_v29) (rowOf t R) (colOf t l) := by
  refine rowSel_at t (V m c main_v29) (iblk m c 4 t) (iblk m c 5 t) R l ?_ ?_
  · intro r h
    blk_ext [iblk, index_in t]
  · intro h2 r h
    have ht := Nat.mod_lt t.val (show 0 < 16 by decide)
    have h3 : min (t.val % 16 * 32 + 32) 511 = t.val % 16 * 32 + 32 := by omega
    blk_ext [iblk, index_in t]
    show min (t.val % 16 * 32 + 32) 511 * 16 + r.val = t.val % 16 * 512 + (r.val + 512)
    omega

theorem geluTile_at (R : Fin 528) (l : Fin 1408) :
    geluTile m c t (ix2 R l) = gluA (past (V m c main_arg0) (rowOf t R) (colOf t l)) (past (V m c main_v28) (rowOf t R) (colOf t l))
      (past (V m c main_v29) (rowOf t R) (colOf t l)) := by
  rw [← rowsA_at, ← rowsG_at, ← rowsB_at]
  exact pay13_at _ _ _ _ _ _ R l (pay5_at _ _ _ _)

theorem linTile_at (R : Fin 528) (l : Fin 1408) :
    linTile m c t (ix2 R l) = gluB (past (V m c main_arg0) (rowOf t R) (colOf t l)) (past (V m c main_v28) (rowOf t R) (colOf t l)) := by
  rw [← rowsA_at, ← rowsG_at]
  exact pay28_at _ _ _ R l (pay5_at _ _ _ _)

end Cert.KernelIdeal.Glu
-- ==== Proof.Slope.lean ====
/- The derivative of the gate's activation: the reference's form and the kernel's agree on real numbers. -/
module

public import proofs.«01_k».proof.Proof.Blocks

@[expose] public section

noncomputable section

namespace Cert.KernelIdeal.Glu

open Idealize.ShloMosaic

/-- Two over the root of pi. -/
abbrev slope : EReal := ((2 * (Real.sqrt Real.pi)⁻¹ : ℝ) : EReal)

theorem half_eq : half = ((1 / 2 : ℝ) : EReal) := by
  simp [half, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem one_eq : Ideal.ofBits .f32 0x3F800000#32 = 1 := by
  simp [Ideal.ofBits, Ideal.ieee, -EReal.coe_mul]; norm_num

/-- A value is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨r, rfl⟩ := hx
  obtain ⟨q, rfl⟩ := hy
  exact ⟨r + q, (EReal.coe_add r q).symm⟩

theorem IsReal.mul {x y : EReal} (hx : IsReal x) (hy : IsReal y) : IsReal (x * y) := by
  obtain ⟨r, rfl⟩ := hx
  obtain ⟨q, rfl⟩ := hy
  exact ⟨r * q, (EReal.coe_mul r q).symm⟩

/-- A value whose size is below infinity is a real number. -/
theorem IsReal.of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem gluA_zero : gluA 0 0 0 = 0 := by simp [gluA]

theorem gluB_zero : gluB 0 0 = 0 := by simp [gluB]

/-- On real numbers the two forms of the first half's gradient agree. -/
theorem gluA_real (d a b : ℝ) :
    ((d : EReal) * b) * (half * (1 + Ideal.erf (a * invRoot2)))
      + ((slope * (half * (a * ((d : EReal) * b)))) * Ideal.exp (0 - (a * invRoot2) * (a * invRoot2))) * invRoot2
      = gluA d a b := by
  unfold gluA cdf
  rw [half_eq, negHalf_eq]
  unfold invRoot2 invRoot2Pi slope
  rw [show (0 : EReal) = ((0 : ℝ) : EReal) from rfl, show (1 : EReal) = ((1 : ℝ) : EReal) from rfl]
  simp only [← EReal.coe_mul, Ideal.erf_coe, ← EReal.coe_sub, ← EReal.coe_add, Ideal.exp_coe]
  generalize (2 / Real.sqrt Real.pi * ∫ t in (0 : ℝ)..(a * (Real.sqrt 2)⁻¹), Real.exp (-(t ^ 2))) = e
  congr 1
  have h2 : Real.sqrt 2 * Real.sqrt 2 = 2 := Real.mul_self_sqrt (by norm_num)
  have h2' : (Real.sqrt 2)⁻¹ * (Real.sqrt 2)⁻¹ = 1 / 2 := by rw [← mul_inv, h2]; norm_num
  have hx : (0 : ℝ) - a * (Real.sqrt 2)⁻¹ * (a * (Real.sqrt 2)⁻¹) = -(1 / 2) * a * a := by
    linear_combination (-(a * a)) * h2'
  rw [hx, Real.sqrt_mul (by norm_num), mul_inv]
  ring

end Cert.KernelIdeal.Glu
-- ==== Proof.Final.lean ====
/- The three arrays the kernel leaves. -/
module

public import proofs.«01_k».proof.Proof.Blocks
import Idealize.ShloMosaic.Lib.Pipeline.ValueKit

@[expose] public section

set_option maxRecDepth 16384

noncomputable section

namespace Cert.KernelIdeal.Glu

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The gradient of the convolution's result, over saved arrays: row `s` (zero past the last), column `k` of both halves. -/
def dconv (df a b : S8192x5632.Idx → EReal) (s : ℕ) (k : Fin 11264) : EReal :=
  if k.val < 5632 then gluA (past df s ⟨k.val % 5632, Nat.mod_lt _ (by decide)⟩) (past a s ⟨k.val % 5632, Nat.mod_lt _ (by decide)⟩)
      (past b s ⟨k.val % 5632, Nat.mod_lt _ (by decide)⟩)
    else gluB (past df s ⟨k.val % 5632, Nat.mod_lt _ (by decide)⟩) (past a s ⟨k.val % 5632, Nat.mod_lt _ (by decide)⟩)

/-- The same over the region's own arrays. -/
abbrev dk (s : ℕ) (k : Fin 11264) : EReal := dconv (V m c main_arg0) (V m c main_v28) (V m c main_v29) s k

/-- The full column that a point's column `l` is. -/
abbrev fullCol (l : Fin 1408) : Fin 11264 := ⟨t.val / 16 * 1408 + l, by have := t.isLt; have h : cfg0.N = 128 := N_0; omega⟩

theorem tile_at (R : Fin 528) (l : Fin 1408) : tile m c t (ix2 R l) = dk m c (rowOf t R) (fullCol t l) := by
  have ht : t.val < 128 := lt_of_lt_of_eq t.isLt N_0
  have hl := l.isLt
  unfold tile dk dconv
  have hk : (⟨(fullCol t l).val % 5632, Nat.mod_lt _ (by decide)⟩ : Fin 5632) = colOf t l := by
    apply Fin.ext
    show (t.val / 16 * 1408 + l.val) % 5632 = t.val / 16 % 4 * 1408 + l.val
    omega
  by_cases h : t.val < 64
  · rw [if_pos h, if_pos (by show t.val / 16 * 1408 + l.val < 5632; omega), geluTile_at, hk]
  · rw [if_neg h, if_neg (by show ¬t.val / 16 * 1408 + l.val < 5632; omega), linTile_at, hk]

theorem out8_at (r : Fin 512) (l : Fin 1408) : (outsAt0 m c t.val t.isLt).1 (ix2 r l) = mix (tile m c t) (iblk m c 7 t) r l := by
  unfold tile
  by_cases h0 : t.val % 16 = 0 <;> by_cases h1 : t.val < 64
  · rw [if_pos h1]; exact out8_A m c t h0 h1 (by omega) r l
  · rw [if_neg h1]; exact out8_C m c t h0 h1 (by omega) r l
  · rw [if_pos h1]; exact out8_B m c t h0 h1 (by omega) r l
  · rw [if_neg h1]; exact out8_D m c t h0 h1 (by omega) r l

theorem out9_first (h0 : t.val % 16 = 0) (l : Fin 1408) : (outsAt0 m c t.val t.isLt).2.1 (ix2 0 l) = 0 + colSum (tile m c t) l := by
  unfold tile
  by_cases h1 : t.val < 64
  · rw [if_pos h1]; exact out9_A m c t h0 h1 (by omega) l
  · rw [if_neg h1]; exact out9_C m c t h0 h1 (by omega) l

theorem out9_next (h0 : ¬t.val % 16 = 0) (l : Fin 1408) : (outsAt0 m c t.val t.isLt).2.1 (ix2 0 l)
    = (outsAt0 m c (t.val - 1) (Nat.lt_of_le_of_lt (Nat.sub_le _ _) t.isLt)).2.1 (ix2 0 l) + colSum (tile m c t) l := by
  unfold tile
  by_cases h1 : t.val < 64
  · rw [if_pos h1]; exact out9_B m c t h0 h1 (by omega) l
  · rw [if_neg h1]; exact out9_D m c t h0 h1 (by omega) l

theorem out10_first (h0 : t.val % 16 = 0) (j : ℕ) (hj : j < 3) (l : Fin 1408) :
    (outsAt0 m c t.val t.isLt).2.2 (ix2 ⟨j, hj⟩ l) = 0 + colDot (tile m c t) (iblk m c 6 t) (2 - j) (by omega) l := by
  unfold tile
  by_cases h1 : t.val < 64
  · rw [if_pos h1]; exact out10_A m c t h0 h1 (by omega) j hj l
  · rw [if_neg h1]; exact out10_C m c t h0 h1 (by omega) j hj l

theorem out10_next (h0 : ¬t.val % 16 = 0) (j : ℕ) (hj : j < 3) (l : Fin 1408) : (outsAt0 m c t.val t.isLt).2.2 (ix2 ⟨j, hj⟩ l)
    = (outsAt0 m c (t.val - 1) (Nat.lt_of_le_of_lt (Nat.sub_le _ _) t.isLt)).2.2 (ix2 ⟨j, hj⟩ l)
      + colDot (tile m c t) (iblk m c 6 t) (2 - j) (by omega) l := by
  unfold tile
  by_cases h1 : t.val < 64
  · rw [if_pos h1]; exact out10_B m c t h0 h1 (by omega) j hj l
  · rw [if_neg h1]; exact out10_D m c t h0 h1 (by omega) j hj l

/-- The gradient of the convolution's input. -/
def dup (w : S3x11264.Idx → EReal) (d : ℕ → Fin 11264 → EReal) : S8192x11264.Idx → EReal := fun i =>
  (w (ix2 2 (i 1)) * d (i 0).val (i 1) + w (ix2 1 (i 1)) * d ((i 0).val + 1) (i 1)) + w (ix2 0 (i 1)) * d ((i 0).val + 2) (i 1)

/-- The gradient of its bias. -/
def dbias (d : ℕ → Fin 11264 → EReal) : S1x11264.Idx → EReal := fun i => ∑ s : Fin 8192, d s.val (i 1)

/-- The gradient of its taps. -/
def dtaps (u : S8192x11264.Idx → EReal) (d : ℕ → Fin 11264 → EReal) : S3x11264.Idx → EReal := fun i =>
  ∑ s : Fin 8192, d (s.val + (2 - (i 0).val)) (i 1) * u (ix2 s (i 1))

theorem row_lt (r : Fin 512) : rowOf t r < 8192 := by
  have := Nat.mod_lt t.val (show 0 < 16 by decide)
  show t.val % 16 * 512 + r.val < 8192
  omega

theorem emb8 (r : Fin 512) (l : Fin 1408) : (win0_8.blk t).view.emb (ix2 r l) = ix2 ⟨rowOf t r, row_lt t r⟩ (fullCol t l) := by
  blk_ext [index_out t]

theorem emb9 (l : Fin 1408) : (win0_9.blk t).view.emb (ix2 0 l) = ix2 0 (fullCol t l) := by
  blk_ext [index_out t]

theorem emb10 (j : Fin 3) (l : Fin 1408) : (win0_10.blk t).view.emb (ix2 j l) = ix2 j (fullCol t l) := by
  blk_ext [index_out t]

theorem taps_at (j : Fin 3) (l : Fin 1408) : iblk m c 7 t (ix2 j l) = V m c main_arg2 (ix2 j (fullCol t l)) := by
  blk_ext [iblk, index_out t]

theorem up_at (r : Fin 512) (l : Fin 1408) : iblk m c 6 t (ix2 r l) = V m c main_arg1 (ix2 ⟨rowOf t r, row_lt t r⟩ (fullCol t l)) := by
  blk_ext [iblk, index_out t]

theorem point8 (y : S512x1408.Idx) : (outsAt0 m c t.val t.isLt).1 y = dup (V m c main_arg2) (dk m c) ((win0_8.blk t).view.emb y) := by
  obtain ⟨r, l, rfl⟩ : ∃ (r : Fin 512) (l : Fin 1408), y = ix2 r l := ⟨y 0, y 1, by funext a; fin_cases a <;> rfl⟩
  rw [emb8, out8_at]
  unfold mix dup
  rw [tile_at, tile_at, tile_at]
  exact congrArg₂ (· + ·) (congrArg₂ (· + ·) (congrArg (· * _) (taps_at m c t 2 _)) (congrArg (· * _) (taps_at m c t 1 _)))
    (congrArg (· * _) (taps_at m c t 0 _))

/-- The column of all points of one run is one. -/
theorem run_col (s : Fin 16) (h : 16 * (t.val / 16) + s.val < cfg0.N) (l : Fin 1408) :
    fullCol ⟨16 * (t.val / 16) + s.val, h⟩ l = fullCol t l := by
  apply Fin.ext
  show (16 * (t.val / 16) + s.val) / 16 * 1408 + l.val = t.val / 16 * 1408 + l.val
  have := s.isLt
  omega

theorem run_row (s : Fin 16) (h : 16 * (t.val / 16) + s.val < cfg0.N) (R : ℕ) :
    rowOf ⟨16 * (t.val / 16) + s.val, h⟩ R = s.val * 512 + R := by
  show (16 * (t.val / 16) + s.val) % 16 * 512 + R = s.val * 512 + R
  have := s.isLt
  omega

theorem point9 (hf : t.val % 16 = 15) (y : S1x1408.Idx) :
    (outsAt0 m c t.val t.isLt).2.1 y = dbias (dk m c) ((win0_9.blk t).view.emb y) := by
  obtain ⟨l, rfl⟩ : ∃ l : Fin 1408, y = ix2 0 l := ⟨y 1, row_idx y (y 1) rfl⟩
  rw [emb9]
  refine (Pipeline.eq_sum_fin_of_reset_step_apply_of_flush (fun n h (l : Fin 1408) => ((outsAt0 m c n h).2.1 (ix2 0 l) : EReal)) 16 (fun _ => 0)
    (fun p l => colSum (tile m c p) l) (fun p h l => out9_first m c p h l) (fun p h l => out9_next m c p h l) t hf l).trans ?_
  rw [zero_add]
  unfold dbias
  refine Fin.sum_mul_add_congr fun s k hl => ?_
  rw [tile_at, run_col, run_row]
  rfl

theorem point10 (hf : t.val % 16 = 15) (y : S3x1408.Idx) :
    (outsAt0 m c t.val t.isLt).2.2 y = dtaps (V m c main_arg1) (dk m c) ((win0_10.blk t).view.emb y) := by
  obtain ⟨j, hj, l, rfl⟩ : ∃ (j : ℕ) (hj : j < 3) (l : Fin 1408), y = ix2 ⟨j, hj⟩ l :=
    ⟨(y 0).val, (y 0).isLt, y 1, by funext a; fin_cases a <;> rfl⟩
  rw [emb10]
  refine (Pipeline.eq_sum_fin_of_reset_step_apply_of_flush (fun n h (l : Fin 1408) => ((outsAt0 m c n h).2.2 (ix2 ⟨j, hj⟩ l) : EReal)) 16 (fun _ => 0)
    (fun p l => colDot (tile m c p) (iblk m c 6 p) (2 - j) (by omega) l) (fun p h l => out10_first m c p h j hj l)
    (fun p h l => out10_next m c p h j hj l) t hf l).trans ?_
  rw [zero_add]
  unfold dtaps
  refine Fin.sum_mul_add_congr fun s k hl => ?_
  rw [tile_at, up_at, run_col]
  have h1 := run_row t s (Pipeline.run_point_lt_of_flush t hf s)
  refine congrArg₂ (· * ·) (congrArg (fun x => dk m c x _) ?_) (congrArg (V m c main_arg1) (congrArg₂ ix2 (Fin.ext (h1 k)) rfl))
  exact (h1 _).trans (Nat.add_assoc _ _ _).symm

theorem final8 : (dats m 0 c).arrAt 8 (cfgs 0).N = dup (V m c main_arg2) (dk m c) := by
  refine (dats m 0 c).arrAt_eq_of_covers 8 _ (by decide +kernel) fun t hf y => ?_
  blk_simp
  rw [after0_8]
  exact point8 m c t y

theorem final9 : (dats m 0 c).arrAt 9 (cfgs 0).N = dbias (dk m c) := by
  refine (dats m 0 c).arrAt_eq_of_covers 9 _ (by decide +kernel) fun t hf y => ?_
  blk_simp
  rw [after0_9]
  exact point9 m c t ((flush0_9 t).mp hf) y

theorem final10 : (dats m 0 c).arrAt 10 (cfgs 0).N = dtaps (V m c main_arg1) (dk m c) := by
  refine (dats m 0 c).arrAt_eq_of_covers 10 _ (by decide +kernel) fun t hf y => ?_
  blk_simp
  rw [after0_10]
  exact point10 m c t ((flush0_10 t).mp hf) y

end Cert.KernelIdeal.Glu
-- ==== Proof.Refer.lean ====
/- What the reference leaves, in the kernel's own terms. -/
module

public import proofs.«01_k».proof.Proof.Slope
public import proofs.«01_k».proof.Proof.Final
public import proofs.«01_k».proof.Proof.Gen.ReferenceIdeal.Value
public import Idealize.ShloMosaic.Lib.Pointwise
import Idealize.ShloMosaic.Lib.Claim

@[expose] public section

set_option maxRecDepth 16384

noncomputable section

namespace Cert.ReferenceIdeal.Glu

open Cert.ReferenceIdeal Cert.ReferenceIdeal.Gen Idealize.ShloMosaic Idealize.ShloMosaic.TcCoe

open Cert.KernelIdeal.Glu

variable (a0 : Vec Ideal S8192x5632 .bf16) (a1 : Vec Ideal S8192x11264 .bf16) (a2 : Vec Ideal S3x11264 .f32) (a3 : Vec Ideal S1x11264 .f32)

/-- The convolution's result at row `s`, column `k`. -/
def conv (s : Fin 8192) (k : Fin 11264) : EReal :=
  ((a3 (ix2 0 k) + a2 (ix2 0 k) * if h : s.val < 2 then 0 else a1 (ix2 ⟨s.val - 2, by omega⟩ k))
    + a2 (ix2 1 k) * if h : 1 + s.val < 2 then 0 else a1 (ix2 ⟨1 + s.val - 2, by omega⟩ k)) + a2 (ix2 2 k) * a1 (ix2 s k)

theorem first_at (s : Fin 8192) (l : Fin 5632) : k0_pay12 (F := Ideal) a1 a2 a3 (ix2 s l) = conv a1 a2 a3 s ⟨l.val, by omega⟩ := by
  pointwise [k0_pay12, k0_pay11, k0_pay10, k0_pay9, k0_pay8, k0_pay7, k0_pay6, k0_pay5, k0_pay4]
  rfl

theorem second_at (s : Fin 8192) (l : Fin 5632) : k0_pay13 (F := Ideal) a1 a2 a3 (ix2 s l) = conv a1 a2 a3 s ⟨5632 + l.val, by omega⟩ := by
  pointwise [k0_pay13, k0_pay11, k0_pay10, k0_pay9, k0_pay8, k0_pay7, k0_pay6, k0_pay5, k0_pay4]
  rfl

section
variable (m : (ℓ : Loc KernelIdeal.nD KernelIdeal.τ KernelIdeal.sig) → Buf (Elt Ideal) ℓ) (c : Dev KernelIdeal.nD)

theorem saved_first_at (s : Fin 8192) (l : Fin 5632) : KernelIdeal.Gen.V m c KernelIdeal.main_v28 (ix2 s l)
    = conv (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) s ⟨l.val, by omega⟩ := by
  unfold KernelIdeal.Gen.V
  after_results
  pointwise []
  rfl

theorem saved_second_at (s : Fin 8192) (l : Fin 5632) : KernelIdeal.Gen.V m c KernelIdeal.main_v29 (ix2 s l)
    = conv (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) s ⟨5632 + l.val, by omega⟩ := by
  unfold KernelIdeal.Gen.V
  after_results
  pointwise []
  rfl

/-- The kernel's host computes the reference's first half. -/
theorem saved_first : KernelIdeal.Gen.V m c KernelIdeal.main_v28
    = k0_pay12 (F := Ideal) (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) := by
  funext y
  obtain ⟨s, l, rfl⟩ : ∃ (s : Fin 8192) (l : Fin 5632), y = ix2 s l := ⟨y 0, y 1, eq_ix2 y⟩
  exact (saved_first_at m c s l).trans (first_at _ _ _ s l).symm

/-- … and its second. -/
theorem saved_second : KernelIdeal.Gen.V m c KernelIdeal.main_v29
    = k0_pay13 (F := Ideal) (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) := by
  funext y
  obtain ⟨s, l, rfl⟩ : ∃ (s : Fin 8192) (l : Fin 5632), y = ix2 s l := ⟨y 0, y 1, eq_ix2 y⟩
  exact (saved_second_at m c s l).trans (second_at _ _ _ s l).symm
end

theorem conv_real (h1 : ∀ i, IsReal (a1 i)) (h2 : ∀ i, IsReal (a2 i)) (h3 : ∀ i, IsReal (a3 i)) (s : Fin 8192) (k : Fin 11264) : IsReal (conv a1 a2 a3 s k) := by
  unfold conv
  refine .add (.add (.add (h3 _) (.mul (h2 _) ?_)) (.mul (h2 _) ?_)) (.mul (h2 _) (h1 _))
  · split
    · exact .zero
    · exact h1 _
  · split
    · exact .zero
    · exact h1 _

/-- The gradient of the convolution's result, in the kernel's terms. -/
abbrev dr (s : ℕ) (k : Fin 11264) : EReal := dconv a0 (k0_pay12 (F := Ideal) a1 a2 a3) (k0_pay13 (F := Ideal) a1 a2 a3) s k

theorem dr_past (s : ℕ) (k : Fin 11264) (h : 8192 ≤ s) : dr a0 a1 a2 a3 s k = 0 := by
  unfold dr dconv
  simp only [past_of_ge _ (Nat.not_lt.2 h), gluA_zero, gluB_zero, ite_self]

/-- One element of the first half, the reference's form to the kernel's. -/
theorem form_first {d a b : EReal} (hd : IsReal d) (ha : IsReal a) (hb : IsReal b) :
    0 + ((d * b) * (half * (1 + Ideal.erf (a * invRoot2)))
      + ((slope * (half * (a * (d * b)))) * Ideal.exp (0 - (a * invRoot2) * (a * invRoot2))) * invRoot2)
      = gluA d a b := by
  obtain ⟨d, rfl⟩ := hd
  obtain ⟨a, rfl⟩ := ha
  obtain ⟨b, rfl⟩ := hb
  exact (zero_add _).trans (gluA_real d a b)

theorem form_second (d a : EReal) : (a * (half * (1 + Ideal.erf (a * invRoot2)))) * d + 0 = gluB d a := by
  rw [add_zero, mul_comm]
  rfl

theorem grad_at (h0 : ∀ i, IsReal (a0 i)) (h1 : ∀ i, IsReal (a1 i)) (h2 : ∀ i, IsReal (a2 i)) (h3 : ∀ i, IsReal (a3 i)) (s : Fin 8192) (l : Fin 11264) :
    k0_pay29 (F := Ideal) a0 a1 a2 a3 (ix2 s l) = dr a0 a1 a2 a3 s.val l := by
  have hl := l.isLt
  unfold k0_pay29 k0_pay23 k0_pay24 k0_pay25 k0_pay26 k0_pay27 k0_pay28
  rw [View.ld_unit_zero (S := S8192x11264) Value.hz1 _ a1, View.ld_unit_zero (S := S3x11264) Value.hz2 _ a2, View.ld_unit_zero (S := S1x11264) Value.hz3 _ a3, View.ld_unit_zero (S := S8192x5632) Value.hz0 _ a0]
  pointwise [k0_pay19, k0_pay18, k0_pay17, k0_pay16, k0_pay15, k0_pay14]
  unfold dr dconv
  by_cases hk : l.val < 5632
  · have e : (⟨l.val % 5632, Nat.mod_lt _ (by decide)⟩ : Fin 5632) = ⟨l.val, hk⟩ := Fin.ext (Nat.mod_eq_of_lt hk)
    rw [dif_pos hk, dif_pos hk, if_pos hk, e, past_of_lt _ s.isLt, past_of_lt _ s.isLt, past_of_lt _ s.isLt]
    refine form_first (h0 _) ?_ ?_
    · rw [first_at]; exact conv_real a1 a2 a3 h1 h2 h3 _ _
    · rw [second_at]; exact conv_real a1 a2 a3 h1 h2 h3 _ _
  · have e : (⟨l.val % 5632, Nat.mod_lt _ (by decide)⟩ : Fin 5632) = ⟨l.val - 5632, by omega⟩ := Fin.ext (by show l.val % 5632 = l.val - 5632; omega)
    rw [dif_neg hk, dif_neg hk, if_neg hk, e, past_of_lt _ s.isLt, past_of_lt _ s.isLt]
    exact form_second _ _

end Cert.ReferenceIdeal.Glu
-- ==== Proof.Meet.lean ====
/- The reference's three results are the kernel's three arrays. -/
module

public import proofs.«01_k».proof.Proof.Refer

@[expose] public section

set_option maxRecDepth 16384

noncomputable section

namespace Cert.ReferenceIdeal.Glu

open Cert.ReferenceIdeal Cert.ReferenceIdeal.Gen Idealize.ShloMosaic Idealize.ShloMosaic.TcCoe

open Cert.KernelIdeal.Glu

variable (a0 : Vec Ideal S8192x5632 .bf16) (a1 : Vec Ideal S8192x11264 .bf16) (a2 : Vec Ideal S3x11264 .f32) (a3 : Vec Ideal S1x11264 .f32)

/-- A sum over rows that starts one row down. -/
theorem shift_one {n : ℕ} (d : ℕ → EReal) (u : Fin n → EReal) (hd : d n = 0) :
    (∑ x : Fin n, d x.val * if h : 1 + x.val < 2 then 0 else u ⟨1 + x.val - 2, by omega⟩) = ∑ s : Fin n, d (s.val + 1) * u s := by
  obtain _ | n := n
  · simp
  rw [Fin.sum_univ_succ, Fin.sum_univ_castSucc (f := fun s : Fin (n + 1) => d (s.val + 1) * u s)]
  rw [dif_pos (by simp), mul_zero, zero_add]
  rw [show ((Fin.last n).val + 1) = n + 1 from rfl, hd, zero_mul, add_zero]
  refine Finset.sum_congr rfl fun x _ => ?_
  rw [dif_neg (by simp)]
  congr 2
  apply Fin.ext
  show 1 + (x.val + 1) - 2 = x.val
  omega

/-- … and two rows down. -/
theorem shift_two {n : ℕ} (d : ℕ → EReal) (u : Fin (n + 2) → EReal) (h0 : d (n + 2) = 0) (h1 : d (n + 3) = 0) :
    (∑ x : Fin n, d (2 + x.val) * u ⟨x.val, by omega⟩) = ∑ s : Fin (n + 2), d (s.val + 2) * u s := by
  rw [Fin.sum_univ_castSucc (n := n + 1), Fin.sum_univ_castSucc (n := n)]
  rw [show ((Fin.last (n + 1)).val + 2) = n + 3 from rfl, show ((Fin.last n).castSucc.val + 2) = n + 2 from rfl, h0, h1, zero_mul, zero_mul, add_zero, add_zero]
  refine Finset.sum_congr rfl fun x _ => ?_
  rw [Nat.add_comm]
  rfl

section
variable {a0 a1 a2 a3} (h0 : ∀ i, IsReal (a0 i)) (h1 : ∀ i, IsReal (a1 i)) (h2 : ∀ i, IsReal (a2 i)) (h3 : ∀ i, IsReal (a3 i))
include h0 h1 h2 h3

theorem first_result : Value.G4 (F := Ideal) a0 a1 a2 a3 = dup a2 (dr a0 a1 a2 a3) := by
  have hD := grad_at a0 a1 a2 a3 h0 h1 h2 h3
  funext y
  obtain ⟨s, l, rfl⟩ : ∃ (s : Fin 8192) (l : Fin 11264), y = ix2 s l := ⟨y 0, y 1, eq_ix2 y⟩
  have hs := s.isLt
  have hD' : ∀ s l, k0_pay19 (F := Ideal) (k0_pay23 a0 a1 a2 a3) (k0_pay24 a0 a1 a2 a3) (k0_pay25 a0 a1 a2 a3) (k0_pay26 a0 a1 a2 a3) (k0_pay27 a0 a1 a2 a3) (k0_pay28 a0 a1 a2 a3) (ix2 s l) = dr a0 a1 a2 a3 s.val l := hD
  unfold Value.G4
  generalize k0_pay29 (F := Ideal) a0 a1 a2 a3 = D at hD ⊢
  generalize k0_pay23 (F := Ideal) a0 a1 a2 a3 = x23 at hD' ⊢
  generalize k0_pay24 (F := Ideal) a0 a1 a2 a3 = x24 at hD' ⊢
  generalize k0_pay25 (F := Ideal) a0 a1 a2 a3 = x25 at hD' ⊢
  generalize k0_pay26 (F := Ideal) a0 a1 a2 a3 = x26 at hD' ⊢
  generalize k0_pay27 (F := Ideal) a0 a1 a2 a3 = x27 at hD' ⊢
  generalize k0_pay28 (F := Ideal) a0 a1 a2 a3 = x28 at hD' ⊢
  pointwise [k0_pay3, k0_pay6, k0_pay20, k0_pay8, k0_pay10]
  refine (?_ : _ = (a2 (ix2 2 l) * dr a0 a1 a2 a3 s.val l + a2 (ix2 1 l) * dr a0 a1 a2 a3 (s.val + 1) l) + a2 (ix2 0 l) * dr a0 a1 a2 a3 (s.val + 2) l).trans rfl
  congr 1
  · congr 1
    · exact congrArg (a2 (ix2 2 l) * ·) (hD' s l)
    · by_cases h : 2 + s.val < 8193
      · rw [dif_pos h, dif_neg (by omega)]
        exact congrArg (a2 (ix2 1 l) * ·) ((hD' _ l).trans (congrArg (dr a0 a1 a2 a3 · l) (by show 2 + s.val - 1 = s.val + 1; omega)))
      · rw [dif_neg h, dr_past _ _ _ _ _ _ (by omega), mul_zero]
  · by_cases h : 2 + s.val < 8192
    · rw [dif_pos h]
      exact congrArg (a2 (ix2 0 l) * ·) ((hD _ l).trans (congrArg (dr a0 a1 a2 a3 · l) (by show 2 + s.val = s.val + 2; omega)))
    · rw [dif_neg h, dr_past _ _ _ _ _ _ (by omega), mul_zero]

theorem second_result : Value.G5 (F := Ideal) a0 a1 a2 a3 = dbias (dr a0 a1 a2 a3) := by
  have hD' : ∀ s l, k0_pay19 (F := Ideal) (k0_pay23 a0 a1 a2 a3) (k0_pay24 a0 a1 a2 a3) (k0_pay25 a0 a1 a2 a3) (k0_pay26 a0 a1 a2 a3) (k0_pay27 a0 a1 a2 a3) (k0_pay28 a0 a1 a2 a3) (ix2 s l) = dr a0 a1 a2 a3 s.val l := grad_at a0 a1 a2 a3 h0 h1 h2 h3
  funext y
  obtain ⟨s, l, rfl⟩ : ∃ (s : Fin 1) (l : Fin 11264), y = ix2 s l := ⟨y 0, y 1, eq_ix2 y⟩
  unfold Value.G5
  generalize k0_pay23 (F := Ideal) a0 a1 a2 a3 = x23 at hD' ⊢
  generalize k0_pay24 (F := Ideal) a0 a1 a2 a3 = x24 at hD' ⊢
  generalize k0_pay25 (F := Ideal) a0 a1 a2 a3 = x25 at hD' ⊢
  generalize k0_pay26 (F := Ideal) a0 a1 a2 a3 = x26 at hD' ⊢
  generalize k0_pay27 (F := Ideal) a0 a1 a2 a3 = x27 at hD' ⊢
  generalize k0_pay28 (F := Ideal) a0 a1 a2 a3 = x28 at hD' ⊢
  pointwise [k0_pay2, k0_pay22]
  refine (Fin.sum_univ_one _).trans ?_
  exact Finset.sum_congr rfl fun x _ => hD' x l

theorem third_result : Value.G6 (F := Ideal) a0 a1 a2 a3 = dtaps a1 (dr a0 a1 a2 a3) := by
  have hD := grad_at a0 a1 a2 a3 h0 h1 h2 h3
  have hD' : ∀ s l, k0_pay19 (F := Ideal) (k0_pay23 a0 a1 a2 a3) (k0_pay24 a0 a1 a2 a3) (k0_pay25 a0 a1 a2 a3) (k0_pay26 a0 a1 a2 a3) (k0_pay27 a0 a1 a2 a3) (k0_pay28 a0 a1 a2 a3) (ix2 s l) = dr a0 a1 a2 a3 s.val l := hD
  funext y
  obtain ⟨e, l, rfl⟩ : ∃ (e : Fin 3) (l : Fin 11264), y = ix2 e l := ⟨y 0, y 1, eq_ix2 y⟩
  unfold Value.G6
  generalize k0_pay29 (F := Ideal) a0 a1 a2 a3 = D at hD ⊢
  generalize k0_pay23 (F := Ideal) a0 a1 a2 a3 = x23 at hD' ⊢
  generalize k0_pay24 (F := Ideal) a0 a1 a2 a3 = x24 at hD' ⊢
  generalize k0_pay25 (F := Ideal) a0 a1 a2 a3 = x25 at hD' ⊢
  generalize k0_pay26 (F := Ideal) a0 a1 a2 a3 = x26 at hD' ⊢
  generalize k0_pay27 (F := Ideal) a0 a1 a2 a3 = x27 at hD' ⊢
  generalize k0_pay28 (F := Ideal) a0 a1 a2 a3 = x28 at hD' ⊢
  pointwise [k0_pay1, k0_pay21, k0_pay5, k0_pay7, k0_pay9, k0_pay4]
  refine (?_ : _ = ∑ s : Fin 8192, dr a0 a1 a2 a3 (s.val + (2 - e.val)) l * a1 (ix2 s l)).trans rfl
  have hc : e.val = 0 ∨ e.val = 1 ∨ e.val = 2 := by omega
  rcases hc with he | he | he
  · rw [dif_pos (by omega), dif_pos (by omega), dif_pos (by omega), dif_pos (by omega), zero_add, zero_add, he]
    refine (Fin.sum_univ_one _).trans ?_
    simp only [mul_zero, Finset.sum_const_zero, zero_add]
    refine Eq.trans ?_ (shift_two (n := 8190) (fun s => dr a0 a1 a2 a3 s l) (fun s => a1 (ix2 s l)) (dr_past _ _ _ _ _ _ (by decide)) (dr_past _ _ _ _ _ _ (by decide)))
    exact Finset.sum_congr rfl fun x _ => congrArg (· * a1 (ix2 ⟨x.val, by omega⟩ l)) (hD _ l)
  · rw [dif_pos (by omega), dif_pos (by omega), dif_neg (by omega), dif_neg (by omega), zero_add, add_zero, he]
    refine (Fin.sum_univ_one _).trans ?_
    refine Eq.trans ?_ (shift_one (n := 8192) (fun s => dr a0 a1 a2 a3 s l) (fun s => a1 (ix2 s l)) (dr_past _ _ _ _ _ _ (by decide)))
    exact Finset.sum_congr rfl fun x _ => congrArg (· * _) (hD' x l)
  · rw [dif_neg (by omega), dif_neg (by omega), dif_neg (by omega), add_zero, add_zero, he]
    refine (Fin.sum_univ_one _).trans ?_
    exact Finset.sum_congr rfl fun x _ => congrArg (· * a1 (ix2 x l)) (hD' x l)
end

end Cert.ReferenceIdeal.Glu
-- ==== Proof.Whole.lean ====
/- The value claim: on finite arguments the kernel's three results are the reference's. -/
module

public import proofs.«01_k».proof.Defs
public import proofs.«01_k».proof.Proof.Meet
public import proofs.«01_k».proof.Proof.Gen.KernelIdeal.Value
public import proofs.«01_k».proof.Proof.Gen.Pre_finite

@[expose] public section

set_option maxRecDepth 16384

noncomputable section

namespace Cert.Proof

open Idealize.ShloMosaic Idealize.SL.Sem Idealize.ShloMosaic.TcCoe
open Cert.KernelIdeal.Glu Cert.ReferenceIdeal.Glu

/-- The precondition says that every argument's every element is a real number. -/
theorem finite_real {m : (ℓ : Loc KernelIdeal.nD KernelIdeal.τ KernelIdeal.sig) → Buf (Elt Ideal) ℓ} (h : Pre_KernelIdeal_finite m) (c : Dev KernelIdeal.nD) :
    (∀ i, IsReal (m ((c.tc : Thread KernelIdeal.nD KernelIdeal.τ).loc KernelIdeal.main_arg0) i))
    ∧ (∀ i, IsReal (m ((c.tc : Thread KernelIdeal.nD KernelIdeal.τ).loc KernelIdeal.main_arg1) i))
    ∧ (∀ i, IsReal (m ((c.tc : Thread KernelIdeal.nD KernelIdeal.τ).loc KernelIdeal.main_arg2) i))
    ∧ (∀ i, IsReal (m ((c.tc : Thread KernelIdeal.nD KernelIdeal.τ).loc KernelIdeal.main_arg3) i)) :=
  ⟨fun i => IsReal.of_lt (congrFun (h c).1 i), fun i => IsReal.of_lt (congrFun (h c).2.1 i),
    fun i => IsReal.of_lt (congrFun (h c).2.2.1 i), fun i => IsReal.of_lt (congrFun (h c).2.2.2 i)⟩

theorem value : algebraic_KernelIdeal_ReferenceIdeal_pre_finite := by
  intro m g m' g' hp hag
  refine ⟨fun c => (KernelIdeal.Gen.dats m 0 c).arrAt 8 KernelIdeal.cfg0.N, fun c => (KernelIdeal.Gen.dats m 0 c).arrAt 9 KernelIdeal.cfg0.N,
    fun c => (KernelIdeal.Gen.dats m 0 c).arrAt 10 KernelIdeal.cfg0.N, KernelIdeal.Value.run_blocks m g, ?_⟩
  refine (θ_run _ _ _).mono (fun r h c => ?_) (ReferenceIdeal.Value.run m' g')
  obtain ⟨r0, r1, r2, k⟩ := h c
  obtain ⟨h0, h1, h2, h3⟩ := finite_real hp c
  obtain ⟨e0, e1, e2, e3⟩ := hag c
  rw [e0, e1, e2, e3] at r0 r1 r2
  have hd : dk m c = dr (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3)) := by
    funext s l
    unfold dk dr
    rw [saved_first m c, saved_second m c, KernelIdeal.Gen.V_main_arg0]
  refine ⟨r0.trans ?_, r1.trans ?_, r2.trans ?_, k⟩
  · exact (first_result h0 h1 h2 h3).trans (((KernelIdeal.Glu.final8 m c).trans (by rw [hd, KernelIdeal.Gen.V_main_arg2])).symm)
  · exact (second_result h0 h1 h2 h3).trans (((KernelIdeal.Glu.final9 m c).trans (by rw [hd])).symm)
  · exact (third_result h0 h1 h2 h3).trans (((KernelIdeal.Glu.final10 m c).trans (by rw [hd, KernelIdeal.Gen.V_main_arg1])).symm)

end Cert.Proof
-- ==== Proof.Frames.lean ====
/- The frames of the programs from the second on at the machine's own floats: the run of the program that is read over the reals holds
   over any floats, and the two programs have the same text. -/
module

public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame
public import proofs.«01_k».proof.Proof.Gen.Kernel15
public import proofs.«01_k».proof.Proof.Gen.Kernel15Ideal.Frame
public import proofs.«01_k».proof.Proof.Gen.Kernel16
public import proofs.«01_k».proof.Proof.Gen.Kernel16Ideal.Frame
public import proofs.«01_k».proof.Proof.Gen.Kernel17
public import proofs.«01_k».proof.Proof.Gen.Kernel17Ideal.Frame
public import proofs.«01_k».proof.Proof.Gen.Kernel18
public import proofs.«01_k».proof.Proof.Gen.Kernel18Ideal.Frame
public import proofs.«01_k».proof.Proof.Gen.Kernel19
public import proofs.«01_k».proof.Proof.Gen.Kernel19Ideal.Frame
public import proofs.«01_k».proof.Proof.Gen.Kernel20
public import proofs.«01_k».proof.Proof.Gen.Kernel20Ideal.Frame
public import proofs.«01_k».proof.Proof.Gen.Kernel21
public import proofs.«01_k».proof.Proof.Gen.Kernel21Ideal.Frame
public import proofs.«01_k».proof.Proof.Gen.Kernel22
public import proofs.«01_k».proof.Proof.Gen.Kernel22Ideal.Frame
public import proofs.«01_k».proof.Proof.Gen.Kernel23
public import proofs.«01_k».proof.Proof.Gen.Kernel23Ideal.Frame
public import proofs.«01_k».proof.Proof.Gen.Kernel24
public import proofs.«01_k».proof.Proof.Gen.Kernel24Ideal.Frame
public import proofs.«01_k».proof.Proof.Gen.Kernel25
public import proofs.«01_k».proof.Proof.Gen.Kernel25Ideal.Frame
public import proofs.«01_k».proof.Proof.Gen.Kernel26
public import proofs.«01_k».proof.Proof.Gen.Kernel26Ideal.Frame
public import proofs.«01_k».proof.Proof.Gen.Kernel27
public import proofs.«01_k».proof.Proof.Gen.Kernel27Ideal.Frame
public import proofs.«01_k».proof.Proof.Gen.Kernel28
public import proofs.«01_k».proof.Proof.Gen.Kernel28Ideal.Frame
public import proofs.«01_k».proof.Proof.Gen.Kernel29
public import proofs.«01_k».proof.Proof.Gen.Kernel29Ideal.Frame
public import proofs.«01_k».proof.Proof.Gen.Kernel30
public import proofs.«01_k».proof.Proof.Gen.Kernel30Ideal.Frame
public import proofs.«01_k».proof.Proof.Gen.Kernel31
public import proofs.«01_k».proof.Proof.Gen.Kernel31Ideal.Frame
public import proofs.«01_k».proof.Proof.Gen.Kernel32
public import proofs.«01_k».proof.Proof.Gen.Kernel32Ideal.Frame
public import proofs.«01_k».proof.Proof.Gen.Kernel33
public import proofs.«01_k».proof.Proof.Gen.Kernel33Ideal.Frame
public import proofs.«01_k».proof.Proof.Gen.Kernel34
public import proofs.«01_k».proof.Proof.Gen.Kernel34Ideal.Frame
public import proofs.«01_k».proof.Proof.Gen.Kernel35
public import proofs.«01_k».proof.Proof.Gen.Kernel35Ideal.Frame
public import proofs.«01_k».proof.Proof.Gen.Kernel36
public import proofs.«01_k».proof.Proof.Gen.Kernel36Ideal.Frame
public import proofs.«01_k».proof.Proof.Gen.Kernel37
public import proofs.«01_k».proof.Proof.Gen.Kernel37Ideal.Frame
public import proofs.«01_k».proof.Proof.Gen.Kernel38
public import proofs.«01_k».proof.Proof.Gen.Kernel38Ideal.Frame
public import proofs.«01_k».proof.Proof.Gen.Kernel39
public import proofs.«01_k».proof.Proof.Gen.Kernel39Ideal.Frame
public import proofs.«01_k».proof.Proof.Gen.Kernel40
public import proofs.«01_k».proof.Proof.Gen.Kernel40Ideal.Frame
public import proofs.«01_k».proof.Proof.Gen.Kernel41
public import proofs.«01_k».proof.Proof.Gen.Kernel41Ideal.Frame
public import proofs.«01_k».proof.Defs

@[expose] public section

namespace Cert.Frames

open Idealize.ShloMosaic Idealize.SL.Sem

/-- Two tables with a single label are equal if they agree there. -/
theorem one_label {A : Fin 1 → Type*} {f g : (l : Fin 1) → A l} (h : f 0 = g 0) : f = g :=
  funext fun l => Fin.cases h (fun i => i.elim0) l

theorem frame_kernel2 : Cert.quiescent_Kernel2 := fun m ρ _ =>
  have e : Cert.Kernel2.defs₀ (F := Bits) = Cert.Kernel2Ideal.defs₀ := congrArg Defs.onTc (one_label (funext fun _ => rfl))
  (congrArg (fun d => θ_run (Pipeline.defs Cert.Kernel2Ideal.pcfgs d) (onTc Cert.Kernel2Ideal.main) ⟨m, fun _ => 0, ρ⟩ _) e).mpr
    (Cert.Kernel2Ideal.Gen.frame m ρ)

theorem frame_kernel3 : Cert.quiescent_Kernel3 := fun m ρ _ =>
  have e : Cert.Kernel3.defs₀ (F := Bits) = Cert.Kernel3Ideal.defs₀ := congrArg Defs.onTc (one_label (funext fun _ => rfl))
  (congrArg (fun d => θ_run (Pipeline.defs Cert.Kernel3Ideal.pcfgs d) (onTc Cert.Kernel3Ideal.main) ⟨m, fun _ => 0, ρ⟩ _) e).mpr
    (Cert.Kernel3Ideal.Gen.frame m ρ)

theorem frame_kernel4 : Cert.quiescent_Kernel4 := fun m ρ _ =>
  have e : Cert.Kernel4.defs₀ (F := Bits) = Cert.Kernel4Ideal.defs₀ := congrArg Defs.onTc (one_label (funext fun _ => rfl))
  (congrArg (fun d => θ_run (Pipeline.defs Cert.Kernel4Ideal.pcfgs d) (onTc Cert.Kernel4Ideal.main) ⟨m, fun _ => 0, ρ⟩ _) e).mpr
    (Cert.Kernel4Ideal.Gen.frame m ρ)

theorem frame_kernel5 : Cert.quiescent_Kernel5 := fun m ρ _ =>
  have e : Cert.Kernel5.defs₀ (F := Bits) = Cert.Kernel5Ideal.defs₀ := congrArg Defs.onTc (one_label (funext fun _ => rfl))
  (congrArg (fun d => θ_run (Pipeline.defs Cert.Kernel5Ideal.pcfgs d) (onTc Cert.Kernel5Ideal.main) ⟨m, fun _ => 0, ρ⟩ _) e).mpr
    (Cert.Kernel5Ideal.Gen.frame m ρ)

theorem frame_kernel6 : Cert.quiescent_Kernel6 := fun m ρ _ =>
  have e : Cert.Kernel6.defs₀ (F := Bits) = Cert.Kernel6Ideal.defs₀ := congrArg Defs.onTc (one_label (funext fun _ => rfl))
  (congrArg (fun d => θ_run (Pipeline.defs Cert.Kernel6Ideal.pcfgs d) (onTc Cert.Kernel6Ideal.main) ⟨m, fun _ => 0, ρ⟩ _) e).mpr
    (Cert.Kernel6Ideal.Gen.frame m ρ)

theorem frame_kernel7 : Cert.quiescent_Kernel7 := fun m ρ _ =>
  have e : Cert.Kernel7.defs₀ (F := Bits) = Cert.Kernel7Ideal.defs₀ := congrArg Defs.onTc (one_label (funext fun _ => rfl))
  (congrArg (fun d => θ_run (Pipeline.defs Cert.Kernel7Ideal.pcfgs d) (onTc Cert.Kernel7Ideal.main) ⟨m, fun _ => 0, ρ⟩ _) e).mpr
    (Cert.Kernel7Ideal.Gen.frame m ρ)

theorem frame_kernel8 : Cert.quiescent_Kernel8 := fun m ρ _ =>
  have e : Cert.Kernel8.defs₀ (F := Bits) = Cert.Kernel8Ideal.defs₀ := congrArg Defs.onTc (one_label (funext fun _ => rfl))
  (congrArg (fun d => θ_run (Pipeline.defs Cert.Kernel8Ideal.pcfgs d) (onTc Cert.Kernel8Ideal.main) ⟨m, fun _ => 0, ρ⟩ _) e).mpr
    (Cert.Kernel8Ideal.Gen.frame m ρ)

theorem frame_kernel9 : Cert.quiescent_Kernel9 := fun m ρ _ =>
  have e : Cert.Kernel9.defs₀ (F := Bits) = Cert.Kernel9Ideal.defs₀ := congrArg Defs.onTc (one_label (funext fun _ => rfl))
  (congrArg (fun d => θ_run (Pipeline.defs Cert.Kernel9Ideal.pcfgs d) (onTc Cert.Kernel9Ideal.main) ⟨m, fun _ => 0, ρ⟩ _) e).mpr
    (Cert.Kernel9Ideal.Gen.frame m ρ)

theorem frame_kernel10 : Cert.quiescent_Kernel10 := fun m ρ _ =>
  have e : Cert.Kernel10.defs₀ (F := Bits) = Cert.Kernel10Ideal.defs₀ := congrArg Defs.onTc (one_label (funext fun _ => rfl))
  (congrArg (fun d => θ_run (Pipeline.defs Cert.Kernel10Ideal.pcfgs d) (onTc Cert.Kernel10Ideal.main) ⟨m, fun _ => 0, ρ⟩ _) e).mpr
    (Cert.Kernel10Ideal.Gen.frame m ρ)

theorem frame_kernel11 : Cert.quiescent_Kernel11 := fun m ρ _ =>
  have e : Cert.Kernel11.defs₀ (F := Bits) = Cert.Kernel11Ideal.defs₀ := congrArg Defs.onTc (one_label (funext fun _ => rfl))
  (congrArg (fun d => θ_run (Pipeline.defs Cert.Kernel11Ideal.pcfgs d) (onTc Cert.Kernel11Ideal.main) ⟨m, fun _ => 0, ρ⟩ _) e).mpr
    (Cert.Kernel11Ideal.Gen.frame m ρ)

theorem frame_kernel12 : Cert.quiescent_Kernel12 := fun m ρ _ =>
  have e : Cert.Kernel12.defs₀ (F := Bits) = Cert.Kernel12Ideal.defs₀ := congrArg Defs.onTc (one_label (funext fun _ => rfl))
  (congrArg (fun d => θ_run (Pipeline.defs Cert.Kernel12Ideal.pcfgs d) (onTc Cert.Kernel12Ideal.main) ⟨m, fun _ => 0, ρ⟩ _) e).mpr
    (Cert.Kernel12Ideal.Gen.frame m ρ)

theorem frame_kernel13 : Cert.quiescent_Kernel13 := fun m ρ _ =>
  have e : Cert.Kernel13.defs₀ (F := Bits) = Cert.Kernel13Ideal.defs₀ := congrArg Defs.onTc (one_label (funext fun _ => rfl))
  (congrArg (fun d => θ_run (Pipeline.defs Cert.Kernel13Ideal.pcfgs d) (onTc Cert.Kernel13Ideal.main) ⟨m, fun _ => 0, ρ⟩ _) e).mpr
    (Cert.Kernel13Ideal.Gen.frame m ρ)

theorem frame_kernel14 : Cert.quiescent_Kernel14 := fun m ρ _ =>
  have e : Cert.Kernel14.defs₀ (F := Bits) = Cert.Kernel14Ideal.defs₀ := congrArg Defs.onTc (one_label (funext fun _ => rfl))
  (congrArg (fun d => θ_run (Pipeline.defs Cert.Kernel14Ideal.pcfgs d) (onTc Cert.Kernel14Ideal.main) ⟨m, fun _ => 0, ρ⟩ _) e).mpr
    (Cert.Kernel14Ideal.Gen.frame m ρ)

theorem frame_kernel15 : Cert.quiescent_Kernel15 := fun m ρ _ =>
  have e : Cert.Kernel15.defs₀ (F := Bits) = Cert.Kernel15Ideal.defs₀ := congrArg Defs.onTc (one_label (funext fun _ => rfl))
  (congrArg (fun d => θ_run (Pipeline.defs Cert.Kernel15Ideal.pcfgs d) (onTc Cert.Kernel15Ideal.main) ⟨m, fun _ => 0, ρ⟩ _) e).mpr
    (Cert.Kernel15Ideal.Gen.frame m ρ)

theorem frame_kernel16 : Cert.quiescent_Kernel16 := fun m ρ _ =>
  have e : Cert.Kernel16.defs₀ (F := Bits) = Cert.Kernel16Ideal.defs₀ := congrArg Defs.onTc (one_label (funext fun _ => rfl))
  (congrArg (fun d => θ_run (Pipeline.defs Cert.Kernel16Ideal.pcfgs d) (onTc Cert.Kernel16Ideal.main) ⟨m, fun _ => 0, ρ⟩ _) e).mpr
    (Cert.Kernel16Ideal.Gen.frame m ρ)

theorem frame_kernel17 : Cert.quiescent_Kernel17 := fun m ρ _ =>
  have e : Cert.Kernel17.defs₀ (F := Bits) = Cert.Kernel17Ideal.defs₀ := congrArg Defs.onTc (one_label (funext fun _ => rfl))
  (congrArg (fun d => θ_run (Pipeline.defs Cert.Kernel17Ideal.pcfgs d) (onTc Cert.Kernel17Ideal.main) ⟨m, fun _ => 0, ρ⟩ _) e).mpr
    (Cert.Kernel17Ideal.Gen.frame m ρ)

theorem frame_kernel18 : Cert.quiescent_Kernel18 := fun m ρ _ =>
  have e : Cert.Kernel18.defs₀ (F := Bits) = Cert.Kernel18Ideal.defs₀ := congrArg Defs.onTc (one_label (funext fun _ => rfl))
  (congrArg (fun d => θ_run (Pipeline.defs Cert.Kernel18Ideal.pcfgs d) (onTc Cert.Kernel18Ideal.main) ⟨m, fun _ => 0, ρ⟩ _) e).mpr
    (Cert.Kernel18Ideal.Gen.frame m ρ)

theorem frame_kernel19 : Cert.quiescent_Kernel19 := fun m ρ _ =>
  have e : Cert.Kernel19.defs₀ (F := Bits) = Cert.Kernel19Ideal.defs₀ := congrArg Defs.onTc (one_label (funext fun _ => rfl))
  (congrArg (fun d => θ_run (Pipeline.defs Cert.Kernel19Ideal.pcfgs d) (onTc Cert.Kernel19Ideal.main) ⟨m, fun _ => 0, ρ⟩ _) e).mpr
    (Cert.Kernel19Ideal.Gen.frame m ρ)

theorem frame_kernel20 : Cert.quiescent_Kernel20 := fun m ρ _ =>
  have e : Cert.Kernel20.defs₀ (F := Bits) = Cert.Kernel20Ideal.defs₀ := congrArg Defs.onTc (one_label (funext fun _ => rfl))
  (congrArg (fun d => θ_run (Pipeline.defs Cert.Kernel20Ideal.pcfgs d) (onTc Cert.Kernel20Ideal.main) ⟨m, fun _ => 0, ρ⟩ _) e).mpr
    (Cert.Kernel20Ideal.Gen.frame m ρ)

theorem frame_kernel21 : Cert.quiescent_Kernel21 := fun m ρ _ =>
  have e : Cert.Kernel21.defs₀ (F := Bits) = Cert.Kernel21Ideal.defs₀ := congrArg Defs.onTc (one_label (funext fun _ => rfl))
  (congrArg (fun d => θ_run (Pipeline.defs Cert.Kernel21Ideal.pcfgs d) (onTc Cert.Kernel21Ideal.main) ⟨m, fun _ => 0, ρ⟩ _) e).mpr
    (Cert.Kernel21Ideal.Gen.frame m ρ)

theorem frame_kernel22 : Cert.quiescent_Kernel22 := fun m ρ _ =>
  have e : Cert.Kernel22.defs₀ (F := Bits) = Cert.Kernel22Ideal.defs₀ := congrArg Defs.onTc (one_label (funext fun _ => rfl))
  (congrArg (fun d => θ_run (Pipeline.defs Cert.Kernel22Ideal.pcfgs d) (onTc Cert.Kernel22Ideal.main) ⟨m, fun _ => 0, ρ⟩ _) e).mpr
    (Cert.Kernel22Ideal.Gen.frame m ρ)

theorem frame_kernel23 : Cert.quiescent_Kernel23 := fun m ρ _ =>
  have e : Cert.Kernel23.defs₀ (F := Bits) = Cert.Kernel23Ideal.defs₀ := congrArg Defs.onTc (one_label (funext fun _ => rfl))
  (congrArg (fun d => θ_run (Pipeline.defs Cert.Kernel23Ideal.pcfgs d) (onTc Cert.Kernel23Ideal.main) ⟨m, fun _ => 0, ρ⟩ _) e).mpr
    (Cert.Kernel23Ideal.Gen.frame m ρ)

theorem frame_kernel24 : Cert.quiescent_Kernel24 := fun m ρ _ =>
  have e : Cert.Kernel24.defs₀ (F := Bits) = Cert.Kernel24Ideal.defs₀ := congrArg Defs.onTc (one_label (funext fun _ => rfl))
  (congrArg (fun d => θ_run (Pipeline.defs Cert.Kernel24Ideal.pcfgs d) (onTc Cert.Kernel24Ideal.main) ⟨m, fun _ => 0, ρ⟩ _) e).mpr
    (Cert.Kernel24Ideal.Gen.frame m ρ)

theorem frame_kernel25 : Cert.quiescent_Kernel25 := fun m ρ _ =>
  have e : Cert.Kernel25.defs₀ (F := Bits) = Cert.Kernel25Ideal.defs₀ := congrArg Defs.onTc (one_label (funext fun _ => rfl))
  (congrArg (fun d => θ_run (Pipeline.defs Cert.Kernel25Ideal.pcfgs d) (onTc Cert.Kernel25Ideal.main) ⟨m, fun _ => 0, ρ⟩ _) e).mpr
    (Cert.Kernel25Ideal.Gen.frame m ρ)

theorem frame_kernel26 : Cert.quiescent_Kernel26 := fun m ρ _ =>
  have e : Cert.Kernel26.defs₀ (F := Bits) = Cert.Kernel26Ideal.defs₀ := congrArg Defs.onTc (one_label (funext fun _ => rfl))
  (congrArg (fun d => θ_run (Pipeline.defs Cert.Kernel26Ideal.pcfgs d) (onTc Cert.Kernel26Ideal.main) ⟨m, fun _ => 0, ρ⟩ _) e).mpr
    (Cert.Kernel26Ideal.Gen.frame m ρ)

theorem frame_kernel27 : Cert.quiescent_Kernel27 := fun m ρ _ =>
  have e : Cert.Kernel27.defs₀ (F := Bits) = Cert.Kernel27Ideal.defs₀ := congrArg Defs.onTc (one_label (funext fun _ => rfl))
  (congrArg (fun d => θ_run (Pipeline.defs Cert.Kernel27Ideal.pcfgs d) (onTc Cert.Kernel27Ideal.main) ⟨m, fun _ => 0, ρ⟩ _) e).mpr
    (Cert.Kernel27Ideal.Gen.frame m ρ)

theorem frame_kernel28 : Cert.quiescent_Kernel28 := fun m ρ _ =>
  have e : Cert.Kernel28.defs₀ (F := Bits) = Cert.Kernel28Ideal.defs₀ := congrArg Defs.onTc (one_label (funext fun _ => rfl))
  (congrArg (fun d => θ_run (Pipeline.defs Cert.Kernel28Ideal.pcfgs d) (onTc Cert.Kernel28Ideal.main) ⟨m, fun _ => 0, ρ⟩ _) e).mpr
    (Cert.Kernel28Ideal.Gen.frame m ρ)

theorem frame_kernel29 : Cert.quiescent_Kernel29 := fun m ρ _ =>
  have e : Cert.Kernel29.defs₀ (F := Bits) = Cert.Kernel29Ideal.defs₀ := congrArg Defs.onTc (one_label (funext fun _ => rfl))
  (congrArg (fun d => θ_run (Pipeline.defs Cert.Kernel29Ideal.pcfgs d) (onTc Cert.Kernel29Ideal.main) ⟨m, fun _ => 0, ρ⟩ _) e).mpr
    (Cert.Kernel29Ideal.Gen.frame m ρ)

theorem frame_kernel30 : Cert.quiescent_Kernel30 := fun m ρ _ =>
  have e : Cert.Kernel30.defs₀ (F := Bits) = Cert.Kernel30Ideal.defs₀ := congrArg Defs.onTc (one_label (funext fun _ => rfl))
  (congrArg (fun d => θ_run (Pipeline.defs Cert.Kernel30Ideal.pcfgs d) (onTc Cert.Kernel30Ideal.main) ⟨m, fun _ => 0, ρ⟩ _) e).mpr
    (Cert.Kernel30Ideal.Gen.frame m ρ)

theorem frame_kernel31 : Cert.quiescent_Kernel31 := fun m ρ _ =>
  have e : Cert.Kernel31.defs₀ (F := Bits) = Cert.Kernel31Ideal.defs₀ := congrArg Defs.onTc (one_label (funext fun _ => rfl))
  (congrArg (fun d => θ_run (Pipeline.defs Cert.Kernel31Ideal.pcfgs d) (onTc Cert.Kernel31Ideal.main) ⟨m, fun _ => 0, ρ⟩ _) e).mpr
    (Cert.Kernel31Ideal.Gen.frame m ρ)

theorem frame_kernel32 : Cert.quiescent_Kernel32 := fun m ρ _ =>
  have e : Cert.Kernel32.defs₀ (F := Bits) = Cert.Kernel32Ideal.defs₀ := congrArg Defs.onTc (one_label (funext fun _ => rfl))
  (congrArg (fun d => θ_run (Pipeline.defs Cert.Kernel32Ideal.pcfgs d) (onTc Cert.Kernel32Ideal.main) ⟨m, fun _ => 0, ρ⟩ _) e).mpr
    (Cert.Kernel32Ideal.Gen.frame m ρ)

theorem frame_kernel33 : Cert.quiescent_Kernel33 := fun m ρ _ =>
  have e : Cert.Kernel33.defs₀ (F := Bits) = Cert.Kernel33Ideal.defs₀ := congrArg Defs.onTc (one_label (funext fun _ => rfl))
  (congrArg (fun d => θ_run (Pipeline.defs Cert.Kernel33Ideal.pcfgs d) (onTc Cert.Kernel33Ideal.main) ⟨m, fun _ => 0, ρ⟩ _) e).mpr
    (Cert.Kernel33Ideal.Gen.frame m ρ)

theorem frame_kernel34 : Cert.quiescent_Kernel34 := fun m ρ _ =>
  have e : Cert.Kernel34.defs₀ (F := Bits) = Cert.Kernel34Ideal.defs₀ := congrArg Defs.onTc (one_label (funext fun _ => rfl))
  (congrArg (fun d => θ_run (Pipeline.defs Cert.Kernel34Ideal.pcfgs d) (onTc Cert.Kernel34Ideal.main) ⟨m, fun _ => 0, ρ⟩ _) e).mpr
    (Cert.Kernel34Ideal.Gen.frame m ρ)

theorem frame_kernel35 : Cert.quiescent_Kernel35 := fun m ρ _ =>
  have e : Cert.Kernel35.defs₀ (F := Bits) = Cert.Kernel35Ideal.defs₀ := congrArg Defs.onTc (one_label (funext fun _ => rfl))
  (congrArg (fun d => θ_run (Pipeline.defs Cert.Kernel35Ideal.pcfgs d) (onTc Cert.Kernel35Ideal.main) ⟨m, fun _ => 0, ρ⟩ _) e).mpr
    (Cert.Kernel35Ideal.Gen.frame m ρ)

theorem frame_kernel36 : Cert.quiescent_Kernel36 := fun m ρ _ =>
  have e : Cert.Kernel36.defs₀ (F := Bits) = Cert.Kernel36Ideal.defs₀ := congrArg Defs.onTc (one_label (funext fun _ => rfl))
  (congrArg (fun d => θ_run (Pipeline.defs Cert.Kernel36Ideal.pcfgs d) (onTc Cert.Kernel36Ideal.main) ⟨m, fun _ => 0, ρ⟩ _) e).mpr
    (Cert.Kernel36Ideal.Gen.frame m ρ)

theorem frame_kernel37 : Cert.quiescent_Kernel37 := fun m ρ _ =>
  have e : Cert.Kernel37.defs₀ (F := Bits) = Cert.Kernel37Ideal.defs₀ := congrArg Defs.onTc (one_label (funext fun _ => rfl))
  (congrArg (fun d => θ_run (Pipeline.defs Cert.Kernel37Ideal.pcfgs d) (onTc Cert.Kernel37Ideal.main) ⟨m, fun _ => 0, ρ⟩ _) e).mpr
    (Cert.Kernel37Ideal.Gen.frame m ρ)

theorem frame_kernel38 : Cert.quiescent_Kernel38 := fun m ρ _ =>
  have e : Cert.Kernel38.defs₀ (F := Bits) = Cert.Kernel38Ideal.defs₀ := congrArg Defs.onTc (one_label (funext fun _ => rfl))
  (congrArg (fun d => θ_run (Pipeline.defs Cert.Kernel38Ideal.pcfgs d) (onTc Cert.Kernel38Ideal.main) ⟨m, fun _ => 0, ρ⟩ _) e).mpr
    (Cert.Kernel38Ideal.Gen.frame m ρ)

theorem frame_kernel39 : Cert.quiescent_Kernel39 := fun m ρ _ =>
  have e : Cert.Kernel39.defs₀ (F := Bits) = Cert.Kernel39Ideal.defs₀ := congrArg Defs.onTc (one_label (funext fun _ => rfl))
  (congrArg (fun d => θ_run (Pipeline.defs Cert.Kernel39Ideal.pcfgs d) (onTc Cert.Kernel39Ideal.main) ⟨m, fun _ => 0, ρ⟩ _) e).mpr
    (Cert.Kernel39Ideal.Gen.frame m ρ)

theorem frame_kernel40 : Cert.quiescent_Kernel40 := fun m ρ _ =>
  have e : Cert.Kernel40.defs₀ (F := Bits) = Cert.Kernel40Ideal.defs₀ := congrArg Defs.onTc (one_label (funext fun _ => rfl))
  (congrArg (fun d => θ_run (Pipeline.defs Cert.Kernel40Ideal.pcfgs d) (onTc Cert.Kernel40Ideal.main) ⟨m, fun _ => 0, ρ⟩ _) e).mpr
    (Cert.Kernel40Ideal.Gen.frame m ρ)

theorem frame_kernel41 : Cert.quiescent_Kernel41 := fun m ρ _ =>
  have e : Cert.Kernel41.defs₀ (F := Bits) = Cert.Kernel41Ideal.defs₀ := congrArg Defs.onTc (one_label (funext fun _ => rfl))
  (congrArg (fun d => θ_run (Pipeline.defs Cert.Kernel41Ideal.pcfgs d) (onTc Cert.Kernel41Ideal.main) ⟨m, fun _ => 0, ρ⟩ _) e).mpr
    (Cert.Kernel41Ideal.Gen.frame m ρ)

end Cert.Frames

end
-- ==== Proof.Products.lean ====
/- The plain products of two arrays of extended reals, of which one or both may be read transposed. -/
module

public import Idealize.ShloMosaic.Lib.Pointwise
public import Idealize.ShloMosaic.Lib.Pipeline.ValueKit

@[expose] public section

noncomputable section

namespace Cert.Products

open Idealize.ShloMosaic

variable {M N K : ℕ}

/-- The left factor transposed: the rows of both factors are summed over. -/
def tn (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

/-- The right factor transposed: the columns of both factors are summed over. -/
def nt (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)

/-- The plain product. -/
def nn (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

/-- The columns of an array from `off` on. -/
def cols {N' : ℕ} (off : ℕ) (h : off + N ≤ N') (a : (⟨2, ![M, N']⟩ : Shape).Idx → EReal) : (⟨2, ![M, N]⟩ : Shape).Idx → EReal :=
  fun i => a (ix2 (i 0) ⟨off + (i 1).val, lt_of_lt_of_le (Nat.add_lt_add_left (i 1).isLt off) h⟩)

/-- Two arrays added element by element. -/
def onto (z a : (⟨2, ![M, N]⟩ : Shape).Idx → EReal) : (⟨2, ![M, N]⟩ : Shape).Idx → EReal := fun i => z i + a i

/-- An index of two axes is a pair. -/
theorem pair (y : (⟨2, ![M, N]⟩ : Shape).Idx) : ∃ (r : Fin M) (l : Fin N), y = ix2 r l :=
  ⟨y 0, y 1, by funext a; fin_cases a <;> rfl⟩

/-- A quantity of the grid's points that starts anew at every `J`-th point and otherwise adds, at a run's last point: the
sum of the run's parts, joined to one sum over `J * L` terms. -/
theorem run_sum {G : ℕ} {ι : Type*} (f : (n : ℕ) → n < G → ι → EReal) (J L : ℕ) [NeZero J] (part : Fin G → Fin L → ι → EReal)
    (h0 : ∀ t : Fin G, t.val % J = 0 → ∀ i, f t.val t.isLt i = ∑ k, part t k i)
    (hs : ∀ t : Fin G, ¬t.val % J = 0 → ∀ i,
      f t.val t.isLt i = f (t.val - 1) (Nat.lt_of_le_of_lt (Nat.sub_le _ _) t.isLt) i + ∑ k, part t k i)
    (t : Fin G) (hr : t.val % J = J - 1) (i : ι) (all : Fin (J * L) → EReal)
    (h : ∀ (s : Fin J) (k : Fin L) (hk : s.val * L + k.val < J * L),
      part ⟨J * (t.val / J) + s.val, Pipeline.run_point_lt_of_flush t hr s⟩ k i = all ⟨s.val * L + k.val, hk⟩) :
    f t.val t.isLt i = ∑ k, all k := by
  refine (Pipeline.eq_sum_fin_of_reset_step_apply_of_flush f J (fun _ => 0) (fun t i => ∑ k, part t k i)
    (fun t h i => (h0 t h i).trans (zero_add _).symm) hs t hr i).trans ?_
  rw [zero_add]
  exact Fin.sum_mul_add_congr h

end Cert.Products

end
-- ==== Proof.DwUp.lean ====
/- The gradient of the up-projection's weights: what one grid point adds, the array that the kernel leaves, and that the
reference leaves the same one. -/
module

public import proofs.«01_k».proof.Proof.Products
public import proofs.«01_k».proof.Proof.Gen.Kernel2Ideal.Value
public import proofs.«01_k».proof.Proof.Gen.Reference2Ideal.Run
public import proofs.«01_k».proof.Proof.Gen.Reference2Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel2Ideal.Mm

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x1024.Idx → EReal := iblk m c 0 t

/-- The right factor's. -/
abbrev rhs : S512x2816.Idx → EReal := iblk m c 1 t

theorem first_at (a : Vec Ideal S512x1024 .bf16) (b : Vec Ideal S512x2816 .bf16) (i : S1024x2816.Idx) :
    k0_pay1 (F := Ideal) a b i = Products.tn a b i := by
  pointwise [k0_pay1]
  rfl

theorem next_at (z : Vec Ideal S1024x2816 .f32) (a : Vec Ideal S512x1024 .bf16) (b : Vec Ideal S512x2816 .bf16) (i : S1024x2816.Idx) :
    k0_pay2 (F := Ideal) z a b i = z i + Products.tn a b i := by
  pointwise [k0_pay2]
  rfl

/-- The accumulator after a run's first point. -/
theorem acc_first (h : t.val % 16 = 0) (i : S1024x2816.Idx) :
    (outsAt0 m c t.val t.isLt).2 i = Products.tn (lhs m c t) (rhs m c t) i := by
  have ht : t.val < 128 := lt_of_lt_of_eq t.isLt N_0
  rw [outsAt0_A m c t h (by omega) (by omega)]
  frame_out
  exact first_at _ _ i

/-- After a later one. -/
theorem acc_next (h : ¬t.val % 16 = 0) (i : S1024x2816.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S1024x2816 .f32 => z i + _) (Memref.IsWhole.read_unread _ _))
  · rw [outsAt0_B m c t h (by omega) h2]
    frame_out
    exact (next_at _ _ _ i).trans (congrArg (fun z : Vec Ideal S1024x2816 .f32 => z i + _) (Memref.IsWhole.read_unread _ _))

/-- At a run's last point the output's block is the accumulator. -/
theorem out_last (h : t.val % 16 = 15) (i : S1024x2816.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, t.val / 64] ∧ win0_1.index t = ![t.val % 16, t.val / 16 % 4]
    ∧ win0_2.index t = ![t.val / 64, t.val / 16 % 4] :=
  (by decide +kernel : ∀ t : Fin grid0.N, _)

/-- The array that the kernel leaves is the product. -/
theorem final : (dats m 0 c).arrAt 2 (cfgs 0).N = Products.tn (V m c main_arg0) (V m c main_arg1) := by
  refine (dats m 0 c).arrAt_eq_of_covers 2 _ (by decide +kernel) fun t hf y => ?_
  blk_simp
  rw [after0_2]
  have ht : t.val < 128 := lt_of_lt_of_eq t.isLt N_0
  have h := (flush0_2 t).mp hf
  obtain ⟨r, l, rfl⟩ := Products.pair y
  have e : (win0_2.blk t).view.emb (ix2 r l) = ix2 ⟨t.val / 64 * 1024 + r.val, by omega⟩ ⟨t.val / 16 % 4 * 2816 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference2Ideal.Read.val_main_v6 x y = Products.tn x y := by
  funext i
  refine (Cert.Reference2Ideal.Read.val_main_v5_apply x y i).trans ((Cert.Reference2Ideal.Read.val_main_v4_apply x y _).trans ?_)
  exact Finset.sum_congr rfl fun k _ => (mul_comm _ _).trans (congrArg₂ (· * ·) (congrArg x (by blk_ext [])) (congrArg y (by blk_ext [])))

/-- Kernel and reference leave the same array. -/
theorem value : algebraic_Kernel2Ideal_Reference2Ideal := by
  intro m g m' g' _ hag
  refine ⟨fun c => (dats m 0 c).arrAt 2 cfg0.N, Cert.Kernel2Ideal.Value.run_blocks m g, ?_⟩
  refine (θ_run _ _ _).mono (fun r h c => ?_) (Cert.Reference2Ideal.Value.run m' g')
  obtain ⟨h0, h1⟩ := hag c
  refine ⟨(h c).1.trans ?_, (h c).2⟩
  rw [Cert.Reference2Ideal.Read.val_main_v6_eq, h0, h1]
  exact (refer c _ _).trans ((final m c).trans (by rw [V_main_arg0, V_main_arg1])).symm

end Cert.Kernel2Ideal.Mm

end
-- ==== Proof.DhTwo.lean ====
/- The gradient at the up-projection's input: what one grid point adds, the array that the kernel leaves, and that the
reference leaves the same one. -/
module

public import proofs.«01_k».proof.Proof.Products
public import proofs.«01_k».proof.Proof.Gen.Kernel3Ideal.Value
public import proofs.«01_k».proof.Proof.Gen.Reference3Ideal.Run
public import proofs.«01_k».proof.Proof.Gen.Reference3Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel3Ideal.Mm

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S1024x2816.Idx → EReal := iblk m c 0 t

/-- The right factor's. -/
abbrev rhs : S1024x2816.Idx → EReal := iblk m c 1 t

theorem first_at (a : Vec Ideal S1024x2816 .bf16) (b : Vec Ideal S1024x2816 .bf16) (i : S1024x1024.Idx) : k0_pay2 (F := Ideal) a b i = Products.nt a b i := by
  pointwise [k0_pay2, k0_pay1]
  rfl

theorem next_at (z : Vec Ideal S1024x1024 .f32) (a : Vec Ideal S1024x2816 .bf16) (b : Vec Ideal S1024x2816 .bf16) (i : S1024x1024.Idx) :
    k0_pay3 (F := Ideal) a b z i = z i + Products.nt a b i := by
  pointwise [k0_pay3, k0_pay1]
  rfl

theorem last_at (z : Vec Ideal S1024x1024 .f32) (a : Vec Ideal S1024x2816 .bf16) (b : Vec Ideal S1024x2816 .bf16) (i : S1024x1024.Idx) :
    k0_pay4 (F := Ideal) a b z i = z i + Products.nt a b i := by
  pointwise [k0_pay4, k0_pay1]
  rfl

/-- A run's sum so far: the accumulator, and at a run's last point the output's block. -/
def sum (n : ℕ) (h : n < cfg0.N) : S1024x1024.Idx → EReal :=
  if n % 4 = 3 then (outsAt0 m c n h).1 else (outsAt0 m c n h).2

/-- The sum after a run's first point. -/
theorem sum_first (h : t.val % 4 = 0) (i : S1024x1024.Idx) : sum m c t.val t.isLt i = Products.nt (lhs m c t) (rhs m c t) i := by
  rw [sum, if_neg (by omega), outsAt0_A m c t h (by omega) (by omega)]
  frame_out
  exact first_at _ _ i

/-- After a later one. -/
theorem sum_next (h : ¬t.val % 4 = 0) (i : S1024x1024.Idx) : sum m c t.val t.isLt i
    = sum m c (t.val - 1) (Nat.lt_of_le_of_lt (Nat.sub_le _ _) t.isLt) i + Products.nt (lhs m c t) (rhs m c t) i := by
  by_cases h2 : t.val % 4 = 3
  · rw [sum, sum, if_pos h2, if_neg (by omega), outsAt0_C m c t h (by omega) h2]
    frame_out
    exact (last_at _ _ _ i).trans (congrArg (fun z : Vec Ideal S1024x1024 .f32 => z i + _) (Memref.IsWhole.read_unread _ _))
  · rw [sum, sum, if_neg h2, if_neg (by omega), outsAt0_B m c t h (by omega) h2]
    frame_out
    exact (next_at _ _ _ i).trans (congrArg (fun z : Vec Ideal S1024x1024 .f32 => z i + _) (Memref.IsWhole.read_unread _ _))

theorem index_at : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

/-- The array that the kernel leaves is the product. -/
theorem final : (dats m 0 c).arrAt 2 (cfgs 0).N = Products.nt (V m c main_arg1) (V m c main_arg0) := by
  refine (dats m 0 c).arrAt_eq_of_covers 2 _ (by decide +kernel) fun t hf y => ?_
  blk_simp
  rw [after0_2]
  have ht : t.val < 64 := lt_of_lt_of_eq t.isLt N_0
  have h := (flush0_2 t).mp hf
  obtain ⟨r, l, rfl⟩ := Products.pair y
  have e : (win0_2.blk t).view.emb (ix2 r l) = ix2 ⟨t.val / 8 * 1024 + r.val, by omega⟩ ⟨t.val / 4 % 2 * 1024 + l.val, by omega⟩ := by
    blk_ext [index_at t]
  rw [e]
  refine (congrFun (if_pos h : sum m c t.val t.isLt = _) (ix2 r l)).symm.trans ?_
  refine Products.run_sum (sum m c) 4 2816 (fun p k i => lhs m c p (ix2 (i 0) k) * rhs m c p (ix2 (i 1) k))
    (fun p h i => sum_first m c p h i) (fun p h i => sum_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference3Ideal.Read.val_main_v5 x y = Products.nt y x := by
  funext i
  refine (Cert.Reference3Ideal.Read.val_main_v4_apply x y i).trans ?_
  exact Finset.sum_congr rfl fun k _ => congrArg₂ (· * ·) (congrArg y (by blk_ext [])) (congrArg x (by blk_ext []))

/-- Kernel and reference leave the same array. -/
theorem value : algebraic_Kernel3Ideal_Reference3Ideal := by
  intro m g m' g' _ hag
  refine ⟨fun c => (dats m 0 c).arrAt 2 cfg0.N, Cert.Kernel3Ideal.Value.run_blocks m g, ?_⟩
  refine (θ_run _ _ _).mono (fun r h c => ?_) (Cert.Reference3Ideal.Value.run m' g')
  obtain ⟨h0, h1⟩ := hag c
  refine ⟨(h c).1.trans ?_, (h c).2⟩
  rw [Cert.Reference3Ideal.Read.val_main_v5_eq, h0, h1]
  exact (refer c _ _).trans ((final m c).trans (by rw [V_main_arg0, V_main_arg1])).symm

end Cert.Kernel3Ideal.Mm

end
-- ==== Proof.DfDown.lean ====
/- The gradient at the down-projection's input: what one grid point writes, the array that the kernel leaves, and that the
reference leaves the same one. -/
module

public import proofs.«01_k».proof.Proof.Products
public import proofs.«01_k».proof.Proof.Gen.Kernel4Ideal.Value
public import proofs.«01_k».proof.Proof.Gen.Reference4Ideal.Run
public import proofs.«01_k».proof.Proof.Gen.Reference4Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel4Ideal.Mm

open Cert.Kernel4Ideal Cert.Kernel4Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S2048x2048 .bf16) (b : Vec Ideal S1408x2048 .bf16) (i : S2048x1408.Idx) :
    k0_pay1 (F := Ideal) a b i = Products.nt a b i := by
  pointwise [k0_pay1]
  rfl

theorem index_at : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The array that the kernel leaves is the product. -/
theorem final : (dats m 0 c).arrAt 2 (cfgs 0).N = Products.nt (V m c main_arg1) (V m c main_arg0) := by
  refine (dats m 0 c).arrAt_eq_of_covers 2 _ (by decide +kernel) fun t hf y => ?_
  blk_simp
  rw [after0_2]
  have ht : t.val < 16 := lt_of_lt_of_eq t.isLt N_0
  obtain ⟨r, l, rfl⟩ := Products.pair y
  have e : (win0_2.blk t).view.emb (ix2 r l) = ix2 ⟨t.val / 4 * 2048 + r.val, by omega⟩ ⟨t.val % 4 * 1408 + l.val, by omega⟩ := by
    blk_ext [index_at t]
  rw [e]
  unfold out0_2
  frame_out
  refine (pay_at _ _ _).trans (Finset.sum_congr rfl fun k _ => congrArg₂ (· * ·) ?_ ?_)
  · blk_ext [iblk, index_at]
  · blk_ext [iblk, index_at]

/-- The array that the reference leaves is the product too. -/
theorem refer (x : Buf (Elt Ideal) ((c.tc : Thread nD τ).loc main_arg0)) (y : Buf (Elt Ideal) ((c.tc : Thread nD τ).loc main_arg1)) :
    Cert.Reference4Ideal.Read.val_main_v5 x y = Products.nt y x := by
  funext i
  refine (Cert.Reference4Ideal.Read.val_main_v4_apply x y i).trans ?_
  exact Finset.sum_congr rfl fun k _ => congrArg₂ (· * ·) (congrArg y (by blk_ext [])) (congrArg x (by blk_ext []))

/-- Kernel and reference leave the same array. -/
theorem value : algebraic_Kernel4Ideal_Reference4Ideal := by
  intro m g m' g' _ hag
  refine ⟨fun c => (dats m 0 c).arrAt 2 cfg0.N, Cert.Kernel4Ideal.Value.run_blocks m g, ?_⟩
  refine (θ_run _ _ _).mono (fun r h c => ?_) (Cert.Reference4Ideal.Value.run m' g')
  obtain ⟨h0, h1⟩ := hag c
  refine ⟨(h c).1.trans ?_, (h c).2⟩
  rw [Cert.Reference4Ideal.Read.val_main_v5_eq, h0, h1]
  exact (refer c _ _).trans ((final m c).trans (by rw [V_main_arg0, V_main_arg1])).symm

end Cert.Kernel4Ideal.Mm

end
-- ==== Proof.DwDown.lean ====
/- The gradient of the down-projection's weights: what one grid point adds, the array that the kernel leaves, and that the
reference leaves the same one. -/
module

public import proofs.«01_k».proof.Proof.Products
public import proofs.«01_k».proof.Proof.Gen.Kernel5Ideal.Value
public import proofs.«01_k».proof.Proof.Gen.Reference5Ideal.Run
public import proofs.«01_k».proof.Proof.Gen.Reference5Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel5Ideal.Mm

open Cert.Kernel5Ideal Cert.Kernel5Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x1408.Idx → EReal := iblk m c 0 t

/-- The right factor's. -/
abbrev rhs : S512x2048.Idx → EReal := iblk m c 1 t

theorem first_at (a : Vec Ideal S512x1408 .bf16) (b : Vec Ideal S512x2048 .bf16) (i : S1408x2048.Idx) :
    k0_pay1 (F := Ideal) a b i = Products.tn a b i := by
  pointwise [k0_pay1]
  rfl

theorem next_at (z : Vec Ideal S1408x2048 .f32) (a : Vec Ideal S512x1408 .bf16) (b : Vec Ideal S512x2048 .bf16) (i : S1408x2048.Idx) :
    k0_pay2 (F := Ideal) z a b i = z i + Products.tn a b i := by
  pointwise [k0_pay2]
  rfl

/-- The accumulator after a run's first point. -/
theorem acc_first (h : t.val % 16 = 0) (i : S1408x2048.Idx) :
    (outsAt0 m c t.val t.isLt).2 i = Products.tn (lhs m c t) (rhs m c t) i := by
  have ht : t.val < 64 := lt_of_lt_of_eq t.isLt N_0
  rw [outsAt0_A m c t h (by omega) (by omega)]
  frame_out
  exact first_at _ _ i

/-- After a later one. -/
theorem acc_next (h : ¬t.val % 16 = 0) (i : S1408x2048.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S1408x2048 .f32 => z i + _) (Memref.IsWhole.read_unread _ _))
  · rw [outsAt0_B m c t h (by omega) h2]
    frame_out
    exact (next_at _ _ _ i).trans (congrArg (fun z : Vec Ideal S1408x2048 .f32 => z i + _) (Memref.IsWhole.read_unread _ _))

/-- At a run's last point the output's block is the accumulator. -/
theorem out_last (h : t.val % 16 = 15) (i : S1408x2048.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- The array that the kernel leaves is the product. -/
theorem final : (dats m 0 c).arrAt 2 (cfgs 0).N = Products.tn (V m c main_arg0) (V m c main_arg1) := by
  refine (dats m 0 c).arrAt_eq_of_covers 2 _ (by decide +kernel) fun t hf y => ?_
  blk_simp
  rw [after0_2]
  have ht : t.val < 64 := lt_of_lt_of_eq t.isLt N_0
  have h := (flush0_2 t).mp hf
  obtain ⟨r, l, rfl⟩ := Products.pair y
  have e : (win0_2.blk t).view.emb (ix2 r l) = ix2 ⟨t.val / 16 * 1408 + r.val, by omega⟩ ⟨0 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference5Ideal.Read.val_main_v6 x y = Products.tn x y := by
  funext i
  refine (Cert.Reference5Ideal.Read.val_main_v5_apply x y i).trans ((Cert.Reference5Ideal.Read.val_main_v4_apply x y _).trans ?_)
  exact Finset.sum_congr rfl fun k _ => (mul_comm _ _).trans (congrArg₂ (· * ·) (congrArg x (by blk_ext [])) (congrArg y (by blk_ext [])))

/-- Kernel and reference leave the same array. -/
theorem value : algebraic_Kernel5Ideal_Reference5Ideal := by
  intro m g m' g' _ hag
  refine ⟨fun c => (dats m 0 c).arrAt 2 cfg0.N, Cert.Kernel5Ideal.Value.run_blocks m g, ?_⟩
  refine (θ_run _ _ _).mono (fun r h c => ?_) (Cert.Reference5Ideal.Value.run m' g')
  obtain ⟨h0, h1⟩ := hag c
  refine ⟨(h c).1.trans ?_, (h c).2⟩
  rw [Cert.Reference5Ideal.Read.val_main_v6_eq, h0, h1]
  exact (refer c _ _).trans ((final m c).trans (by rw [V_main_arg0, V_main_arg1])).symm

end Cert.Kernel5Ideal.Mm

end
-- ==== Proof.DwIn.lean ====
/- The gradient of the combined projection's weights: what one grid point adds, the array that the kernel leaves, and that the
reference leaves the same one. -/
module

public import proofs.«01_k».proof.Proof.Products
public import proofs.«01_k».proof.Proof.Gen.Kernel6Ideal.Value
public import proofs.«01_k».proof.Proof.Gen.Reference6Ideal.Run
public import proofs.«01_k».proof.Proof.Gen.Reference6Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel6Ideal.Mm

open Cert.Kernel6Ideal Cert.Kernel6Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x1024.Idx → EReal := iblk m c 0 t

/-- The right factor's. -/
abbrev rhs : S512x2432.Idx → EReal := iblk m c 1 t

theorem first_at (a : Vec Ideal S512x1024 .bf16) (b : Vec Ideal S512x2432 .bf16) (i : S1024x2432.Idx) :
    k0_pay1 (F := Ideal) a b i = Products.tn a b i := by
  pointwise [k0_pay1]
  rfl

theorem next_at (z : Vec Ideal S1024x2432 .f32) (a : Vec Ideal S512x1024 .bf16) (b : Vec Ideal S512x2432 .bf16) (i : S1024x2432.Idx) :
    k0_pay2 (F := Ideal) z a b i = z i + Products.tn a b i := by
  pointwise [k0_pay2]
  rfl

/-- The accumulator after a run's first point. -/
theorem acc_first (h : t.val % 16 = 0) (i : S1024x2432.Idx) :
    (outsAt0 m c t.val t.isLt).2 i = Products.tn (lhs m c t) (rhs m c t) i := by
  have ht : t.val < 128 := lt_of_lt_of_eq t.isLt N_0
  rw [outsAt0_A m c t h (by omega) (by omega)]
  frame_out
  exact first_at _ _ i

/-- After a later one. -/
theorem acc_next (h : ¬t.val % 16 = 0) (i : S1024x2432.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S1024x2432 .f32 => z i + _) (Memref.IsWhole.read_unread _ _))
  · rw [outsAt0_B m c t h (by omega) h2]
    frame_out
    exact (next_at _ _ _ i).trans (congrArg (fun z : Vec Ideal S1024x2432 .f32 => z i + _) (Memref.IsWhole.read_unread _ _))

/-- At a run's last point the output's block is the accumulator. -/
theorem out_last (h : t.val % 16 = 15) (i : S1024x2432.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, t.val / 64] ∧ win0_1.index t = ![t.val % 16, t.val / 16 % 4]
    ∧ win0_2.index t = ![t.val / 64, t.val / 16 % 4] :=
  (by decide +kernel : ∀ t : Fin grid0.N, _)

/-- The array that the kernel leaves is the product. -/
theorem final : (dats m 0 c).arrAt 2 (cfgs 0).N = Products.tn (V m c main_arg0) (V m c main_arg1) := by
  refine (dats m 0 c).arrAt_eq_of_covers 2 _ (by decide +kernel) fun t hf y => ?_
  blk_simp
  rw [after0_2]
  have ht : t.val < 128 := lt_of_lt_of_eq t.isLt N_0
  have h := (flush0_2 t).mp hf
  obtain ⟨r, l, rfl⟩ := Products.pair y
  have e : (win0_2.blk t).view.emb (ix2 r l) = ix2 ⟨t.val / 64 * 1024 + r.val, by omega⟩ ⟨t.val / 16 % 4 * 2432 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference6Ideal.Read.val_main_v6 x y = Products.tn x y := by
  funext i
  refine (Cert.Reference6Ideal.Read.val_main_v5_apply x y i).trans ((Cert.Reference6Ideal.Read.val_main_v4_apply x y _).trans ?_)
  exact Finset.sum_congr rfl fun k _ => (mul_comm _ _).trans (congrArg₂ (· * ·) (congrArg x (by blk_ext [])) (congrArg y (by blk_ext [])))

/-- Kernel and reference leave the same array. -/
theorem value : algebraic_Kernel6Ideal_Reference6Ideal := by
  intro m g m' g' _ hag
  refine ⟨fun c => (dats m 0 c).arrAt 2 cfg0.N, Cert.Kernel6Ideal.Value.run_blocks m g, ?_⟩
  refine (θ_run _ _ _).mono (fun r h c => ?_) (Cert.Reference6Ideal.Value.run m' g')
  obtain ⟨h0, h1⟩ := hag c
  refine ⟨(h c).1.trans ?_, (h c).2⟩
  rw [Cert.Reference6Ideal.Read.val_main_v6_eq, h0, h1]
  exact (refer c _ _).trans ((final m c).trans (by rw [V_main_arg0, V_main_arg1])).symm

end Cert.Kernel6Ideal.Mm

end
-- ==== Proof.DhOne.lean ====
/- The gradient at the combined projection's input: what one grid point adds, the array that the kernel leaves, and that the
reference leaves the same one. -/
module

public import proofs.«01_k».proof.Proof.Products
public import proofs.«01_k».proof.Proof.Gen.Kernel7Ideal.Value
public import proofs.«01_k».proof.Proof.Gen.Reference7Ideal.Run
public import proofs.«01_k».proof.Proof.Gen.Reference7Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel7Ideal.Mm

open Cert.Kernel7Ideal Cert.Kernel7Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S1024x2432.Idx → EReal := iblk m c 0 t

/-- The right factor's. -/
abbrev rhs : S2048x2432.Idx → EReal := iblk m c 1 t

theorem first_at (a : Vec Ideal S1024x2432 .bf16) (b : Vec Ideal S2048x2432 .bf16) (i : S1024x2048.Idx) : k0_pay2 (F := Ideal) a b i = Products.nt a b i := by
  pointwise [k0_pay2, k0_pay1]
  rfl

theorem next_at (z : Vec Ideal S1024x2048 .f32) (a : Vec Ideal S1024x2432 .bf16) (b : Vec Ideal S2048x2432 .bf16) (i : S1024x2048.Idx) :
    k0_pay3 (F := Ideal) a b z i = z i + Products.nt a b i := by
  pointwise [k0_pay3, k0_pay1]
  rfl

theorem last_at (z : Vec Ideal S1024x2048 .f32) (a : Vec Ideal S1024x2432 .bf16) (b : Vec Ideal S2048x2432 .bf16) (i : S1024x2048.Idx) :
    k0_pay4 (F := Ideal) a b z i = z i + Products.nt a b i := by
  pointwise [k0_pay4, k0_pay1]
  rfl

/-- A run's sum so far: the accumulator, and at a run's last point the output's block. -/
def sum (n : ℕ) (h : n < cfg0.N) : S1024x2048.Idx → EReal :=
  if n % 4 = 3 then (outsAt0 m c n h).1 else (outsAt0 m c n h).2

/-- The sum after a run's first point. -/
theorem sum_first (h : t.val % 4 = 0) (i : S1024x2048.Idx) : sum m c t.val t.isLt i = Products.nt (lhs m c t) (rhs m c t) i := by
  rw [sum, if_neg (by omega), outsAt0_A m c t h (by omega) (by omega)]
  frame_out
  exact first_at _ _ i

/-- After a later one. -/
theorem sum_next (h : ¬t.val % 4 = 0) (i : S1024x2048.Idx) : sum m c t.val t.isLt i
    = sum m c (t.val - 1) (Nat.lt_of_le_of_lt (Nat.sub_le _ _) t.isLt) i + Products.nt (lhs m c t) (rhs m c t) i := by
  by_cases h2 : t.val % 4 = 3
  · rw [sum, sum, if_pos h2, if_neg (by omega), outsAt0_C m c t h (by omega) h2]
    frame_out
    exact (last_at _ _ _ i).trans (congrArg (fun z : Vec Ideal S1024x2048 .f32 => z i + _) (Memref.IsWhole.read_unread _ _))
  · rw [sum, sum, if_neg h2, if_neg (by omega), outsAt0_B m c t h (by omega) h2]
    frame_out
    exact (next_at _ _ _ i).trans (congrArg (fun z : Vec Ideal S1024x2048 .f32 => z i + _) (Memref.IsWhole.read_unread _ _))

theorem index_at : ∀ t : Fin cfg0.N, win0_0.index t = ![t.val / 4, t.val % 4] ∧ win0_1.index t = ![0, t.val % 4]
    ∧ win0_2.index t = ![t.val / 4, 0] :=
  (by decide +kernel : ∀ t : Fin grid0.N, _)

/-- The array that the kernel leaves is the product. -/
theorem final : (dats m 0 c).arrAt 2 (cfgs 0).N = Products.nt (V m c main_arg1) (V m c main_arg0) := by
  refine (dats m 0 c).arrAt_eq_of_covers 2 _ (by decide +kernel) fun t hf y => ?_
  blk_simp
  rw [after0_2]
  have ht : t.val < 32 := lt_of_lt_of_eq t.isLt N_0
  have h := (flush0_2 t).mp hf
  obtain ⟨r, l, rfl⟩ := Products.pair y
  have e : (win0_2.blk t).view.emb (ix2 r l) = ix2 ⟨t.val / 4 * 1024 + r.val, by omega⟩ ⟨0 + l.val, by omega⟩ := by
    blk_ext [index_at t]
  rw [e]
  refine (congrFun (if_pos h : sum m c t.val t.isLt = _) (ix2 r l)).symm.trans ?_
  refine Products.run_sum (sum m c) 4 2432 (fun p k i => lhs m c p (ix2 (i 0) k) * rhs m c p (ix2 (i 1) k))
    (fun p h i => sum_first m c p h i) (fun p h i => sum_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference7Ideal.Read.val_main_v5 x y = Products.nt y x := by
  funext i
  refine (Cert.Reference7Ideal.Read.val_main_v4_apply x y i).trans ?_
  exact Finset.sum_congr rfl fun k _ => congrArg₂ (· * ·) (congrArg y (by blk_ext [])) (congrArg x (by blk_ext []))

/-- Kernel and reference leave the same array. -/
theorem value : algebraic_Kernel7Ideal_Reference7Ideal := by
  intro m g m' g' _ hag
  refine ⟨fun c => (dats m 0 c).arrAt 2 cfg0.N, Cert.Kernel7Ideal.Value.run_blocks m g, ?_⟩
  refine (θ_run _ _ _).mono (fun r h c => ?_) (Cert.Reference7Ideal.Value.run m' g')
  obtain ⟨h0, h1⟩ := hag c
  refine ⟨(h c).1.trans ?_, (h c).2⟩
  rw [Cert.Reference7Ideal.Read.val_main_v5_eq, h0, h1]
  exact (refer c _ _).trans ((final m c).trans (by rw [V_main_arg0, V_main_arg1])).symm

end Cert.Kernel7Ideal.Mm

end
-- ==== Proof.DwOut.lean ====
/- The gradient of the output projection's weights: what one grid point adds, the array that the kernel leaves, and that the
reference leaves the same one. -/
module

public import proofs.«01_k».proof.Proof.Products
public import proofs.«01_k».proof.Proof.Gen.Kernel8Ideal.Value
public import proofs.«01_k».proof.Proof.Gen.Reference8Ideal.Run
public import proofs.«01_k».proof.Proof.Gen.Reference8Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel8Ideal.Mm

open Cert.Kernel8Ideal Cert.Kernel8Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x1024.Idx → EReal := iblk m c 0 t

/-- The right factor's. -/
abbrev rhs : S512x2048.Idx → EReal := iblk m c 1 t

theorem first_at (a : Vec Ideal S512x1024 .bf16) (b : Vec Ideal S512x2048 .bf16) (i : S1024x2048.Idx) :
    k0_pay1 (F := Ideal) a b i = Products.tn a b i := by
  pointwise [k0_pay1]
  rfl

theorem next_at (z : Vec Ideal S1024x2048 .f32) (a : Vec Ideal S512x1024 .bf16) (b : Vec Ideal S512x2048 .bf16) (i : S1024x2048.Idx) :
    k0_pay2 (F := Ideal) z a b i = z i + Products.tn a b i := by
  pointwise [k0_pay2]
  rfl

/-- The accumulator after a run's first point. -/
theorem acc_first (h : t.val % 16 = 0) (i : S1024x2048.Idx) :
    (outsAt0 m c t.val t.isLt).2 i = Products.tn (lhs m c t) (rhs m c t) i := by
  have ht : t.val < 32 := lt_of_lt_of_eq t.isLt N_0
  rw [outsAt0_A m c t h (by omega) (by omega)]
  frame_out
  exact first_at _ _ i

/-- After a later one. -/
theorem acc_next (h : ¬t.val % 16 = 0) (i : S1024x2048.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S1024x2048 .f32 => z i + _) (Memref.IsWhole.read_unread _ _))
  · rw [outsAt0_B m c t h (by omega) h2]
    frame_out
    exact (next_at _ _ _ i).trans (congrArg (fun z : Vec Ideal S1024x2048 .f32 => z i + _) (Memref.IsWhole.read_unread _ _))

/-- At a run's last point the output's block is the accumulator. -/
theorem out_last (h : t.val % 16 = 15) (i : S1024x2048.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- The array that the kernel leaves is the product. -/
theorem final : (dats m 0 c).arrAt 2 (cfgs 0).N = Products.tn (V m c main_arg0) (V m c main_arg1) := by
  refine (dats m 0 c).arrAt_eq_of_covers 2 _ (by decide +kernel) fun t hf y => ?_
  blk_simp
  rw [after0_2]
  have ht : t.val < 32 := lt_of_lt_of_eq t.isLt N_0
  have h := (flush0_2 t).mp hf
  obtain ⟨r, l, rfl⟩ := Products.pair y
  have e : (win0_2.blk t).view.emb (ix2 r l) = ix2 ⟨t.val / 16 * 1024 + r.val, by omega⟩ ⟨0 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at]
  · blk_ext [lhs, rhs, iblk, index_at]

/-- The array that the reference leaves is the product too. -/
theorem refer (x : Buf (Elt Ideal) ((c.tc : Thread nD τ).loc main_arg0)) (y : Buf (Elt Ideal) ((c.tc : Thread nD τ).loc main_arg1)) :
    Cert.Reference8Ideal.Read.val_main_v6 x y = Products.tn x y := by
  funext i
  refine (Cert.Reference8Ideal.Read.val_main_v5_apply x y i).trans ((Cert.Reference8Ideal.Read.val_main_v4_apply x y _).trans ?_)
  exact Finset.sum_congr rfl fun k _ => (mul_comm _ _).trans (congrArg₂ (· * ·) (congrArg x (by blk_ext [])) (congrArg y (by blk_ext [])))

/-- Kernel and reference leave the same array. -/
theorem value : algebraic_Kernel8Ideal_Reference8Ideal := by
  intro m g m' g' _ hag
  refine ⟨fun c => (dats m 0 c).arrAt 2 cfg0.N, Cert.Kernel8Ideal.Value.run_blocks m g, ?_⟩
  refine (θ_run _ _ _).mono (fun r h c => ?_) (Cert.Reference8Ideal.Value.run m' g')
  obtain ⟨h0, h1⟩ := hag c
  refine ⟨(h c).1.trans ?_, (h c).2⟩
  rw [Cert.Reference8Ideal.Read.val_main_v6_eq, h0, h1]
  exact (refer c _ _).trans ((final m c).trans (by rw [V_main_arg0, V_main_arg1])).symm

end Cert.Kernel8Ideal.Mm

end
-- ==== Proof.DMixed.lean ====
/- The gradient at the output projection's input: what one grid point writes, the array that the kernel leaves, and that the
reference leaves the same one. -/
module

public import proofs.«01_k».proof.Proof.Products
public import proofs.«01_k».proof.Proof.Gen.Kernel9Ideal.Value
public import proofs.«01_k».proof.Proof.Gen.Reference9Ideal.Run
public import proofs.«01_k».proof.Proof.Gen.Reference9Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel9Ideal.Mm

open Cert.Kernel9Ideal Cert.Kernel9Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S1024x2048 .bf16) (b : Vec Ideal S1024x2048 .bf16) (i : S1024x1024.Idx) :
    k0_pay1 (F := Ideal) a b i = Products.nt a b i := by
  pointwise [k0_pay1]
  rfl

theorem index_at : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The array that the kernel leaves is the product. -/
theorem final : (dats m 0 c).arrAt 2 (cfgs 0).N = Products.nt (V m c main_arg1) (V m c main_arg0) := by
  refine (dats m 0 c).arrAt_eq_of_covers 2 _ (by decide +kernel) fun t hf y => ?_
  blk_simp
  rw [after0_2]
  have ht : t.val < 16 := lt_of_lt_of_eq t.isLt N_0
  obtain ⟨r, l, rfl⟩ := Products.pair y
  have e : (win0_2.blk t).view.emb (ix2 r l) = ix2 ⟨t.val / 2 * 1024 + r.val, by omega⟩ ⟨t.val % 2 * 1024 + l.val, by omega⟩ := by
    blk_ext [index_at t]
  rw [e]
  unfold out0_2
  frame_out
  refine (pay_at _ _ _).trans (Finset.sum_congr rfl fun k _ => congrArg₂ (· * ·) ?_ ?_)
  · blk_ext [iblk, index_at]
  · blk_ext [iblk, index_at]

/-- The array that the reference leaves is the product too. -/
theorem refer (x : Buf (Elt Ideal) ((c.tc : Thread nD τ).loc main_arg0)) (y : Buf (Elt Ideal) ((c.tc : Thread nD τ).loc main_arg1)) :
    Cert.Reference9Ideal.Read.val_main_v5 x y = Products.nt y x := by
  funext i
  refine (Cert.Reference9Ideal.Read.val_main_v4_apply x y i).trans ?_
  exact Finset.sum_congr rfl fun k _ => congrArg₂ (· * ·) (congrArg y (by blk_ext [])) (congrArg x (by blk_ext []))

/-- Kernel and reference leave the same array. -/
theorem value : algebraic_Kernel9Ideal_Reference9Ideal := by
  intro m g m' g' _ hag
  refine ⟨fun c => (dats m 0 c).arrAt 2 cfg0.N, Cert.Kernel9Ideal.Value.run_blocks m g, ?_⟩
  refine (θ_run _ _ _).mono (fun r h c => ?_) (Cert.Reference9Ideal.Value.run m' g')
  obtain ⟨h0, h1⟩ := hag c
  refine ⟨(h c).1.trans ?_, (h c).2⟩
  rw [Cert.Reference9Ideal.Read.val_main_v5_eq, h0, h1]
  exact (refer c _ _).trans ((final m c).trans (by rw [V_main_arg0, V_main_arg1])).symm

end Cert.Kernel9Ideal.Mm

end
-- ==== Proof.DwPool.lean ====
/- The gradient of the pooling branch's output weights: what one grid point adds, the array that the kernel leaves, and that the
reference leaves the same one. -/
module

public import proofs.«01_k».proof.Proof.Products
public import proofs.«01_k».proof.Proof.Gen.Kernel10Ideal.Value
public import proofs.«01_k».proof.Proof.Gen.Reference10Ideal.Run
public import proofs.«01_k».proof.Proof.Gen.Reference10Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel10Ideal.Mm

open Cert.Kernel10Ideal Cert.Kernel10Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x1024.Idx → EReal := iblk m c 0 t

/-- The right factor's. -/
abbrev rhs : S512x2048.Idx → EReal := iblk m c 1 t

theorem first_at (a : Vec Ideal S512x1024 .bf16) (b : Vec Ideal S512x2048 .bf16) (i : S1024x2048.Idx) :
    k0_pay1 (F := Ideal) a b i = Products.tn a b i := by
  pointwise [k0_pay1]
  rfl

theorem next_at (z : Vec Ideal S1024x2048 .f32) (a : Vec Ideal S512x1024 .bf16) (b : Vec Ideal S512x2048 .bf16) (i : S1024x2048.Idx) :
    k0_pay2 (F := Ideal) z a b i = z i + Products.tn a b i := by
  pointwise [k0_pay2]
  rfl

/-- The accumulator after a run's first point. -/
theorem acc_first (h : t.val % 16 = 0) (i : S1024x2048.Idx) :
    (outsAt0 m c t.val t.isLt).2 i = Products.tn (lhs m c t) (rhs m c t) i := by
  have ht : t.val < 16 := lt_of_lt_of_eq t.isLt N_0
  rw [outsAt0_A m c t h (by omega) (by omega)]
  frame_out
  exact first_at _ _ i

/-- After a later one. -/
theorem acc_next (h : ¬t.val % 16 = 0) (i : S1024x2048.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S1024x2048 .f32 => z i + _) (Memref.IsWhole.read_unread _ _))
  · rw [outsAt0_B m c t h (by omega) h2]
    frame_out
    exact (next_at _ _ _ i).trans (congrArg (fun z : Vec Ideal S1024x2048 .f32 => z i + _) (Memref.IsWhole.read_unread _ _))

/-- At a run's last point the output's block is the accumulator. -/
theorem out_last (h : t.val % 16 = 15) (i : S1024x2048.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, 0] ∧ win0_1.index t = ![t.val % 16, 0]
    ∧ win0_2.index t = ![0, 0] :=
  (by decide +kernel : ∀ t : Fin grid0.N, _)

/-- The array that the kernel leaves is the product. -/
theorem final : (dats m 0 c).arrAt 2 (cfgs 0).N = Products.tn (V m c main_arg0) (Products.cols (N := 2048) 0 (by decide) (V m c main_arg1)) := by
  refine (dats m 0 c).arrAt_eq_of_covers 2 _ (by decide +kernel) fun t hf y => ?_
  blk_simp
  rw [after0_2]
  have ht : t.val < 16 := lt_of_lt_of_eq t.isLt N_0
  have h := (flush0_2 t).mp hf
  obtain ⟨r, l, rfl⟩ := Products.pair y
  have e : (win0_2.blk t).view.emb (ix2 r l) = ix2 ⟨0 + r.val, by omega⟩ ⟨0 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at, Products.cols]
  · blk_ext [lhs, rhs, iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference10Ideal.Read.val_main_v7 x y = Products.tn x (Products.cols (N := 2048) 0 (by decide) y) := by
  funext i
  refine (Cert.Reference10Ideal.Read.val_main_v6_apply x y i).trans ((Cert.Reference10Ideal.Read.val_main_v5_apply x y _).trans ?_)
  exact Finset.sum_congr rfl fun k _ => (mul_comm _ _).trans (congrArg₂ (· * ·) (congrArg x (by blk_ext []))
    ((Cert.Reference10Ideal.Read.val_main_v3_apply y _).trans (congrArg y (by blk_ext []))))

/-- Kernel and reference leave the same array. -/
theorem value : algebraic_Kernel10Ideal_Reference10Ideal := by
  intro m g m' g' _ hag
  refine ⟨fun c => (dats m 0 c).arrAt 2 cfg0.N, Cert.Kernel10Ideal.Value.run_blocks m g, ?_⟩
  refine (θ_run _ _ _).mono (fun r h c => ?_) (Cert.Reference10Ideal.Value.run m' g')
  obtain ⟨h0, h1⟩ := hag c
  refine ⟨(h c).1.trans ?_, (h c).2⟩
  rw [Cert.Reference10Ideal.Read.val_main_v7_eq, h0, h1]
  exact (refer c _ _).trans ((final m c).trans (by rw [V_main_arg0, V_main_arg1])).symm

end Cert.Kernel10Ideal.Mm

end
-- ==== Proof.DPool.lean ====
/- The gradient at the pooling branch's result: what one grid point writes, the array that the kernel leaves, and that the
reference leaves the same one. -/
module

public import proofs.«01_k».proof.Proof.Products
public import proofs.«01_k».proof.Proof.Gen.Kernel11Ideal.Value
public import proofs.«01_k».proof.Proof.Gen.Reference11Ideal.Run
public import proofs.«01_k».proof.Proof.Gen.Reference11Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel11Ideal.Mm

open Cert.Kernel11Ideal Cert.Kernel11Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S1024x2048 .bf16) (b : Vec Ideal S1024x2048 .bf16) (i : S1024x1024.Idx) :
    k0_pay1 (F := Ideal) a b i = Products.nt a b i := by
  pointwise [k0_pay1]
  rfl

theorem index_at : ∀ t : Fin cfg0.N, win0_0.index t = ![t.val, 0] ∧ win0_1.index t = ![0, 0]
    ∧ win0_2.index t = ![t.val, 0] :=
  (by decide +kernel : ∀ t : Fin grid0.N, _)

/-- The array that the kernel leaves is the product. -/
theorem final : (dats m 0 c).arrAt 2 (cfgs 0).N = Products.nt (Products.cols (N := 2048) 0 (by decide) (V m c main_arg1)) (V m c main_arg0) := by
  refine (dats m 0 c).arrAt_eq_of_covers 2 _ (by decide +kernel) fun t hf y => ?_
  blk_simp
  rw [after0_2]
  have ht : t.val < 8 := lt_of_lt_of_eq t.isLt N_0
  obtain ⟨r, l, rfl⟩ := Products.pair y
  have e : (win0_2.blk t).view.emb (ix2 r l) = ix2 ⟨t.val * 1024 + r.val, by omega⟩ ⟨0 + l.val, by omega⟩ := by
    blk_ext [index_at t]
  rw [e]
  unfold out0_2
  frame_out
  refine (pay_at _ _ _).trans (Finset.sum_congr rfl fun k _ => congrArg₂ (· * ·) ?_ ?_)
  · blk_ext [iblk, index_at, Products.cols]
  · blk_ext [iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference11Ideal.Read.val_main_v6 x y = Products.nt (Products.cols (N := 2048) 0 (by decide) y) x := by
  funext i
  refine (Cert.Reference11Ideal.Read.val_main_v5_apply x y i).trans ?_
  exact Finset.sum_congr rfl fun k _ => congrArg₂ (· * ·) ((Cert.Reference11Ideal.Read.val_main_v3_apply y _).trans (congrArg y (by blk_ext []))) (congrArg x (by blk_ext []))

/-- Kernel and reference leave the same array. -/
theorem value : algebraic_Kernel11Ideal_Reference11Ideal := by
  intro m g m' g' _ hag
  refine ⟨fun c => (dats m 0 c).arrAt 2 cfg0.N, Cert.Kernel11Ideal.Value.run_blocks m g, ?_⟩
  refine (θ_run _ _ _).mono (fun r h c => ?_) (Cert.Reference11Ideal.Value.run m' g')
  obtain ⟨h0, h1⟩ := hag c
  refine ⟨(h c).1.trans ?_, (h c).2⟩
  rw [Cert.Reference11Ideal.Read.val_main_v6_eq, h0, h1]
  exact (refer c _ _).trans ((final m c).trans (by rw [V_main_arg0, V_main_arg1])).symm

end Cert.Kernel11Ideal.Mm

end
-- ==== Proof.DwAttn.lean ====
/- The gradient of the attention branch's output weights: what one grid point adds, the array that the kernel leaves, and that the
reference leaves the same one. -/
module

public import proofs.«01_k».proof.Proof.Products
public import proofs.«01_k».proof.Proof.Gen.Kernel12Ideal.Value
public import proofs.«01_k».proof.Proof.Gen.Reference12Ideal.Run
public import proofs.«01_k».proof.Proof.Gen.Reference12Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel12Ideal.Mm

open Cert.Kernel12Ideal Cert.Kernel12Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S512x512.Idx → EReal := iblk m c 0 t

/-- The right factor's. -/
abbrev rhs : S512x2048.Idx → EReal := iblk m c 1 t

theorem first_at (a : Vec Ideal S512x512 .bf16) (b : Vec Ideal S512x2048 .bf16) (i : S512x2048.Idx) :
    k0_pay1 (F := Ideal) a b i = Products.tn a b i := by
  pointwise [k0_pay1]
  rfl

theorem next_at (z : Vec Ideal S512x2048 .f32) (a : Vec Ideal S512x512 .bf16) (b : Vec Ideal S512x2048 .bf16) (i : S512x2048.Idx) :
    k0_pay2 (F := Ideal) z a b i = z i + Products.tn a b i := by
  pointwise [k0_pay2]
  rfl

/-- The accumulator after a run's first point. -/
theorem acc_first (h : t.val % 16 = 0) (i : S512x2048.Idx) :
    (outsAt0 m c t.val t.isLt).2 i = Products.tn (lhs m c t) (rhs m c t) i := by
  have ht : t.val < 16 := lt_of_lt_of_eq t.isLt N_0
  rw [outsAt0_A m c t h (by omega) (by omega)]
  frame_out
  exact first_at _ _ i

/-- After a later one. -/
theorem acc_next (h : ¬t.val % 16 = 0) (i : S512x2048.Idx) : (outsAt0 m c t.val t.isLt).2 i
    = (outsAt0 m c (t.val - 1) (Nat.lt_of_le_of_lt (Nat.sub_le _ _) t.isLt)).2 i + Products.tn (lhs m c t) (rhs m c t) i := by
  by_cases h2 : t.val % 16 = 15
  · rw [outsAt0_C m c t h (by omega) h2]
    frame_out
    exact (next_at _ _ _ i).trans (congrArg (fun z : Vec Ideal S512x2048 .f32 => z i + _) (Memref.IsWhole.read_unread _ _))
  · rw [outsAt0_B m c t h (by omega) h2]
    frame_out
    exact (next_at _ _ _ i).trans (congrArg (fun z : Vec Ideal S512x2048 .f32 => z i + _) (Memref.IsWhole.read_unread _ _))

/-- At a run's last point the output's block is the accumulator. -/
theorem out_last (h : t.val % 16 = 15) (i : S512x2048.Idx) : (outsAt0 m c t.val t.isLt).1 i = (outsAt0 m c t.val t.isLt).2 i := by
  rw [outsAt0_C m c t (by omega) (by omega) h]
  frame_out
  rfl

theorem index_at : ∀ t : Fin cfg0.N, win0_0.index t = ![t.val % 16, 0] ∧ win0_1.index t = ![t.val % 16, 1]
    ∧ win0_2.index t = ![0, 0] :=
  (by decide +kernel : ∀ t : Fin grid0.N, _)

/-- The array that the kernel leaves is the product. -/
theorem final : (dats m 0 c).arrAt 2 (cfgs 0).N = Products.tn (V m c main_arg0) (Products.cols (N := 2048) 2048 (by decide) (V m c main_arg1)) := by
  refine (dats m 0 c).arrAt_eq_of_covers 2 _ (by decide +kernel) fun t hf y => ?_
  blk_simp
  rw [after0_2]
  have ht : t.val < 16 := lt_of_lt_of_eq t.isLt N_0
  have h := (flush0_2 t).mp hf
  obtain ⟨r, l, rfl⟩ := Products.pair y
  have e : (win0_2.blk t).view.emb (ix2 r l) = ix2 ⟨0 + r.val, by omega⟩ ⟨0 + l.val, by omega⟩ := by
    blk_ext [index_at t]
  rw [e]
  refine (out_last m c t h _).trans ?_
  refine Products.run_sum (fun n h => (outsAt0 m c n h).2) 16 512 (fun p k i => lhs m c p (ix2 k (i 0)) * rhs m c p (ix2 k (i 1)))
    (fun p h i => acc_first m c p h i) (fun p h i => acc_next m c p h i) t h (ix2 r l) _ fun s k hk => ?_
  refine congrArg₂ (· * ·) ?_ ?_
  · blk_ext [lhs, rhs, iblk, index_at, Products.cols]
  · blk_ext [lhs, rhs, iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference12Ideal.Read.val_main_v7 x y = Products.tn x (Products.cols (N := 2048) 2048 (by decide) y) := by
  funext i
  refine (Cert.Reference12Ideal.Read.val_main_v6_apply x y i).trans ((Cert.Reference12Ideal.Read.val_main_v5_apply x y _).trans ?_)
  exact Finset.sum_congr rfl fun k _ => (mul_comm _ _).trans (congrArg₂ (· * ·) (congrArg x (by blk_ext []))
    ((Cert.Reference12Ideal.Read.val_main_v3_apply y _).trans (congrArg y (by blk_ext []))))

/-- Kernel and reference leave the same array. -/
theorem value : algebraic_Kernel12Ideal_Reference12Ideal := by
  intro m g m' g' _ hag
  refine ⟨fun c => (dats m 0 c).arrAt 2 cfg0.N, Cert.Kernel12Ideal.Value.run_blocks m g, ?_⟩
  refine (θ_run _ _ _).mono (fun r h c => ?_) (Cert.Reference12Ideal.Value.run m' g')
  obtain ⟨h0, h1⟩ := hag c
  refine ⟨(h c).1.trans ?_, (h c).2⟩
  rw [Cert.Reference12Ideal.Read.val_main_v7_eq, h0, h1]
  exact (refer c _ _).trans ((final m c).trans (by rw [V_main_arg0, V_main_arg1])).symm

end Cert.Kernel12Ideal.Mm

end
-- ==== Proof.DAttn.lean ====
/- The gradient at the attention's result: what one grid point writes, the array that the kernel leaves, and that the
reference leaves the same one. -/
module

public import proofs.«01_k».proof.Proof.Products
public import proofs.«01_k».proof.Proof.Gen.Kernel13Ideal.Value
public import proofs.«01_k».proof.Proof.Gen.Reference13Ideal.Run
public import proofs.«01_k».proof.Proof.Gen.Reference13Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel13Ideal.Mm

open Cert.Kernel13Ideal Cert.Kernel13Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S1024x2048 .bf16) (b : Vec Ideal S512x2048 .bf16) (i : S1024x512.Idx) :
    k0_pay1 (F := Ideal) a b i = Products.nt a b i := by
  pointwise [k0_pay1]
  rfl

theorem index_at : ∀ t : Fin cfg0.N, win0_0.index t = ![t.val, 1] ∧ win0_1.index t = ![0, 0]
    ∧ win0_2.index t = ![t.val, 0] :=
  (by decide +kernel : ∀ t : Fin grid0.N, _)

/-- The array that the kernel leaves is the product. -/
theorem final : (dats m 0 c).arrAt 2 (cfgs 0).N = Products.nt (Products.cols (N := 2048) 2048 (by decide) (V m c main_arg1)) (V m c main_arg0) := by
  refine (dats m 0 c).arrAt_eq_of_covers 2 _ (by decide +kernel) fun t hf y => ?_
  blk_simp
  rw [after0_2]
  have ht : t.val < 8 := lt_of_lt_of_eq t.isLt N_0
  obtain ⟨r, l, rfl⟩ := Products.pair y
  have e : (win0_2.blk t).view.emb (ix2 r l) = ix2 ⟨t.val * 1024 + r.val, by omega⟩ ⟨0 + l.val, by omega⟩ := by
    blk_ext [index_at t]
  rw [e]
  unfold out0_2
  frame_out
  refine (pay_at _ _ _).trans (Finset.sum_congr rfl fun k _ => congrArg₂ (· * ·) ?_ ?_)
  · blk_ext [iblk, index_at, Products.cols]
  · blk_ext [iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference13Ideal.Read.val_main_v6 x y = Products.nt (Products.cols (N := 2048) 2048 (by decide) y) x := by
  funext i
  refine (Cert.Reference13Ideal.Read.val_main_v5_apply x y i).trans ?_
  exact Finset.sum_congr rfl fun k _ => congrArg₂ (· * ·) ((Cert.Reference13Ideal.Read.val_main_v3_apply y _).trans (congrArg y (by blk_ext []))) (congrArg x (by blk_ext []))

/-- Kernel and reference leave the same array. -/
theorem value : algebraic_Kernel13Ideal_Reference13Ideal := by
  intro m g m' g' _ hag
  refine ⟨fun c => (dats m 0 c).arrAt 2 cfg0.N, Cert.Kernel13Ideal.Value.run_blocks m g, ?_⟩
  refine (θ_run _ _ _).mono (fun r h c => ?_) (Cert.Reference13Ideal.Value.run m' g')
  obtain ⟨h0, h1⟩ := hag c
  refine ⟨(h c).1.trans ?_, (h c).2⟩
  rw [Cert.Reference13Ideal.Read.val_main_v6_eq, h0, h1]
  exact (refer c _ _).trans ((final m c).trans (by rw [V_main_arg0, V_main_arg1])).symm

end Cert.Kernel13Ideal.Mm

end
-- ==== Proof.UpProj.lean ====
/- The up-projection: what one grid point writes, the array that the kernel leaves, and that the
reference leaves the same one. -/
module

public import proofs.«01_k».proof.Proof.Products
public import proofs.«01_k».proof.Proof.Gen.Kernel14Ideal.Value
public import proofs.«01_k».proof.Proof.Gen.Reference14Ideal.Run
public import proofs.«01_k».proof.Proof.Gen.Reference14Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel14Ideal.Mm

open Cert.Kernel14Ideal Cert.Kernel14Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S2048x2048 .bf16) (b : Vec Ideal S2048x1408 .bf16) (i : S2048x1408.Idx) :
    k0_pay1 (F := Ideal) a b i = Products.nn a b i := by
  pointwise [k0_pay1]
  rfl

theorem index_at : ∀ t : Fin cfg0.N, win0_0.index t = ![t.val / 8, 0] ∧ win0_1.index t = ![0, t.val % 8]
    ∧ win0_2.index t = ![t.val / 8, t.val % 8] :=
  (by decide +kernel : ∀ t : Fin grid0.N, _)

/-- The array that the kernel leaves is the product. -/
theorem final : (dats m 0 c).arrAt 2 (cfgs 0).N = Products.nn (V m c main_arg0) (V m c main_arg1) := by
  refine (dats m 0 c).arrAt_eq_of_covers 2 _ (by decide +kernel) fun t hf y => ?_
  blk_simp
  rw [after0_2]
  have ht : t.val < 32 := lt_of_lt_of_eq t.isLt N_0
  obtain ⟨r, l, rfl⟩ := Products.pair y
  have e : (win0_2.blk t).view.emb (ix2 r l) = ix2 ⟨t.val / 8 * 2048 + r.val, by omega⟩ ⟨t.val % 8 * 1408 + l.val, by omega⟩ := by
    blk_ext [index_at t]
  rw [e]
  unfold out0_2
  frame_out
  refine (pay_at _ _ _).trans (Finset.sum_congr rfl fun k _ => congrArg₂ (· * ·) ?_ ?_)
  · blk_ext [iblk, index_at]
  · blk_ext [iblk, index_at]

/-- The array that the reference leaves is the product too. -/
theorem refer (x : Buf (Elt Ideal) ((c.tc : Thread nD τ).loc main_arg0)) (y : Buf (Elt Ideal) ((c.tc : Thread nD τ).loc main_arg1)) :
    Cert.Reference14Ideal.Read.val_main_v3 x y = Products.nn x y := by
  funext i
  refine (Cert.Reference14Ideal.Read.val_main_v2_apply x y i).trans ?_
  exact Finset.sum_congr rfl fun k _ => congrArg₂ (· * ·) (congrArg x (by blk_ext [])) (congrArg y (by blk_ext []))

/-- Kernel and reference leave the same array. -/
theorem value : algebraic_Kernel14Ideal_Reference14Ideal := by
  intro m g m' g' _ hag
  refine ⟨fun c => (dats m 0 c).arrAt 2 cfg0.N, Cert.Kernel14Ideal.Value.run_blocks m g, ?_⟩
  refine (θ_run _ _ _).mono (fun r h c => ?_) (Cert.Reference14Ideal.Value.run m' g')
  obtain ⟨h0, h1⟩ := hag c
  refine ⟨(h c).1.trans ?_, (h c).2⟩
  rw [Cert.Reference14Ideal.Read.val_main_v3_eq, h0, h1]
  exact (refer c _ _).trans ((final m c).trans (by rw [V_main_arg0, V_main_arg1])).symm

end Cert.Kernel14Ideal.Mm

end
-- ==== Proof.DownProj.lean ====
/- The down-projection, added to the residual: what one grid point adds, the array that the kernel leaves, and that the
reference leaves the same one. -/
module

public import proofs.«01_k».proof.Proof.Products
public import proofs.«01_k».proof.Proof.Gen.Kernel15Ideal.Value
public import proofs.«01_k».proof.Proof.Gen.Reference15Ideal.Run
public import proofs.«01_k».proof.Proof.Gen.Reference15Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel15Ideal.Mm

open Cert.Kernel15Ideal Cert.Kernel15Ideal.Gen Idealize.ShloMosaic Idealize.ShloMosaic.TcCoe Idealize.SL.Sem

variable (m : (ℓ : Loc nD τ sig) → Buf (Elt Ideal) ℓ) (c : Dev nD) (t : Fin cfg0.N)

/-- The left factor's block at a point. -/
abbrev lhs : S1024x2816.Idx → EReal := iblk m c 0 t

/-- The right factor's. -/
abbrev rhs : S2816x1024.Idx → EReal := iblk m c 1 t

/-- The residual's. -/
abbrev res : S1024x1024.Idx → EReal := iblk m c 2 t

theorem first_at (a : Vec Ideal S1024x2816 .bf16) (b : Vec Ideal S2816x1024 .bf16) (i : S1024x1024.Idx) : k0_pay2 (F := Ideal) a b i = Products.nn a b i := by
  pointwise [k0_pay2, k0_pay1]
  rfl

theorem last_at (z x : Vec Ideal S1024x1024 .f32) (a : Vec Ideal S1024x2816 .bf16) (b : Vec Ideal S2816x1024 .bf16) (i : S1024x1024.Idx) :
    k0_pay4 (F := Ideal) a b z x i = x i + (z i + Products.nn a b i) := by
  pointwise [k0_pay4, k0_pay1]
  rfl

/-- A run's sum so far: the accumulator, to which a run's last point adds its part. -/
def sum (n : ℕ) (h : n < cfg0.N) : S1024x1024.Idx → EReal :=
  if n % 2 = 1 then fun i => (outsAt0 m c (n - 1) (Nat.lt_of_le_of_lt (Nat.sub_le _ _) h)).2 i + Products.nn (lhs m c ⟨n, h⟩) (rhs m c ⟨n, h⟩) i
  else (outsAt0 m c n h).2

/-- The sum after a run's first point. -/
theorem sum_first (h : t.val % 2 = 0) (i : S1024x1024.Idx) : sum m c t.val t.isLt i = Products.nn (lhs m c t) (rhs m c t) i := by
  rw [sum, if_neg (by omega), outsAt0_A m c t h (by omega)]
  frame_out
  exact first_at _ _ i

/-- After a later one. -/
theorem sum_next (h : ¬t.val % 2 = 0) (i : S1024x1024.Idx) : sum m c t.val t.isLt i
    = sum m c (t.val - 1) (Nat.lt_of_le_of_lt (Nat.sub_le _ _) t.isLt) i + Products.nn (lhs m c t) (rhs m c t) i := by
  rw [sum, sum, if_pos (by omega), if_neg (by omega)]

/-- At a run's last point the output's block is the residual's with the sum added. -/
theorem out_last (h : t.val % 2 = 1) (i : S1024x1024.Idx) : (outsAt0 m c t.val t.isLt).1 i
    = res m c t i + sum m c t.val t.isLt i := by
  rw [sum, if_pos h, outsAt0_B m c t (by omega) h]
  frame_out
  exact (last_at _ _ _ _ i).trans (congrArg (fun z : Vec Ideal S1024x1024 .f32 => res m c t i + (z i + _)) (Memref.IsWhole.read_unread _ _))

theorem index_at : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The array that the kernel leaves is the residual with the product added. -/
theorem final : (dats m 0 c).arrAt 3 (cfgs 0).N = Products.onto (V m c main_arg2) (Products.nn (V m c main_arg0) (V m c main_arg1)) := by
  refine (dats m 0 c).arrAt_eq_of_covers 3 _ (by decide +kernel) fun t hf y => ?_
  blk_simp
  rw [after0_3]
  have ht : t.val < 32 := lt_of_lt_of_eq t.isLt N_0
  have h := (flush0_3 t).mp hf
  obtain ⟨r, l, rfl⟩ := Products.pair y
  have e : (win0_3.blk t).view.emb (ix2 r l) = ix2 ⟨t.val / 4 * 1024 + r.val, by omega⟩ ⟨t.val / 2 % 2 * 1024 + l.val, by omega⟩ := by
    blk_ext [index_at t]
  rw [e]
  refine (out_last m c t h _).trans (congrArg₂ (· + ·) ?_ ?_)
  · blk_ext [res, iblk, index_at]
  refine Products.run_sum (sum m c) 2 2816 (fun p k i => lhs m c p (ix2 (i 0) k) * rhs m c p (ix2 k (i 1)))
    (fun p h i => sum_first m c p h i) (fun p h i => sum_next m c p h i) t h (ix2 r l) _ fun s k hk => ?_
  refine congrArg₂ (· * ·) ?_ ?_
  · blk_ext [lhs, rhs, iblk, index_at]
  · blk_ext [lhs, rhs, iblk, index_at]

/-- The array that the reference leaves. -/
theorem refer (x : Buf (Elt Ideal) ((c.tc : Thread nD τ).loc main_arg0)) (y : Buf (Elt Ideal) ((c.tc : Thread nD τ).loc main_arg1))
    (z : Buf (Elt Ideal) ((c.tc : Thread nD τ).loc main_arg2)) : Cert.Reference15Ideal.Read.val_main_v3 x y z = Products.onto z (Products.nn x y) := by
  funext i
  refine (Cert.Reference15Ideal.Read.val_main_v3_apply x y z i).trans (congrArg (@HAdd.hAdd EReal EReal EReal _ (z i)) ((Cert.Reference15Ideal.Read.val_main_v2_apply x y i).trans ?_))
  exact Finset.sum_congr rfl fun k _ => congrArg₂ (· * ·) (congrArg x (by blk_ext [])) (congrArg y (by blk_ext []))

/-- Kernel and reference leave the same array. -/
theorem value : algebraic_Kernel15Ideal_Reference15Ideal := by
  intro m g m' g' _ hag
  refine ⟨fun c => (dats m 0 c).arrAt 3 cfg0.N, Cert.Kernel15Ideal.Value.run_blocks m g, ?_⟩
  refine (θ_run _ _ _).mono (fun r h c => ?_) (Cert.Reference15Ideal.Value.run m' g')
  obtain ⟨h0, h1, h2⟩ := hag c
  refine ⟨(h c).1.trans ?_, (h c).2⟩
  rw [Cert.Reference15Ideal.Read.val_main_v3_eq, h0, h1, h2]
  exact (refer c _ _ _).trans ((final m c).trans (by rw [V_main_arg0, V_main_arg1, V_main_arg2])).symm

end Cert.Kernel15Ideal.Mm

end
-- ==== Proof.OutProj.lean ====
/- The output projection, added to the residual: what one grid point writes, the array that the kernel leaves, and that the
reference leaves the same one. -/
module

public import proofs.«01_k».proof.Proof.Products
public import proofs.«01_k».proof.Proof.Gen.Kernel16Ideal.Value
public import proofs.«01_k».proof.Proof.Gen.Reference16Ideal.Run
public import proofs.«01_k».proof.Proof.Gen.Reference16Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel16Ideal.Mm

open Cert.Kernel16Ideal Cert.Kernel16Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S1024x2048 .bf16) (b : Vec Ideal S2048x1024 .bf16) (z : Vec Ideal S1024x1024 .f32) (i : S1024x1024.Idx) :
    k0_pay1 (F := Ideal) a b z i = z i + Products.nn a b i := by
  pointwise [k0_pay1]
  rfl

theorem index_at : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The array that the kernel leaves is the residual with the product added. -/
theorem final : (dats m 0 c).arrAt 3 (cfgs 0).N = Products.onto (V m c main_arg2) (Products.nn (V m c main_arg0) (V m c main_arg1)) := by
  refine (dats m 0 c).arrAt_eq_of_covers 3 _ (by decide +kernel) fun t hf y => ?_
  blk_simp
  rw [after0_3]
  have ht : t.val < 16 := lt_of_lt_of_eq t.isLt N_0
  obtain ⟨r, l, rfl⟩ := Products.pair y
  have e : (win0_3.blk t).view.emb (ix2 r l) = ix2 ⟨t.val / 2 * 1024 + r.val, by omega⟩ ⟨t.val % 2 * 1024 + l.val, by omega⟩ := by
    blk_ext [index_at t]
  rw [e]
  unfold out0_3
  frame_out
  refine (pay_at _ _ _ _).trans (congrArg₂ (· + ·) ?_ (Finset.sum_congr rfl fun k _ => congrArg₂ (· * ·) ?_ ?_))
  · blk_ext [iblk, index_at]
  · blk_ext [iblk, index_at]
  · blk_ext [iblk, index_at]

/-- The array that the reference leaves. -/
theorem refer (x : Buf (Elt Ideal) ((c.tc : Thread nD τ).loc main_arg0)) (y : Buf (Elt Ideal) ((c.tc : Thread nD τ).loc main_arg1))
    (z : Buf (Elt Ideal) ((c.tc : Thread nD τ).loc main_arg2)) : Cert.Reference16Ideal.Read.val_main_v3 x y z = Products.onto z (Products.nn x y) := by
  funext i
  refine (Cert.Reference16Ideal.Read.val_main_v3_apply x y z i).trans (congrArg (@HAdd.hAdd EReal EReal EReal _ (z i)) ((Cert.Reference16Ideal.Read.val_main_v2_apply x y i).trans ?_))
  exact Finset.sum_congr rfl fun k _ => congrArg₂ (· * ·) (congrArg x (by blk_ext [])) (congrArg y (by blk_ext []))

/-- Kernel and reference leave the same array. -/
theorem value : algebraic_Kernel16Ideal_Reference16Ideal := by
  intro m g m' g' _ hag
  refine ⟨fun c => (dats m 0 c).arrAt 3 cfg0.N, Cert.Kernel16Ideal.Value.run_blocks m g, ?_⟩
  refine (θ_run _ _ _).mono (fun r h c => ?_) (Cert.Reference16Ideal.Value.run m' g')
  obtain ⟨h0, h1, h2⟩ := hag c
  refine ⟨(h c).1.trans ?_, (h c).2⟩
  rw [Cert.Reference16Ideal.Read.val_main_v3_eq, h0, h1, h2]
  exact (refer c _ _ _).trans ((final m c).trans (by rw [V_main_arg0, V_main_arg1, V_main_arg2])).symm

end Cert.Kernel16Ideal.Mm

end
-- ==== Proof.PoolProj.lean ====
/- The pooling branch's output projection: what one grid point writes, the array that the kernel leaves, and that the
reference leaves the same one. -/
module

public import proofs.«01_k».proof.Proof.Products
public import proofs.«01_k».proof.Proof.Gen.Kernel17Ideal.Value
public import proofs.«01_k».proof.Proof.Gen.Reference17Ideal.Run
public import proofs.«01_k».proof.Proof.Gen.Reference17Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel17Ideal.Mm

open Cert.Kernel17Ideal Cert.Kernel17Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S1024x1024 .bf16) (b : Vec Ideal S1024x1024 .bf16) (i : S1024x1024.Idx) :
    k0_pay1 (F := Ideal) a b i = Products.nn a b i := by
  pointwise [k0_pay1]
  rfl

theorem index_at : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The array that the kernel leaves is the product. -/
theorem final : (dats m 0 c).arrAt 2 (cfgs 0).N = Products.nn (V m c main_arg0) (V m c main_arg1) := by
  refine (dats m 0 c).arrAt_eq_of_covers 2 _ (by decide +kernel) fun t hf y => ?_
  blk_simp
  rw [after0_2]
  have ht : t.val < 16 := lt_of_lt_of_eq t.isLt N_0
  obtain ⟨r, l, rfl⟩ := Products.pair y
  have e : (win0_2.blk t).view.emb (ix2 r l) = ix2 ⟨t.val / 2 * 1024 + r.val, by omega⟩ ⟨t.val % 2 * 1024 + l.val, by omega⟩ := by
    blk_ext [index_at t]
  rw [e]
  unfold out0_2
  frame_out
  refine (pay_at _ _ _).trans (Finset.sum_congr rfl fun k _ => congrArg₂ (· * ·) ?_ ?_)
  · blk_ext [iblk, index_at]
  · blk_ext [iblk, index_at]

/-- The array that the reference leaves is the product too. -/
theorem refer (x : Buf (Elt Ideal) ((c.tc : Thread nD τ).loc main_arg0)) (y : Buf (Elt Ideal) ((c.tc : Thread nD τ).loc main_arg1)) :
    Cert.Reference17Ideal.Read.val_main_v3 x y = Products.nn x y := by
  funext i
  refine (Cert.Reference17Ideal.Read.val_main_v2_apply x y i).trans ?_
  exact Finset.sum_congr rfl fun k _ => congrArg₂ (· * ·) (congrArg x (by blk_ext [])) (congrArg y (by blk_ext []))

/-- Kernel and reference leave the same array. -/
theorem value : algebraic_Kernel17Ideal_Reference17Ideal := by
  intro m g m' g' _ hag
  refine ⟨fun c => (dats m 0 c).arrAt 2 cfg0.N, Cert.Kernel17Ideal.Value.run_blocks m g, ?_⟩
  refine (θ_run _ _ _).mono (fun r h c => ?_) (Cert.Reference17Ideal.Value.run m' g')
  obtain ⟨h0, h1⟩ := hag c
  refine ⟨(h c).1.trans ?_, (h c).2⟩
  rw [Cert.Reference17Ideal.Read.val_main_v3_eq, h0, h1]
  exact (refer c _ _).trans ((final m c).trans (by rw [V_main_arg0, V_main_arg1])).symm

end Cert.Kernel17Ideal.Mm

end
-- ==== Proof.PoolIn.lean ====
/- The combined projection's columns for the pooling: what one grid point writes, the array that the kernel leaves, and that the
reference leaves the same one. -/
module

public import proofs.«01_k».proof.Proof.Products
public import proofs.«01_k».proof.Proof.Gen.Kernel18Ideal.Value
public import proofs.«01_k».proof.Proof.Gen.Reference18Ideal.Run
public import proofs.«01_k».proof.Proof.Gen.Reference18Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel18Ideal.Mm

open Cert.Kernel18Ideal Cert.Kernel18Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S2048x2048 .bf16) (b : Vec Ideal S2048x512 .bf16) (i : S2048x512.Idx) :
    k0_pay1 (F := Ideal) a b i = Products.nn a b i := by
  pointwise [k0_pay1]
  rfl

theorem index_at : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The array that the kernel leaves is the product. -/
theorem final : (dats m 0 c).arrAt 2 (cfgs 0).N = Products.nn (V m c main_arg0) (Products.cols (N := 1024) 0 (by decide) (V m c main_arg1)) := by
  refine (dats m 0 c).arrAt_eq_of_covers 2 _ (by decide +kernel) fun t hf y => ?_
  blk_simp
  rw [after0_2]
  have ht : t.val < 8 := lt_of_lt_of_eq t.isLt N_0
  obtain ⟨r, l, rfl⟩ := Products.pair y
  have e : (win0_2.blk t).view.emb (ix2 r l) = ix2 ⟨t.val / 2 * 2048 + r.val, by omega⟩ ⟨t.val % 2 * 512 + l.val, by omega⟩ := by
    blk_ext [index_at t]
  rw [e]
  unfold out0_2
  frame_out
  refine (pay_at _ _ _).trans (Finset.sum_congr rfl fun k _ => congrArg₂ (· * ·) ?_ ?_)
  · blk_ext [iblk, index_at, Products.cols]
  · blk_ext [iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference18Ideal.Read.val_main_v3 x y = Products.nn x (Products.cols (N := 1024) 0 (by decide) y) := by
  funext i
  refine (Cert.Reference18Ideal.Read.val_main_v3_apply x y i).trans ((Cert.Reference18Ideal.Read.val_main_v2_apply x y _).trans ?_)
  exact Finset.sum_congr rfl fun k _ => congrArg₂ (· * ·) (congrArg x (by blk_ext [])) (congrArg y (by blk_ext []))

/-- Kernel and reference leave the same array. -/
theorem value : algebraic_Kernel18Ideal_Reference18Ideal := by
  intro m g m' g' _ hag
  refine ⟨fun c => (dats m 0 c).arrAt 2 cfg0.N, Cert.Kernel18Ideal.Value.run_blocks m g, ?_⟩
  refine (θ_run _ _ _).mono (fun r h c => ?_) (Cert.Reference18Ideal.Value.run m' g')
  obtain ⟨h0, h1⟩ := hag c
  refine ⟨(h c).1.trans ?_, (h c).2⟩
  rw [Cert.Reference18Ideal.Read.val_main_v3_eq, h0, h1]
  exact (refer c _ _).trans ((final m c).trans (by rw [V_main_arg0, V_main_arg1])).symm

end Cert.Kernel18Ideal.Mm

end
-- ==== Proof.HeadsIn.lean ====
/- The combined projection's columns for the queries, keys and values: what one grid point writes, the array that the kernel leaves, and that the
reference leaves the same one. -/
module

public import proofs.«01_k».proof.Proof.Products
public import proofs.«01_k».proof.Proof.Gen.Kernel19Ideal.Value
public import proofs.«01_k».proof.Proof.Gen.Reference19Ideal.Run
public import proofs.«01_k».proof.Proof.Gen.Reference19Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel19Ideal.Mm

open Cert.Kernel19Ideal Cert.Kernel19Ideal.Gen Idealize.ShloMosaic Idealize.ShloMosaic.TcCoe Idealize.SL.Sem

variable (m : (ℓ : Loc nD τ sig) → Buf (Elt Ideal) ℓ) (c : Dev nD) (t : Fin cfg0.N)

theorem pay_at (a : Vec Ideal S2048x2048 .bf16) (b : Vec Ideal S2048x512 .bf16) (i : S2048x512.Idx) :
    k0_pay1 (F := Ideal) a b i = Products.nn a b i := by
  pointwise [k0_pay1]
  rfl

theorem index_at : ∀ t : Fin cfg0.N, win0_0.index t = ![t.val / 9, 0] ∧ win0_1.index t = ![0, 2 + t.val % 9]
    ∧ win0_2.index t = ![t.val / 9, t.val % 9] :=
  (by decide +kernel : ∀ t : Fin grid0.N, _)

/-- The array that the kernel leaves is the product. -/
theorem final : (dats m 0 c).arrAt 2 (cfgs 0).N = Products.nn (V m c main_arg0) (Products.cols (N := 4608) 1024 (by decide) (V m c main_arg1)) := by
  refine (dats m 0 c).arrAt_eq_of_covers 2 _ (by decide +kernel) fun t hf y => ?_
  blk_simp
  rw [after0_2]
  have ht : t.val < 36 := lt_of_lt_of_eq t.isLt N_0
  obtain ⟨r, l, rfl⟩ := Products.pair y
  have e : (win0_2.blk t).view.emb (ix2 r l) = ix2 ⟨t.val / 9 * 2048 + r.val, by omega⟩ ⟨t.val % 9 * 512 + l.val, by omega⟩ := by
    blk_ext [index_at t]
  rw [e]
  unfold out0_2
  frame_out
  refine (pay_at _ _ _).trans (Finset.sum_congr rfl fun k _ => congrArg₂ (· * ·) ?_ ?_)
  · blk_ext [iblk, index_at, Products.cols]
  · blk_ext [iblk, index_at, Products.cols]

/-- The array that the reference leaves is the product too. -/
theorem refer (x : Buf (Elt Ideal) ((c.tc : Thread nD τ).loc main_arg0)) (y : Buf (Elt Ideal) ((c.tc : Thread nD τ).loc main_arg1)) :
    Cert.Reference19Ideal.Read.val_main_v4 x y = Products.nn x (Products.cols (N := 4608) 1024 (by decide) y) := by
  funext i
  refine (Cert.Reference19Ideal.Read.val_main_v3_apply x y i).trans ((Cert.Reference19Ideal.Read.val_main_v2_apply x y _).trans ?_)
  exact Finset.sum_congr rfl fun k _ => congrArg₂ (· * ·) (congrArg x (by blk_ext [])) (congrArg y (by blk_ext []))

/-- Kernel and reference leave the same array. -/
theorem value : algebraic_Kernel19Ideal_Reference19Ideal := by
  intro m g m' g' _ hag
  refine ⟨fun c => (dats m 0 c).arrAt 2 cfg0.N, Cert.Kernel19Ideal.Value.run_blocks m g, ?_⟩
  refine (θ_run _ _ _).mono (fun r h c => ?_) (Cert.Reference19Ideal.Value.run m' g')
  obtain ⟨h0, h1⟩ := hag c
  refine ⟨(h c).1.trans ?_, (h c).2⟩
  rw [Cert.Reference19Ideal.Read.val_main_v4_eq, h0, h1]
  exact (refer c _ _).trans ((final m c).trans (by rw [V_main_arg0, V_main_arg1])).symm

end Cert.Kernel19Ideal.Mm

end
-- ==== Proof.GatesIn.lean ====
/- The gates: what one grid point writes, the array that the kernel leaves, and that the reference leaves the same one. -/
module

public import proofs.«01_k».proof.Proof.Products
public import proofs.«01_k».proof.Proof.Gen.Kernel20Ideal.Value
public import proofs.«01_k».proof.Proof.Gen.Reference20Ideal.Run
public import proofs.«01_k».proof.Proof.Gen.Reference20Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel20Ideal.Mm

open Cert.Kernel20Ideal Cert.Kernel20Ideal.Gen Idealize.ShloMosaic Idealize.ShloMosaic.TcCoe Idealize.SL.Sem

variable (m : (ℓ : Loc nD τ sig) → Buf (Elt Ideal) ℓ) (c : Dev nD) (t : Fin cfg0.N)

/-- The logistic function. -/
def logistic (x : EReal) : EReal := Ideal.div 1 (1 + Ideal.exp (-x))

theorem pay_at (a : Vec Ideal S2048x2048 .bf16) (b : Vec Ideal S2048x512 .bf16) (z : Vec Ideal S1x512 .f32) (i : S2048x512.Idx) :
    k0_pay1 (F := Ideal) a b z i = logistic (Products.nn a b i + z (ix2 0 (i 1))) := by
  pointwise [k0_pay1]
  rw [zero_sub]
  rfl

theorem index_at : ∀ t : Fin cfg0.N, win0_0.index t = ![t.val / 8, 0] ∧ win0_1.index t = ![0, 11 + t.val % 8]
    ∧ win0_2.index t = ![0, t.val % 8] ∧ win0_3.index t = ![t.val / 8, t.val % 8] :=
  (by decide +kernel : ∀ t : Fin grid0.N, _)

/-- The gates as one function of the arguments. -/
def gates (x : S8192x2048.Idx → EReal) (y : S2048x9728.Idx → EReal) (z : S1x4096.Idx → EReal) : S8192x4096.Idx → EReal :=
  fun i => logistic (Products.nn x (Products.cols (N := 4096) 5632 (by decide) y) i + z (ix2 0 (i 1)))

/-- The array that the kernel leaves. -/
theorem final : (dats m 0 c).arrAt 3 (cfgs 0).N = gates (V m c main_arg0) (V m c main_arg1) (V m c main_arg2) := by
  refine (dats m 0 c).arrAt_eq_of_covers 3 _ (by decide +kernel) fun t hf y => ?_
  blk_simp
  rw [after0_3]
  have ht : t.val < 32 := lt_of_lt_of_eq t.isLt N_0
  obtain ⟨r, l, rfl⟩ := Products.pair y
  have e : (win0_3.blk t).view.emb (ix2 r l) = ix2 ⟨t.val / 8 * 2048 + r.val, by omega⟩ ⟨t.val % 8 * 512 + l.val, by omega⟩ := by
    blk_ext [index_at t]
  rw [e]
  unfold out0_3
  frame_out
  refine (pay_at _ _ _ _).trans (congrArg logistic (congrArg₂ (· + ·) (Finset.sum_congr rfl fun k _ => congrArg₂ (· * ·) ?_ ?_) ?_))
  · blk_ext [iblk, index_at, Products.cols]
  · blk_ext [iblk, index_at, Products.cols]
  · blk_ext [iblk, index_at]

/-- The array that the reference leaves. -/
theorem refer (x : Buf (Elt Ideal) ((c.tc : Thread nD τ).loc main_arg0)) (y : Buf (Elt Ideal) ((c.tc : Thread nD τ).loc main_arg1))
    (z : Buf (Elt Ideal) ((c.tc : Thread nD τ).loc main_arg2)) : Cert.Reference20Ideal.Read.val_main_v14 x y z = gates x y z := by
  funext i
  have hs : Cert.Reference20Ideal.Read.val_main_v7 x y z i = Products.nn x (Products.cols (N := 4096) 5632 (by decide) y) i + z (ix2 0 (i 1)) := by
    refine congrArg₂ (· + ·) ((Cert.Reference20Ideal.Read.val_main_v3_apply x y i).trans ((Cert.Reference20Ideal.Read.val_main_v2_apply x y _).trans ?_)) ?_
    · exact Finset.sum_congr rfl fun k _ => congrArg₂ (· * ·) (congrArg x (by blk_ext [])) (congrArg y (by blk_ext []))
    · refine (Cert.Reference20Ideal.Read.val_main_v6_apply z i).trans ((Cert.Reference20Ideal.Read.val_main_v5_apply z _).trans ((Cert.Reference20Ideal.Read.val_main_v4_apply z _).trans (congrArg z ?_)))
      blk_ext []
  unfold gates
  rw [← hs]
  refine congrArg₂ Ideal.div (Cert.Reference20Ideal.Read.val_main_v12_apply (F := Ideal) i |>.trans Ideal.ofBits_one_f32) (congrArg₂ (· + ·) (Cert.Reference20Ideal.Read.val_main_v10_apply (F := Ideal) i |>.trans Ideal.ofBits_one_f32) rfl)

/-- Kernel and reference leave the same array. -/
theorem value : algebraic_Kernel20Ideal_Reference20Ideal := by
  intro m g m' g' _ hag
  refine ⟨fun c => (dats m 0 c).arrAt 3 cfg0.N, Cert.Kernel20Ideal.Value.run_blocks m g, ?_⟩
  refine (θ_run _ _ _).mono (fun r h c => ?_) (Cert.Reference20Ideal.Value.run m' g')
  obtain ⟨h0, h1, h2⟩ := hag c
  refine ⟨(h c).1.trans ?_, (h c).2⟩
  rw [Cert.Reference20Ideal.Read.val_main_v14_eq, h0, h1, h2]
  exact (refer c _ _ _).trans ((final m c).trans (by rw [V_main_arg0, V_main_arg1, V_main_arg2])).symm

end Cert.Kernel20Ideal.Mm

end
-- ==== Proof.AttnMix.lean ====
/- The attention branch's output projection and the mixture of the two branches: what one grid point writes, the arrays that
the kernel leaves, and that the reference leaves the same ones. -/
module

public import proofs.«01_k».proof.Proof.Products
public import proofs.«01_k».proof.Proof.Gen.Kernel21Ideal.Value
public import proofs.«01_k».proof.Proof.Gen.Reference21Ideal.Run
public import proofs.«01_k».proof.Proof.Gen.Reference21Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel21Ideal.Mm

open Cert.Kernel21Ideal Cert.Kernel21Ideal.Gen Idealize.ShloMosaic Idealize.ShloMosaic.TcCoe Idealize.SL.Sem

variable (m : (ℓ : Loc nD τ sig) → Buf (Elt Ideal) ℓ) (c : Dev nD) (t : Fin cfg0.N)

theorem first_at (a : Vec Ideal S1024x512 .bf16) (b : Vec Ideal S512x1024 .bf16) (i : S1024x1024.Idx) :
    k0_pay2 (F := Ideal) a b i = Products.nn a b i := by
  pointwise [k0_pay2, k0_pay1]
  rfl

theorem second_at (a : Vec Ideal S1024x512 .bf16) (b : Vec Ideal S512x1024 .bf16) (p q r : Vec Ideal S1024x1024 .bf16) (i : S1024x1024.Idx) :
    k0_pay3 (F := Ideal) a b p q r i = p i * q i + r i * Products.nn a b i := by
  pointwise [k0_pay3, k0_pay1]
  rfl

theorem index_at : ∀ t : Fin cfg0.N, win0_0.index t = ![t.val / 2, 0] ∧ win0_1.index t = ![0, t.val % 2]
    ∧ win0_2.index t = ![t.val / 2, t.val % 2] ∧ win0_3.index t = ![t.val / 2, 2 + t.val % 2] ∧ win0_4.index t = ![t.val / 2, t.val % 2]
    ∧ win0_5.index t = ![t.val / 2, t.val % 2] ∧ win0_6.index t = ![t.val / 2, t.val % 2] :=
  (by decide +kernel : ∀ t : Fin grid0.N, _)

/-- The first array that the kernel leaves is the product. -/
theorem final_first : (dats m 0 c).arrAt 5 (cfgs 0).N = Products.nn (V m c main_arg0) (V m c main_arg1) := by
  refine (dats m 0 c).arrAt_eq_of_covers 5 _ (by decide +kernel) fun t hf y => ?_
  blk_simp
  rw [after0_5]
  have ht : t.val < 16 := lt_of_lt_of_eq t.isLt N_0
  obtain ⟨r, l, rfl⟩ := Products.pair y
  have e : (win0_5.blk t).view.emb (ix2 r l) = ix2 ⟨t.val / 2 * 1024 + r.val, by omega⟩ ⟨t.val % 2 * 1024 + l.val, by omega⟩ := by
    blk_ext [index_at t]
  rw [e]
  unfold out0_5
  frame_out
  refine (first_at _ _ _).trans (Finset.sum_congr rfl fun k _ => congrArg₂ (· * ·) ?_ ?_)
  · blk_ext [iblk, index_at]
  · blk_ext [iblk, index_at]

/-- Two branches, each under its half of the gates. -/
def mixture (p : S8192x2048.Idx → EReal) (y : S8192x2048.Idx → EReal) (g : S8192x4096.Idx → EReal) : S8192x2048.Idx → EReal :=
  fun i => Products.cols (N := 2048) 0 (by decide) g i * p i + Products.cols (N := 2048) 2048 (by decide) g i * y i

/-- The second array is the mixture. -/
theorem final_second : (dats m 0 c).arrAt 6 (cfgs 0).N
    = mixture (V m c main_arg3) (Products.nn (V m c main_arg0) (V m c main_arg1)) (V m c main_arg2) := by
  refine (dats m 0 c).arrAt_eq_of_covers 6 _ (by decide +kernel) fun t hf y => ?_
  blk_simp
  rw [after0_6]
  have ht : t.val < 16 := lt_of_lt_of_eq t.isLt N_0
  obtain ⟨r, l, rfl⟩ := Products.pair y
  have e : (win0_6.blk t).view.emb (ix2 r l) = ix2 ⟨t.val / 2 * 1024 + r.val, by omega⟩ ⟨t.val % 2 * 1024 + l.val, by omega⟩ := by
    blk_ext [index_at t]
  rw [e]
  unfold out0_6
  frame_out
  refine (second_at _ _ _ _ _ _).trans (congrArg₂ (· + ·) (congrArg₂ (· * ·) ?_ ?_) (congrArg₂ (· * ·) ?_ (Finset.sum_congr rfl fun k _ => congrArg₂ (· * ·) ?_ ?_)))
  · blk_ext [iblk, index_at, Products.cols]
  · blk_ext [iblk, index_at]
  · blk_ext [iblk, index_at, Products.cols]
  · blk_ext [iblk, index_at]
  · blk_ext [iblk, index_at]

variable (x : Buf (Elt Ideal) ((c.tc : Thread nD τ).loc main_arg0)) (y : Buf (Elt Ideal) ((c.tc : Thread nD τ).loc main_arg1))
  (g : Buf (Elt Ideal) ((c.tc : Thread nD τ).loc main_arg2)) (p : Buf (Elt Ideal) ((c.tc : Thread nD τ).loc main_arg3))

/-- The first array that the reference leaves. -/
theorem refer_first : Cert.Reference21Ideal.Read.val_main_v2 x y = Products.nn x y := by
  funext i
  refine (Cert.Reference21Ideal.Read.val_main_v2_apply x y i).trans ?_
  exact Finset.sum_congr rfl fun k _ => congrArg₂ (· * ·) (congrArg x (by blk_ext [])) (congrArg y (by blk_ext []))

/-- The second. -/
theorem refer_second : Cert.Reference21Ideal.Read.val_main_v12 x y g p = mixture p (Products.nn x y) g := by
  funext i
  refine congrArg₂ (· + ·) (congrArg₂ (· * ·) ?_ rfl) (congrArg₂ (· * ·) ?_ (congrFun (refer_first c x y) i))
  · exact (Cert.Reference21Ideal.Read.val_main_v3_apply g i).trans (congrArg g (by blk_ext []))
  · exact (Cert.Reference21Ideal.Read.val_main_v7_apply g i).trans (congrArg g (by blk_ext []))

/-- Kernel and reference leave the same arrays. -/
theorem value : algebraic_Kernel21Ideal_Reference21Ideal := by
  intro m g m' g' _ hag
  refine ⟨fun c => (dats m 0 c).arrAt 5 cfg0.N, fun c => (dats m 0 c).arrAt 6 cfg0.N, Cert.Kernel21Ideal.Value.run_blocks m g, ?_⟩
  refine (θ_run _ _ _).mono (fun r h c => ?_) (Cert.Reference21Ideal.Value.run m' g')
  obtain ⟨h0, h1, h2, h3⟩ := hag c
  obtain ⟨r0, r1, k⟩ := h c
  refine ⟨r0.trans ?_, r1.trans ?_, k⟩
  · rw [Cert.Reference21Ideal.Read.val_main_v11_eq, h0, h1]
    exact (refer_first c _ _).trans ((final_first m c).trans (by rw [V_main_arg0, V_main_arg1])).symm
  · rw [Cert.Reference21Ideal.Read.val_main_v12_eq, h0, h1, h2, h3]
    exact (refer_second c _ _ _ _).trans ((final_second m c).trans (by rw [V_main_arg0, V_main_arg1, V_main_arg2, V_main_arg3])).symm

end Cert.Kernel21Ideal.Mm

end
-- ==== Proof.GateBwd.lean ====
/- The call of the gates' gradients: what one grid point writes, the arrays that the kernel leaves, and that the reference
leaves the same ones. -/
module

public import proofs.«01_k».proof.Proof.Products
public import proofs.«01_k».proof.Proof.Slope
public import proofs.«01_k».proof.Proof.Gen.Kernel22Ideal.Frame
public import proofs.«01_k».proof.Proof.Gen.Reference22Ideal.Run
public import proofs.«01_k».proof.Proof.Gen.Reference22Ideal.Read
public import proofs.«01_k».proof.Defs
import Idealize.ShloMosaic.Lib.Pipeline.ValueKit
import Idealize.ShloMosaic.Lib.Pipeline.ReadBack
import Idealize.ShloMosaic.Lib.StableHlo.RunRead
import Idealize.ShloMosaic.Lib.KernelVsHost

@[expose] public section

set_option maxRecDepth 16384

noncomputable section

namespace Cert.Kernel22Ideal.Mm

open Cert.Kernel22Ideal Cert.Kernel22Ideal.Gen Idealize.ShloMosaic Idealize.ShloMosaic.TcCoe Idealize.SL.Sem

/-- Arrays of the mixed rows' width, and of both gates' width. -/
abbrev Narrow : Type := (⟨2, ![8192, 2048]⟩ : Shape).Idx → EReal

@[inherit_doc Narrow]
abbrev Wide : Type := (⟨2, ![8192, 4096]⟩ : Shape).Idx → EReal

/-- The column of a mixed row that a gate's column belongs to. -/
def half (l : Fin 4096) : Fin 2048 := ⟨l.val % 2048, Nat.mod_lt _ (by decide)⟩

/-- The gradient of what a gate multiplies. -/
def through (d : Narrow) (g : Wide) : Wide := fun i => d (ix2 (i 0) (half (i 1))) * g i

/-- What a gate multiplies: the first half's gates the one array, the second half's the other. -/
def driven (p a : Narrow) : Wide := fun i => if (i 1).val < 2048 then p (ix2 (i 0) (half (i 1))) else a (ix2 (i 0) (half (i 1)))

/-- The gradient of what a gate is the sigmoid of. -/
def before (d : Narrow) (g : Wide) (p a : Narrow) : Wide := fun i =>
  d (ix2 (i 0) (half (i 1))) * driven p a i * g i * (1 - g i)

/-- Summed over the rows. -/
def bias (d : Narrow) (g : Wide) (p a : Narrow) : (⟨2, ![1, 4096]⟩ : Shape).Idx → EReal := fun i => ∑ s, before d g p a (ix2 s (i 1))

variable (m : (ℓ : Loc nD τ sig) → Buf (Elt Ideal) ℓ) (c : Dev nD) (t : Fin cfg0.N)

/-- A block of a point. -/
abbrev Blk : Type := (⟨2, ![2048, 512]⟩ : Shape).Idx → EReal

/-- The blocks a point reads. -/
abbrev dBlk : Blk := iblk m c 0 t

@[inherit_doc dBlk]
abbrev gBlk : Blk := iblk m c 1 t

@[inherit_doc dBlk]
abbrev yBlk : Blk := if t.val < 16 then iblk m c 2 t else iblk m c 3 t

/-- A point's gradient of what the gates are the sigmoid of. -/
def beforeBlk (d g y : Blk) : Blk := fun i => d i * y i * g i * (1 - g i)

theorem through_at (d g : Vec Ideal S2048x512 .bf16) (r : Fin 2048) (l : Fin 512) :
    k0_pay4 (F := Ideal) d g (ix2 r l) = (d (ix2 r l) : EReal) * (g (ix2 r l) : EReal) := by
  pointwise [k0_pay4, k0_pay2, k0_pay3]

theorem before_at (d g y : Vec Ideal S2048x512 .bf16) (r : Fin 2048) (l : Fin 512) :
    k0_pay5 (F := Ideal) d g y (ix2 r l) = beforeBlk d g y (ix2 r l) := by
  pointwise [k0_pay5, k0_pay2, k0_pay3]
  rfl

theorem bias_at (d g y : Vec Ideal S2048x512 .bf16) (z : Vec Ideal S1x512 .f32) (l : Fin 512) :
    k0_pay7 (F := Ideal) d g y z (ix2 0 l) = z (ix2 0 l) + ∑ s, beforeBlk d g y (ix2 s l) := by
  pointwise [k0_pay7]
  simp only [before_at]

theorem reset_at (l : Fin 512) : k0_pay1 (F := Ideal) (ix2 0 l) = 0 := by pointwise [k0_pay1]

/-- The three results after a point. -/
theorem out_through (r : Fin 2048) (l : Fin 512) :
    (outsAt0 m c t.val t.isLt).1 (ix2 r l) = dBlk m c t (ix2 r l) * gBlk m c t (ix2 r l) := by
  by_cases h : t.val % 4 = 0 <;> by_cases k : t.val < 16
  · rw [outsAt0_A m c t h k (by omega)]
    frame_out
    exact through_at _ _ r l
  · rw [outsAt0_C m c t h k (by omega)]
    frame_out
    exact through_at _ _ r l
  · rw [outsAt0_B m c t h k (by omega)]
    frame_out
    exact through_at _ _ r l
  · rw [outsAt0_D m c t h k (by omega)]
    frame_out
    exact through_at _ _ r l

@[inherit_doc out_through]
theorem out_before (r : Fin 2048) (l : Fin 512) :
    (outsAt0 m c t.val t.isLt).2.1 (ix2 r l) = beforeBlk (dBlk m c t) (gBlk m c t) (yBlk m c t) (ix2 r l) := by
  by_cases h : t.val % 4 = 0 <;> by_cases k : t.val < 16
  · rw [outsAt0_A m c t h k (by omega), yBlk, if_pos k]
    frame_out
    exact before_at _ _ _ r l
  · rw [outsAt0_C m c t h k (by omega), yBlk, if_neg k]
    frame_out
    exact before_at _ _ _ r l
  · rw [outsAt0_B m c t h k (by omega), yBlk, if_pos k]
    frame_out
    exact before_at _ _ _ r l
  · rw [outsAt0_D m c t h k (by omega), yBlk, if_neg k]
    frame_out
    exact before_at _ _ _ r l

@[inherit_doc out_through]
theorem bias_first (h : t.val % 4 = 0) (l : Fin 512) :
    (outsAt0 m c t.val t.isLt).2.2 (ix2 0 l) = ∑ s, beforeBlk (dBlk m c t) (gBlk m c t) (yBlk m c t) (ix2 s l) := by
  by_cases k : t.val < 16
  · rw [outsAt0_A m c t h k (by omega), yBlk, if_pos k]
    frame_out
    refine (bias_at _ _ _ _ l).trans ?_
    rw [reset_at]
    exact zero_add _
  · rw [outsAt0_C m c t h k (by omega), yBlk, if_neg k]
    frame_out
    refine (bias_at _ _ _ _ l).trans ?_
    rw [reset_at]
    exact zero_add _

@[inherit_doc out_through]
theorem bias_next (h : ¬t.val % 4 = 0) (l : Fin 512) : (outsAt0 m c t.val t.isLt).2.2 (ix2 0 l)
    = (outsAt0 m c (t.val - 1) (Nat.lt_of_le_of_lt (Nat.sub_le _ _) t.isLt)).2.2 (ix2 0 l)
      + ∑ s, beforeBlk (dBlk m c t) (gBlk m c t) (yBlk m c t) (ix2 s l) := by
  by_cases k : t.val < 16
  · rw [outsAt0_B m c t h k (by omega), yBlk, if_pos k]
    frame_out
    exact bias_at _ _ _ _ l
  · rw [outsAt0_D m c t h k (by omega), yBlk, if_neg k]
    frame_out
    exact bias_at _ _ _ _ l

theorem index_at : ∀ t : Fin cfg0.N, win0_0.index t = ![t.val % 4, t.val / 4 % 4] ∧ win0_1.index t = ![t.val % 4, t.val / 4]
    ∧ win0_2.index t = ![t.val % 4, min (t.val / 4) 3] ∧ win0_3.index t = ![t.val % 4, t.val / 4 - 4]
    ∧ win0_4.index t = ![t.val % 4, t.val / 4] ∧ win0_5.index t = ![t.val % 4, 11 + t.val / 4] ∧ win0_6.index t = ![0, t.val / 4] :=
  (by decide +kernel : ∀ t : Fin grid0.N, _)

theorem lt_points : t.val < 32 := lt_of_lt_of_eq t.isLt N_0

/-- The row and the column of the arrays at which a point's block holds an element. -/
def row (s : Fin 2048) : Fin 8192 := ⟨t.val % 4 * 2048 + s.val, by omega⟩

@[inherit_doc row]
def col (l : Fin 512) : Fin 4096 := ⟨t.val / 4 * 512 + l.val, by have := lt_points t; omega⟩

/-- The arrays. -/
abbrev dAll : Narrow := V m c main_arg0

@[inherit_doc dAll]
abbrev gAll : Wide := V m c main_v8

@[inherit_doc dAll]
abbrev pAll : Narrow := V m c main_arg3

@[inherit_doc dAll]
abbrev aAll : Narrow := V m c main_arg4

theorem half_col (l : Fin 512) : (half (col t l)).val = t.val / 4 % 4 * 512 + l.val := by
  have := lt_points t
  show (t.val / 4 * 512 + l.val) % 2048 = _
  omega

theorem d_at (s : Fin 2048) (l : Fin 512) : dBlk m c t (ix2 s l) = dAll m c (ix2 (row t s) (half (col t l))) := by
  have e : half (col t l) = ⟨t.val / 4 % 4 * 512 + l.val, by omega⟩ := Fin.ext (half_col t l)
  rw [e]
  blk_ext [dBlk, iblk, index_at, row]

theorem g_at (s : Fin 2048) (l : Fin 512) : gBlk m c t (ix2 s l) = gAll m c (ix2 (row t s) (col t l)) := by
  blk_ext [gBlk, iblk, index_at, row, col]

theorem y_at (s : Fin 2048) (l : Fin 512) : yBlk m c t (ix2 s l) = driven (pAll m c) (aAll m c) (ix2 (row t s) (col t l)) := by
  have ht := lt_points t
  have e : half (col t l) = ⟨t.val / 4 % 4 * 512 + l.val, by omega⟩ := Fin.ext (half_col t l)
  show _ = if t.val / 4 * 512 + l.val < 2048 then pAll m c (ix2 (row t s) (half (col t l))) else aAll m c (ix2 (row t s) (half (col t l)))
  rw [e]
  by_cases k : t.val < 16
  · rw [yBlk, if_pos k, if_pos (by omega)]
    have q : (⟨t.val / 4 % 4 * 512 + l.val, by omega⟩ : Fin 2048) = ⟨min (t.val / 4) 3 * 512 + l.val, by omega⟩ := Fin.ext (show t.val / 4 % 4 * 512 + l.val = min (t.val / 4) 3 * 512 + l.val by omega)
    rw [q]
    blk_ext [iblk, index_at, row]
  · rw [yBlk, if_neg k, if_neg (by omega)]
    have q : (⟨t.val / 4 % 4 * 512 + l.val, by omega⟩ : Fin 2048) = ⟨(t.val / 4 - 4) * 512 + l.val, by omega⟩ := Fin.ext (show t.val / 4 % 4 * 512 + l.val = (t.val / 4 - 4) * 512 + l.val by omega)
    rw [q]
    blk_ext [iblk, index_at, row]

theorem before_blk (s : Fin 2048) (l : Fin 512) : beforeBlk (dBlk m c t) (gBlk m c t) (yBlk m c t) (ix2 s l)
    = before (dAll m c) (gAll m c) (pAll m c) (aAll m c) (ix2 (row t s) (col t l)) := by
  rw [beforeBlk, d_at, g_at, y_at]
  rfl

/-- The first array that the kernel leaves. -/
theorem final_through : (dats m 0 c).arrAt 4 (cfgs 0).N = through (dAll m c) (gAll m c) := by
  refine (dats m 0 c).arrAt_eq_of_covers 4 _ (by decide +kernel) fun t hf y => ?_
  blk_simp
  rw [after0_4]
  obtain ⟨r, l, rfl⟩ := Products.pair y
  have e : (win0_4.blk t).view.emb (ix2 r l) = ix2 (row t r) (col t l) := by
    blk_ext [index_at t, row, col]
  rw [e]
  exact (out_through m c t r l).trans (congrArg₂ (· * ·) (d_at m c t r l) (g_at m c t r l))

/-- What the second holds in the columns that the kernel writes. -/
def placed (b : Wide) : (⟨2, ![8192, 9728]⟩ : Shape).Idx → EReal := fun i =>
  b (ix2 (i 0) ⟨(i 1).val - 5632, by have : (i 1).val < 9728 := (i 1).isLt; omega⟩)

/-- The second. -/
theorem final_before : (dats m 0 c).arrAt 5 (cfgs 0).N
    = fun i => if 11 ≤ (i 1).val / 512 then placed (before (dAll m c) (gAll m c) (pAll m c) (aAll m c)) i else (dats m 0 c).A 5 i := by
  refine (dats m 0 c).arrAt_eq_of_coversWhere 5 _ (fun β => 11 ≤ β (1 : Fin 2)) (by decide +kernel) (fun t hf y => ?_) (fun j => Iff.rfl)
  blk_simp
  rw [after0_5]
  obtain ⟨r, l, rfl⟩ := Products.pair y
  have e : (win0_5.blk t).view.emb (ix2 r l) = ix2 (row t r) ⟨(11 + t.val / 4) * 512 + l.val, by have := lt_points t; omega⟩ := by
    blk_ext [index_at t, row]
  rw [e]
  refine (out_before m c t r l).trans ((before_blk m c t r l).trans ?_)
  refine congrArg (fun q => before (dAll m c) (gAll m c) (pAll m c) (aAll m c) (ix2 (row t r) q)) (Fin.ext ?_)
  show t.val / 4 * 512 + l.val = (11 + t.val / 4) * 512 + l.val - 5632
  omega

theorem lone {N : ℕ} (y : (⟨2, ![1, N]⟩ : Shape).Idx) : ∃ l : Fin N, y = ix2 0 l := by
  obtain ⟨r, l, rfl⟩ := Products.pair (M := 1) (N := N) y
  exact ⟨l, by rw [Subsingleton.elim (α := Fin 1) r 0]⟩

/-- The third. -/
theorem final_bias : (dats m 0 c).arrAt 6 (cfgs 0).N = bias (dAll m c) (gAll m c) (pAll m c) (aAll m c) := by
  refine (dats m 0 c).arrAt_eq_of_covers 6 _ (by decide +kernel) fun t hf y => ?_
  blk_simp
  rw [after0_6]
  have h := (flush0_6 t).mp hf
  obtain ⟨l, rfl⟩ := lone y
  have e : (win0_6.blk t).view.emb (ix2 0 l) = ix2 0 (col t l) := by
    blk_ext [index_at t, col]
  rw [e]
  refine Products.run_sum (fun n h l => (outsAt0 m c n h).2.2 (ix2 0 l)) 4 2048
    (fun p s l => beforeBlk (dBlk m c p) (gBlk m c p) (yBlk m c p) (ix2 s l))
    (fun p h l => bias_first m c p h l) (fun p h l => bias_next m c p h l) t h l _ fun s k hk => ?_
  refine (before_blk m c _ k l).trans ?_
  refine congrArg (before (dAll m c) (gAll m c) (pAll m c) (aAll m c)) (congrArg₂ ix2 (Fin.ext ?_) (Fin.ext ?_))
  · show (4 * (t.val / 4) + s.val) % 4 * 2048 + k.val = s.val * 2048 + k.val
    have : s.val < 4 := s.isLt
    omega
  · show (4 * (t.val / 4) + s.val) / 4 * 512 + l.val = t.val / 4 * 512 + l.val
    have : s.val < 4 := s.isLt
    omega

variable (x0 : Buf (Elt Ideal) ((c.tc : Thread nD τ).loc main_arg0)) (x1 : Buf (Elt Ideal) ((c.tc : Thread nD τ).loc main_arg1))
  (x2 : Buf (Elt Ideal) ((c.tc : Thread nD τ).loc main_arg2))
  (x3 : Buf (Elt Ideal) ((c.tc : Thread nD τ).loc main_arg3)) (x4 : Buf (Elt Ideal) ((c.tc : Thread nD τ).loc main_arg4))

section

open Cert.Reference22Ideal Cert.Reference22Ideal.Read

/-- The gates. -/
abbrev gates : Wide := val_main_v9 (F := Ideal) x1 x2

theorem half_left (l : Fin 4096) (h : l.val < 2048) : half l = ⟨l.val, h⟩ := Fin.ext (Nat.mod_eq_of_lt h)

theorem half_right (l : Fin 4096) (h : ¬l.val < 2048) : half l = ⟨l.val - 2048, by omega⟩ := Fin.ext (show l.val % 2048 = l.val - 2048 by omega)

theorem refer_through : val_main_v30 (F := Ideal) x0 x1 x2 = through x0 (gates c x1 x2) := by
  funext i
  obtain ⟨s, l, rfl⟩ := Products.pair (M := 8192) (N := 4096) i
  have g : val_main_v30 (F := Ideal) x0 x1 x2 (ix2 s l) = concatenate Reference22Ideal.S8192x4096 1 [⟨Reference22Ideal.S8192x2048, val_main_v22 (F := Ideal) x0 x1 x2⟩,
      ⟨Reference22Ideal.S8192x2048, val_main_v19 (F := Ideal) x0 x1 x2⟩] Gen.concatenates_S8192x2048_S8192x2048_S8192x4096_d1 (ix2 s l) := rfl
  refine g.trans (Eq.trans ?_ (mul_comm (gates c x1 x2 (ix2 s l)) (x0 (ix2 s (half l)))))
  by_cases h : l.val < 2048
  · refine (concatenate_pair_apply_left (s₁ := Reference22Ideal.S8192x2048) (s₂ := Reference22Ideal.S8192x2048) 1 _ _ _ (ix2 s l) rfl (ix2 s ⟨l.val, h⟩) (by intro b; fin_cases b <;> rfl)).trans ?_
    rw [half_left l h]
    pointwise [val_main_v22, val_main_v13, val_main_v18]
  · refine (concatenate_pair_apply_right (s₁ := Reference22Ideal.S8192x2048) (s₂ := Reference22Ideal.S8192x2048) 1 _ _ _ (ix2 s l) rfl rfl (ix2 s ⟨l.val - 2048, by omega⟩) (by intro b hb; fin_cases b; rfl; exact absurd rfl hb)
      (show l.val - 2048 + 2048 = l.val by omega)).trans ?_
    rw [half_right l h]
    pointwise [val_main_v19, val_main_v15, val_main_v18]
    exact congrArg (fun q => gates c x1 x2 (ix2 s q) * (x0 : Narrow) _) (Fin.ext (show 2048 + (l.val - 2048) = l.val by omega))

theorem refer_before : val_main_v31 (F := Ideal) x0 x1 x2 x3 x4 = before x0 (gates c x1 x2) x3 x4 := by
  funext i
  obtain ⟨s, l, rfl⟩ := Products.pair (M := 8192) (N := 4096) i
  pointwise [val_main_v31, val_main_v26, val_main_v25, val_main_v24, val_main_v21]
  have e : val_main_v12 (F := Ideal) x1 x2 (ix2 s l) = gates c x1 x2 (ix2 s l) * (1 - gates c x1 x2 (ix2 s l)) := by
    pointwise [val_main_v12, val_main_v11, val_main_v10, val_main_cst_1]
  rw [e, ← mul_assoc]
  refine congrArg (· * _) (congrArg (· * _) ?_)
  by_cases h : l.val < 2048
  · rw [dif_neg (by omega), dif_pos h]
    refine (congrArg₂ (· + ·) (show val_main_cst_2 (F := Ideal) _ = (0 : EReal) by pointwise [val_main_cst_2]) rfl).trans ((zero_add _).trans ?_)
    have e : driven x3 x4 (ix2 s l) = (x3 : Narrow) (ix2 s _) :=
      (if_pos h).trans (congrArg (fun q => (x3 : Narrow) (ix2 s q)) (half_left l h))
    exact (congrArg₂ (fun a b : EReal => a * b) (congrArg (fun q => (x0 : Narrow) (ix2 s q)) (half_left l h)) e).symm
  · rw [dif_pos (by omega), dif_neg h]
    refine (congrArg₂ (· + ·) rfl (show val_main_cst_3 (F := Ideal) _ = (0 : EReal) by pointwise [val_main_cst_3])).trans ((add_zero _).trans ?_)
    have e : driven x3 x4 (ix2 s l) = (x4 : Narrow) (ix2 s _) :=
      (if_neg h).trans (congrArg (fun q => (x4 : Narrow) (ix2 s q)) (half_right l h))
    exact (congrArg₂ (fun a b : EReal => a * b) (congrArg (fun q => (x0 : Narrow) (ix2 s q)) (half_right l h)) e).symm

theorem refer_bias : val_main_v28 (F := Ideal) x0 x1 x2 x3 x4 = bias x0 (gates c x1 x2) x3 x4 := by
  funext i
  obtain ⟨l, rfl⟩ := lone (N := 4096) i
  pointwise [val_main_v28, val_main_v27, val_main_cst_4]
  exact Finset.sum_congr rfl fun k _ => congrFun (refer_before c x0 x1 x2 x3 x4) _

end

/-- The gates that the kernel reads. -/
theorem gates_eq : gAll m c = gates c (m ((c.tc : Thread nD τ).loc main_arg1)) (m ((c.tc : Thread nD τ).loc main_arg2)) := by
  show V m c main_v8 = _
  after_reads_simp
  rfl

/-- The second result: the columns that the kernel writes. -/
theorem tail_before : Pipeline.afterTail₀ cfgs (dats m) 0 (V0 m) [hostOps1] c main_v10
    = before (dAll m c) (gAll m c) (pAll m c) (aAll m c) := by
  have e : Pipeline.afterTail₀ cfgs (dats m) 0 (V0 m) [hostOps1] c main_v10
      = extractStridedSlice S8192x4096 ![0, 5632] ((dats m 0 c).arrAt 5 (cfgs 0).N) slices_S8192x9728_S8192x4096_0_5632 := by
    unfold Pipeline.afterTail₀
    after_reads_simp
    exact congrArg (extractStridedSlice S8192x4096 ![0, 5632] · slices_S8192x9728_S8192x4096_0_5632)
      (Pipeline.withArrays_arr (cfgs 0).spec (by decide +kernel) c (V0 m c) (fun w => (dats m 0 c).arrAt w (cfgs 0).N) 5)
  rw [e, final_before]
  funext i
  obtain ⟨s, l, rfl⟩ := Products.pair (M := 8192) (N := 4096) i
  pointwise
  rw [if_pos (by omega)]
  exact congrArg (fun q => before (dAll m c) (gAll m c) (pAll m c) (aAll m c) (ix2 s q)) (Fin.ext (show 5632 + l.val - 5632 = l.val by omega))

/-- What a run leaves. -/
theorem run (ρ : Dev nD → PrngReg) : θ_run defs (onTc (τ := τ) (main (F := Ideal))) ⟨m, fun _ => 0, ρ⟩ (fun r => ∀ c : Dev nD,
      r.2.mem ((c.tc : Thread nD τ).loc main_v9_0) = through (dAll m c) (gAll m c)
      ∧ r.2.mem ((c.tc : Thread nD τ).loc main_v10) = before (dAll m c) (gAll m c) (pAll m c) (aAll m c)
      ∧ r.2.mem ((c.tc : Thread nD τ).loc main_v9_2) = bias (dAll m c) (gAll m c) (pAll m c) (aAll m c)) :=
  (θ_run defs _ _).mono (fun r h c => ⟨((h c).1 4).trans (final_through m c),
    ((h c).2 main_v10 (Pipeline.mem_restRefs_of main_v10 (by decide) (by decide))).trans (tail_before m c),
    ((h c).1 6).trans (final_bias m c)⟩) (run_main m ρ)

/-- Kernel and reference leave the same arrays. -/
theorem value : algebraic_Kernel22Ideal_Reference22Ideal := by
  intro m g m' g' _ hag
  refine ⟨fun c => through (dAll m c) (gAll m c), fun c => before (dAll m c) (gAll m c) (pAll m c) (aAll m c),
    fun c => bias (dAll m c) (gAll m c) (pAll m c) (aAll m c), ?_, ?_⟩
  · refine (θ_run _ _ _).mono (fun r h c => ?_) (θ_run_and (run m g) (unchanged m g))
    obtain ⟨r0, r1, r2⟩ := h.1 c
    exact ⟨r0, r1, r2, h.2 c⟩
  · refine (θ_run _ _ _).mono (fun r h c => ?_) (Cert.Reference22Ideal.Value.run m' g')
    obtain ⟨h0, h1, h2, h3, h4⟩ := hag c
    obtain ⟨r0, r1, r2, k⟩ := h c
    refine ⟨r0.trans ?_, r1.trans ?_, r2.trans ?_, k⟩
    · rw [Cert.Reference22Ideal.Read.val_main_v30_eq, h0, h1, h2]
      refine (refer_through c _ _ _).trans ?_
      show _ = through (dAll m c) (gAll m c)
      rw [gates_eq, dAll, V_main_arg0]
    · rw [Cert.Reference22Ideal.Read.val_main_v31_eq, h0, h1, h2, h3, h4]
      refine (refer_before c _ _ _ _ _).trans ?_
      show _ = before (dAll m c) (gAll m c) (pAll m c) (aAll m c)
      rw [gates_eq, dAll, pAll, aAll, V_main_arg0, V_main_arg3, V_main_arg4]
    · rw [Cert.Reference22Ideal.Read.val_main_v28_eq, h0, h1, h2, h3, h4]
      refine (refer_bias c _ _ _ _ _).trans ?_
      show _ = bias (dAll m c) (gAll m c) (pAll m c) (aAll m c)
      rw [gates_eq, dAll, pAll, aAll, V_main_arg0, V_main_arg3, V_main_arg4]

end Cert.Kernel22Ideal.Mm

end
-- ==== Proof.Norm.lean ====
/- Rows scaled by their root mean square, and the gradients of that scaling: the reference's form and the kernel's agree on
real numbers. -/
module

public import proofs.«01_k».proof.Proof.Products
public import proofs.«01_k».proof.Proof.Slope

@[expose] public section

noncomputable section

namespace Cert.Norm

open Idealize.ShloMosaic Cert.KernelIdeal.Glu

/-- An array of rows of 2048 elements. -/
abbrev Rows (M : ℕ) : Type := (⟨2, ![M, 2048]⟩ : Shape).Idx → EReal

/-- The length of a row. -/
abbrev width : EReal := Ideal.ofBits .f32 0x45000000#32

/-- What is added to a row's mean square. -/
abbrev eps : EReal := Ideal.ofBits .f32 0x358637BD#32

theorem width_eq : width = ((2048 : ℝ) : EReal) := by
  simp [width, Ideal.ofBits, Ideal.ieee, -EReal.coe_mul]; norm_num

theorem eps_pos : ∃ r : ℝ, 0 < r ∧ eps = (r : EReal) := by
  refine ⟨_, ?_, by simp [eps, Ideal.ofBits, Ideal.ieee, -EReal.coe_mul]; rfl⟩
  norm_num

variable {M M' : ℕ}

/-- A row's mean square, with the small constant. -/
def square (x : Rows M) (s : Fin M) : EReal := Ideal.div (∑ k, x (ix2 s k) * x (ix2 s k)) width + eps

/-- One over its root. -/
def inv (x : Rows M) (s : Fin M) : EReal := Ideal.rsqrt (square x s)

/-- The scaled rows, times the weights. -/
def scaled (x : Rows M) (g : Rows 1) : Rows M := fun i => x i * inv x (i 0) * g (ix2 0 (i 1))

/-- The gradient of the rows, in the kernel's form: of `d` through the scaling, and of `e` past it. -/
def rows (d x : Rows M) (g : Rows 1) (e : Rows M) : Rows M := fun i =>
  e i + inv x (i 0) * (d i * g (ix2 0 (i 1)) - x i * inv x (i 0)
    * Ideal.div (∑ k, d (ix2 (i 0) k) * g (ix2 0 k) * (x (ix2 (i 0) k) * inv x (i 0))) width)

/-- The gradient of the weights. -/
def weights (d x : Rows M) : Rows 1 := fun i => ∑ s, d (ix2 s (i 1)) * (x (ix2 s (i 1)) * inv x s)

/-- What multiplies a row's elements in the reference's form of the gradient. -/
def back (d x : Rows M) (g : Rows 1) (s : Fin M) : EReal :=
  Ideal.div ((∑ k, x (ix2 s k) * (d (ix2 s k) * g (ix2 0 k))) * (negHalf * Ideal.div (inv x s) (square x s))) width

/-- `inv` reads one row only. -/
theorem inv_congr {x : Rows M} {x' : Rows M'} {s : Fin M} {s' : Fin M'} (h : ∀ k, x (ix2 s k) = x' (ix2 s' k)) : inv x s = inv x' s' := by
  simp only [inv, square, h]

/-- So does `scaled`. -/
theorem scaled_congr {x : Rows M} {x' : Rows M'} {g g' : Rows 1} {s : Fin M} {s' : Fin M'} (l : Fin 2048)
    (hx : ∀ k, x (ix2 s k) = x' (ix2 s' k)) (hg : g (ix2 0 l) = g' (ix2 0 l)) : scaled x g (ix2 s l) = scaled x' g' (ix2 s' l) := by
  change x (ix2 s l) * inv x s * g (ix2 0 l) = x' (ix2 s' l) * inv x' s' * g' (ix2 0 l)
  rw [inv_congr hx, hx, hg]

/-- And `rows`. -/
theorem rows_congr {d x e : Rows M} {d' x' e' : Rows M'} {g g' : Rows 1} {s : Fin M} {s' : Fin M'} (l : Fin 2048)
    (hd : ∀ k, d (ix2 s k) = d' (ix2 s' k)) (hx : ∀ k, x (ix2 s k) = x' (ix2 s' k)) (hg : ∀ k, g (ix2 0 k) = g' (ix2 0 k))
    (he : e (ix2 s l) = e' (ix2 s' l)) : rows d x g e (ix2 s l) = rows d' x' g' e' (ix2 s' l) := by
  have hi := inv_congr hx
  change e (ix2 s l) + inv x s * (d (ix2 s l) * g (ix2 0 l) - x (ix2 s l) * inv x s * Ideal.div (∑ k, d (ix2 s k) * g (ix2 0 k) * (x (ix2 s k) * inv x s)) width)
    = e' (ix2 s' l) + inv x' s' * (d' (ix2 s' l) * g' (ix2 0 l) - x' (ix2 s' l) * inv x' s'
      * Ideal.div (∑ k, d' (ix2 s' k) * g' (ix2 0 k) * (x' (ix2 s' k) * inv x' s')) width)
  simp only [hi, hd, hx, hg, he]

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- On real numbers the mean square is a positive real number and `inv` is one over its root. -/
theorem square_real (X : Fin 2048 → ℝ) (x : Rows M) (s : Fin M) (h : ∀ k, x (ix2 s k) = (X k : EReal)) :
    ∃ v : ℝ, 0 < v ∧ square x s = (v : EReal) ∧ inv x s = (((Real.sqrt v)⁻¹ : ℝ) : EReal) := by
  obtain ⟨ε, hε, e⟩ := eps_pos
  have hv : (0 : ℝ) < (∑ k, X k * X k) * (1 / 2048) + ε :=
    add_pos_of_nonneg_of_pos (mul_nonneg (Finset.sum_nonneg fun k _ => mul_self_nonneg _) (by norm_num)) hε
  have hs : square x s = (((∑ k, X k * X k) * (1 / 2048) + ε : ℝ) : EReal) := by
    simp only [square, h, e, width_eq, Ideal.div_coe (show (2048 : ℝ) ≠ 0 by norm_num), ← EReal.coe_mul, ← coe_sum, ← EReal.coe_add]
  refine ⟨_, hv, hs, ?_⟩
  rw [inv, hs, Ideal.rsqrt_coe, if_neg (not_lt.mpr hv.le), if_neg hv.ne']

theorem sq_nonneg (x : EReal) : 0 ≤ x * x := by
  induction x with
  | bot => simp
  | top => simp
  | coe r => exact_mod_cast mul_self_nonneg r

/-- A row with an infinite element has an infinite mean square. -/
theorem square_top (x : Rows M) (s : Fin M) (h : ¬∀ k, IsReal (x (ix2 s k))) : square x s = ⊤ := by
  obtain ⟨k, hk⟩ := not_forall.mp h
  have hx : x (ix2 s k) * x (ix2 s k) = ⊤ := by
    generalize x (ix2 s k) = y at hk ⊢
    induction y with
    | bot => rfl
    | top => rfl
    | coe r => exact (hk ⟨r, rfl⟩).elim
  have hs : ∑ k, x (ix2 s k) * x (ix2 s k) = ⊤ :=
    top_le_iff.mp (hx.symm.le.trans (Finset.single_le_sum (f := fun k => x (ix2 s k) * x (ix2 s k)) (fun k _ => sq_nonneg _) (Finset.mem_univ k)))
  obtain ⟨ε, hε, e⟩ := eps_pos
  rw [square, hs, width_eq, Ideal.div_coe (show (2048 : ℝ) ≠ 0 by norm_num), EReal.top_mul_coe_of_pos (by norm_num), e, EReal.top_add_coe]

/-- A positive real factor goes into a sum of any extended reals. -/
theorem mul_sum_pos {n : ℕ} (f : Fin n → EReal) {r : ℝ} (hr : 0 < r) : (∑ k, f k) * (r : EReal) = ∑ k, f k * (r : EReal) := by
  induction n with
  | zero => simp
  | succ n ih =>
    rw [Fin.sum_univ_castSucc, Fin.sum_univ_castSucc, ← ih, mul_comm, EReal.left_distrib_of_nonneg_of_ne_top (EReal.coe_nonneg.mpr hr.le) (EReal.coe_ne_top r),
      mul_comm, mul_comm (r : EReal) (f _)]

theorem halves (z : EReal) : z * ((-(1 / 2) : ℝ) : EReal) + z * ((-(1 / 2) : ℝ) : EReal) = -z := by
  induction z with
  | bot => rw [EReal.bot_mul_coe_of_neg (by norm_num)]; rfl
  | top => rw [EReal.top_mul_coe_of_neg (by norm_num)]; rfl
  | coe r =>
    rw [← EReal.coe_mul, ← EReal.coe_add, ← EReal.coe_neg]
    exact congrArg _ (by ring)

/-- The reference's form is the kernel's, of any extended reals: a row with an infinite element is scaled to zero, and the scaling of
any other row is a positive real number. -/
theorem meet (d x : Rows M) (g : Rows 1) (e : Rows M) (s : Fin M) (l : Fin 2048) :
    e (ix2 s l) + d (ix2 s l) * g (ix2 0 l) * inv x s + x (ix2 s l) * back d x g s + back d x g s * x (ix2 s l)
      = rows d x g e (ix2 s l) := by
  change e (ix2 s l) + d (ix2 s l) * g (ix2 0 l) * inv x s + x (ix2 s l) * back d x g s + back d x g s * x (ix2 s l)
    = e (ix2 s l) + inv x s * (d (ix2 s l) * g (ix2 0 l) - x (ix2 s l) * inv x s
      * Ideal.div (∑ k, d (ix2 s k) * g (ix2 0 k) * (x (ix2 s k) * inv x s)) width)
  by_cases h : ∀ k, IsReal (x (ix2 s k))
  · choose X hX using h
    obtain ⟨v, hv, h0, h1⟩ := square_real X x s hX
    have hi : 0 < (Real.sqrt v)⁻¹ := inv_pos.mpr (Real.sqrt_pos.mpr hv)
    have hq : v⁻¹ = (Real.sqrt v)⁻¹ * (Real.sqrt v)⁻¹ := by rw [← mul_inv, Real.mul_self_sqrt hv.le]
    have hsum : ∑ k, d (ix2 s k) * g (ix2 0 k) * (x (ix2 s k) * inv x s) = (∑ k, x (ix2 s k) * (d (ix2 s k) * g (ix2 0 k))) * inv x s := by
      rw [h1, mul_sum_pos _ hi]
      exact Finset.sum_congr rfl fun k _ => by rw [← mul_assoc, mul_comm (x _)]
    rw [hsum, back, h0, h1, width_eq, Ideal.div_coe hv.ne', Ideal.div_coe (show (2048 : ℝ) ≠ 0 by norm_num), Ideal.div_coe (show (2048 : ℝ) ≠ 0 by norm_num), negHalf_eq]
    generalize (∑ k, x (ix2 s k) * (d (ix2 s k) * g (ix2 0 k))) = S
    rw [hX]
    generalize d (ix2 s l) * g (ix2 0 l) = u
    rw [sub_eq_add_neg, EReal.left_distrib_of_nonneg_of_ne_top (EReal.coe_nonneg.mpr hi.le) (EReal.coe_ne_top _)]
    have e1 : (X l : EReal) * (S * (((-(1 / 2) : ℝ) : EReal) * (((Real.sqrt v)⁻¹ : ℝ) * ((1 / v : ℝ) : EReal))) * ((1 / 2048 : ℝ) : EReal))
        = S * ((X l * (Real.sqrt v)⁻¹ * (1 / v) * (1 / 2048) : ℝ) : EReal) * ((-(1 / 2) : ℝ) : EReal) := by
      simp only [EReal.coe_mul]
      ac_rfl
    have e2 : (((Real.sqrt v)⁻¹ : ℝ) : EReal) * ((X l : EReal) * ((Real.sqrt v)⁻¹ : ℝ) * (S * ((Real.sqrt v)⁻¹ : ℝ) * ((1 / 2048 : ℝ) : EReal)))
        = S * ((X l * (Real.sqrt v)⁻¹ * (1 / v) * (1 / 2048) : ℝ) : EReal) := by
      rw [one_div v, hq]
      simp only [EReal.coe_mul]
      ac_rfl
    rw [mul_comm (S * _ * _) (X l : EReal), e1, mul_neg, e2, add_assoc, halves, add_assoc, mul_comm u]
  · have h0 := square_top x s h
    have h1 : inv x s = 0 := by rw [inv, h0]; rfl
    have h2 : back d x g s = 0 := by
      rw [back, h0, h1, show Ideal.div 0 ⊤ = 0 by simp [Ideal.div], mul_zero, mul_zero, width_eq, Ideal.div_coe (show (2048 : ℝ) ≠ 0 by norm_num), zero_mul]
    rw [h1, h2]
    simp only [mul_zero, zero_mul, add_zero]

/-- The scaled rows less their targets. -/
def miss (x y : Rows M) (g : Rows 1) : Rows M := fun i => scaled x g i - y i

/-- One over the length of a row, as the kernel holds it, and half of it. -/
abbrev share : EReal := Ideal.ofBits .f32 0x3A000000#32

@[inherit_doc share]
abbrev halfShare : EReal := Ideal.ofBits .f32 0x39800000#32

theorem share_eq : share = ((1 / 2048 : ℝ) : EReal) := by
  simp [share, Ideal.ofBits, Ideal.ieee, -EReal.coe_mul]; norm_num

theorem halfShare_eq : halfShare = ((1 / 4096 : ℝ) : EReal) := by
  simp [halfShare, Ideal.ofBits, Ideal.ieee, -EReal.coe_mul]; norm_num

/-- The gradient of the loss with respect to the scaled rows. -/
def push (x y : Rows M) (g : Rows 1) : Rows M := fun i => miss x y g i * share

/-- The loss, column by column. -/
def loss (x y : Rows M) (g : Rows 1) : Rows 1 := fun i => ∑ s, miss x y g (ix2 s (i 1)) * miss x y g (ix2 s (i 1)) * halfShare

theorem miss_congr {x y : Rows M} {x' y' : Rows M'} {g g' : Rows 1} {s : Fin M} {s' : Fin M'} (l : Fin 2048)
    (hx : ∀ k, x (ix2 s k) = x' (ix2 s' k)) (hg : g (ix2 0 l) = g' (ix2 0 l)) (hy : y (ix2 s l) = y' (ix2 s' l)) :
    miss x y g (ix2 s l) = miss x' y' g' (ix2 s' l) := congrArg₂ (· - ·) (scaled_congr l hx hg) hy

/-- A sum of squares scaled is the sum of the scaled squares, of any extended reals. -/
theorem sum_square_mul {n : ℕ} (f : Fin n → EReal) (a : EReal) : (∑ k, f k * f k) * a = ∑ k, f k * f k * a := by
  induction n with
  | zero => simp
  | succ n ih =>
    rw [Fin.sum_univ_castSucc, Fin.sum_univ_castSucc, ← ih,
      EReal.right_distrib_of_nonneg (Finset.sum_nonneg fun k _ => sq_nonneg _) (sq_nonneg _)]

/-- The reference's form of the loss. -/
theorem loss_meet (S : EReal) : Ideal.div (half * S) width = S * halfShare := by
  rw [width_eq, Ideal.div_coe (show (2048 : ℝ) ≠ 0 by norm_num), half_eq, halfShare_eq, mul_right_comm, ← EReal.coe_mul, mul_comm]
  exact congrArg (S * ·) (congrArg _ (by norm_num))

/-- The reference's form of its gradient. -/
theorem push_meet (e : EReal) : half * Ideal.div (Ideal.ofBits .f32 0x3F800000#32) width * (Ideal.ofBits .f32 0x40000000#32 * e) = e * share := by
  have two : Ideal.ofBits .f32 0x40000000#32 = ((2 : ℝ) : EReal) := by
    simp [Ideal.ofBits, Ideal.ieee, -EReal.coe_mul]; norm_num
  rw [width_eq, Ideal.div_coe (show (2048 : ℝ) ≠ 0 by norm_num), half_eq, share_eq, one_eq, one_mul, two, ← mul_assoc, ← EReal.coe_mul, ← EReal.coe_mul, mul_comm]
  exact congrArg (e * ·) (congrArg _ (by norm_num))

end Cert.Norm

end
-- ==== Proof.RmsTwoBwd.lean ====
/- The backward call of the second scaling by the root mean square: what one grid point writes, the arrays that the kernel
leaves, and that the reference leaves the same ones. -/
module

public import proofs.«01_k».proof.Proof.Norm
public import proofs.«01_k».proof.Proof.Gen.Kernel23Ideal.Value
public import proofs.«01_k».proof.Proof.Gen.Reference23Ideal.Run
public import proofs.«01_k».proof.Proof.Gen.Reference23Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel23Ideal.Mm

open Cert.Kernel23Ideal Cert.Kernel23Ideal.Gen Idealize.ShloMosaic Idealize.ShloMosaic.TcCoe Idealize.SL.Sem

variable (m : (ℓ : Loc nD τ sig) → Buf (Elt Ideal) ℓ) (c : Dev nD) (t : Fin cfg0.N)

/-- The blocks a point reads: the gradient, the rows, the weights and the gradient that passes by. -/
abbrev dBlk : Norm.Rows 512 := iblk m c 0 t

@[inherit_doc dBlk]
abbrev xBlk : Norm.Rows 512 := iblk m c 1 t

@[inherit_doc dBlk]
abbrev gBlk : Norm.Rows 1 := iblk m c 2 t

@[inherit_doc dBlk]
abbrev eBlk : Norm.Rows 512 := iblk m c 3 t

theorem inv_at (x : Vec Ideal S512x2048 .f32) (r : Fin 512) : k0_pay2 (F := Ideal) x (ix2 r 0) = Norm.inv (M := 512) x r := by
  pointwise [k0_pay2]
  rfl

theorem rows_at (d : Vec Ideal S512x2048 .bf16) (x : Vec Ideal S512x2048 .f32) (g : Vec Ideal S1x2048 .f32) (e : Vec Ideal S512x2048 .bf16)
    (r : Fin 512) (l : Fin 2048) :
    k0_pay1 (F := Ideal) (k0_pay7 e) (k0_pay8 x d g) (k0_pay9 x) (ix2 r l) = Norm.rows (M := 512) d x g e (ix2 r l) := by
  pointwise [k0_pay1, k0_pay7, k0_pay8, k0_pay9, k0_pay4, k0_pay3]
  simp only [inv_at]
  rfl

theorem weights_at (x : Vec Ideal S512x2048 .f32) (d : Vec Ideal S512x2048 .bf16) (z : Vec Ideal S1x2048 .f32) (l : Fin 2048) :
    k0_pay6 (F := Ideal) x d z (ix2 0 l) = z (ix2 0 l) + Norm.weights (M := 512) d x (ix2 0 l) := by
  pointwise [k0_pay6, k0_pay4, k0_pay3]
  simp only [inv_at]
  rfl

theorem reset_at (l : Fin 2048) : k0_pay5 (F := Ideal) (ix2 0 l) = 0 := by pointwise [k0_pay5]

/-- The rows' gradient after a point. -/
theorem out_rows (r : Fin 512) (l : Fin 2048) :
    (outsAt0 m c t.val t.isLt).1 (ix2 r l) = Norm.rows (dBlk m c t) (xBlk m c t) (gBlk m c t) (eBlk m c t) (ix2 r l) := by
  by_cases h : t.val % 16 = 0
  · rw [outsAt0_A m c t h]
    frame_out
    exact rows_at _ _ _ _ r l
  · rw [outsAt0_B m c t h]
    frame_out
    exact rows_at _ _ _ _ r l

/-- The weights' gradient after the first point. -/
theorem acc_first (h : t.val % 16 = 0) (l : Fin 2048) :
    (outsAt0 m c t.val t.isLt).2 (ix2 0 l) = Norm.weights (dBlk m c t) (xBlk m c t) (ix2 0 l) := by
  rw [outsAt0_A m c t h]
  frame_out
  refine (weights_at _ _ _ l).trans ?_
  rw [reset_at]
  exact zero_add _

/-- After a later one. -/
theorem acc_next (h : ¬t.val % 16 = 0) (l : Fin 2048) : (outsAt0 m c t.val t.isLt).2 (ix2 0 l)
    = (outsAt0 m c (t.val - 1) (Nat.lt_of_le_of_lt (Nat.sub_le _ _) t.isLt)).2 (ix2 0 l) + Norm.weights (dBlk m c t) (xBlk m c t) (ix2 0 l) := by
  rw [outsAt0_B m c t h]
  frame_out
  exact weights_at _ _ _ l

theorem index_at : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The first array that the kernel leaves. -/
theorem final_rows : (dats m 0 c).arrAt 4 (cfgs 0).N
    = Norm.rows (M := 8192) (V m c main_arg0) (V m c main_arg1) (V m c main_arg2) (V m c main_arg3) := by
  refine (dats m 0 c).arrAt_eq_of_covers 4 _ (by decide +kernel) fun t hf y => ?_
  blk_simp
  rw [after0_4]
  have ht : t.val < 16 := lt_of_lt_of_eq t.isLt N_0
  obtain ⟨r, l, rfl⟩ := Products.pair y
  have e : (win0_4.blk t).view.emb (ix2 r l) = ix2 ⟨t.val * 512 + r.val, by omega⟩ l := by
    blk_ext [index_at t]
  rw [e]
  refine (out_rows m c t r l).trans (Norm.rows_congr l (fun k => ?_) (fun k => ?_) (fun k => ?_) ?_)
  · blk_ext [dBlk, iblk, index_at]
  · blk_ext [xBlk, iblk, index_at]
  · blk_ext [gBlk, iblk, index_at]
  · blk_ext [eBlk, iblk, index_at]

/-- The second. -/
theorem final_weights : (dats m 0 c).arrAt 5 (cfgs 0).N = Norm.weights (M := 8192) (V m c main_arg0) (V m c main_arg1) := by
  refine (dats m 0 c).arrAt_eq_of_covers 5 _ (by decide +kernel) fun t hf y => ?_
  blk_simp
  rw [after0_5]
  have ht : t.val < 16 := lt_of_lt_of_eq t.isLt N_0
  have h := (flush0_5 t).mp hf
  obtain ⟨r, l, rfl⟩ := Products.pair y
  obtain rfl : r = 0 := Subsingleton.elim (α := Fin 1) _ _
  have e : (win0_5.blk t).view.emb (ix2 0 l) = ix2 0 l := by
    blk_ext [index_at t]
  rw [e]
  refine Products.run_sum (fun n h l => (outsAt0 m c n h).2 (ix2 0 l)) 16 512
    (fun p s l => dBlk m c p (ix2 s l) * (xBlk m c p (ix2 s l) * Norm.inv (xBlk m c p) s))
    (fun p h l => acc_first m c p h l) (fun p h l => acc_next m c p h l) t h l _ fun s k hk => ?_
  refine congrArg₂ (· * ·) ?_ (congrArg₂ (· * ·) ?_ (Norm.inv_congr fun k => ?_))
  · blk_ext [dBlk, iblk, index_at]
  · blk_ext [xBlk, iblk, index_at]
  · blk_ext [xBlk, iblk, index_at]

variable (d : Buf (Elt Ideal) ((c.tc : Thread nD τ).loc main_arg0)) (x : Buf (Elt Ideal) ((c.tc : Thread nD τ).loc main_arg1))
  (g : Buf (Elt Ideal) ((c.tc : Thread nD τ).loc main_arg2)) (e : Buf (Elt Ideal) ((c.tc : Thread nD τ).loc main_arg3))

section

open Cert.Reference23Ideal Cert.Reference23Ideal.Read

theorem refer_square (s : Fin 8192) : val_main_v6 (F := Ideal) x (ix2 s 0) = Norm.square (M := 8192) x s := by
  pointwise [val_main_v6, val_main_v5, val_main_v4, val_main_v3, val_main_v2, val_main_v1, val_main_v0, val_main_cst, val_main_cst_0, val_main_cst_1]
  rfl

theorem refer_inv (s : Fin 8192) : val_main_v7 (F := Ideal) x (ix2 s 0) = Norm.inv (M := 8192) x s := by
  pointwise [val_main_v7]
  rw [refer_square]
  rfl

theorem refer_back (s : Fin 8192) : val_main_v31 (F := Ideal) d x g (ix1 s) = Norm.back (M := 8192) d x g s := by
  pointwise [val_main_v31, val_main_v30, val_main_v29, val_main_v28, val_main_v24, val_main_v23, val_main_v22, val_main_v21, val_main_v20,
    val_main_v16, val_main_v10, val_main_v9, val_main_v8, val_main_cst_2, val_main_cst_4, val_main_cst_5, val_main_cst_6]
  refine (Fin.sum_univ_one _).trans ?_
  rw [refer_square, refer_inv]
  rfl

/-- The first array that the reference leaves. -/
theorem refer_rows : val_main_v37 (F := Ideal) d x g e = Norm.rows (M := 8192) d x g e := by
  funext i
  obtain ⟨s, l, rfl⟩ := Products.pair (M := 8192) (N := 2048) i
  refine Eq.trans ?_ (Norm.meet (M := 8192) d x g e s l)
  pointwise [val_main_v37, val_main_v36, val_main_v35, val_main_v34, val_main_v33, val_main_v32, val_main_v27, val_main_v26, val_main_v25, val_main_v21, val_main_v20,
    val_main_v16, val_main_v15]
  simp only [refer_back, refer_inv]

/-- The second. -/
theorem refer_weights : val_main_v19 (F := Ideal) d x = Norm.weights (M := 8192) d x := by
  funext i
  obtain ⟨r, l, rfl⟩ := Products.pair (M := 1) (N := 2048) i
  obtain rfl : r = 0 := Subsingleton.elim (α := Fin 1) _ _
  pointwise [val_main_v19, val_main_v18, val_main_v17, val_main_v16, val_main_v12, val_main_v11, val_main_cst_3]
  simp only [refer_inv]
  exact Finset.sum_congr rfl fun k _ => mul_comm _ _

end

/-- Kernel and reference leave the same arrays. -/
theorem value : algebraic_Kernel23Ideal_Reference23Ideal := by
  intro m g m' g' _ hag
  refine ⟨fun c => (dats m 0 c).arrAt 4 cfg0.N, fun c => (dats m 0 c).arrAt 5 cfg0.N, Cert.Kernel23Ideal.Value.run_blocks m g, ?_⟩
  refine (θ_run _ _ _).mono (fun r h c => ?_) (Cert.Reference23Ideal.Value.run m' g')
  obtain ⟨h0, h1, h2, h3⟩ := hag c
  obtain ⟨r0, r1, k⟩ := h c
  refine ⟨r0.trans ?_, r1.trans ?_, k⟩
  · rw [Cert.Reference23Ideal.Read.val_main_v37_eq, h0, h1, h2, h3]
    exact (refer_rows c _ _ _ _).trans ((final_rows m c).trans (by rw [V_main_arg0, V_main_arg1, V_main_arg2, V_main_arg3])).symm
  · rw [Cert.Reference23Ideal.Read.val_main_v19_eq, h0, h1]
    exact (refer_weights c _ _).trans ((final_weights m c).trans (by rw [V_main_arg0, V_main_arg1])).symm

end Cert.Kernel23Ideal.Mm

end
-- ==== Proof.RmsOneBwd.lean ====
/- The backward call of the first scaling by the root mean square: what one grid point writes, the arrays that the kernel
leaves, and that the reference leaves the same ones. -/
module

public import proofs.«01_k».proof.Proof.Norm
public import proofs.«01_k».proof.Proof.Gen.Kernel24Ideal.Value
public import proofs.«01_k».proof.Proof.Gen.Reference24Ideal.Run
public import proofs.«01_k».proof.Proof.Gen.Reference24Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel24Ideal.Mm

open Cert.Kernel24Ideal Cert.Kernel24Ideal.Gen Idealize.ShloMosaic Idealize.ShloMosaic.TcCoe Idealize.SL.Sem

variable (m : (ℓ : Loc nD τ sig) → Buf (Elt Ideal) ℓ) (c : Dev nD) (t : Fin cfg0.N)

/-- The blocks a point reads: the gradient, the rows, the weights and the gradient that passes by. -/
abbrev dBlk : Norm.Rows 512 := iblk m c 0 t

@[inherit_doc dBlk]
abbrev xBlk : Norm.Rows 512 := iblk m c 1 t

@[inherit_doc dBlk]
abbrev gBlk : Norm.Rows 1 := iblk m c 2 t

@[inherit_doc dBlk]
abbrev eBlk : Norm.Rows 512 := iblk m c 3 t

theorem inv_at (x : Vec Ideal S512x2048 .f32) (r : Fin 512) : k0_pay2 (F := Ideal) x (ix2 r 0) = Norm.inv (M := 512) x r := by
  pointwise [k0_pay2]
  rfl

theorem rows_at (d : Vec Ideal S512x2048 .bf16) (x : Vec Ideal S512x2048 .f32) (g : Vec Ideal S1x2048 .f32) (e : Vec Ideal S512x2048 .bf16)
    (r : Fin 512) (l : Fin 2048) :
    k0_pay1 (F := Ideal) (k0_pay7 e) (k0_pay8 x d g) (k0_pay9 x) (ix2 r l) = Norm.rows (M := 512) d x g e (ix2 r l) := by
  pointwise [k0_pay1, k0_pay7, k0_pay8, k0_pay9, k0_pay4, k0_pay3]
  simp only [inv_at]
  rfl

theorem weights_at (x : Vec Ideal S512x2048 .f32) (d : Vec Ideal S512x2048 .bf16) (z : Vec Ideal S1x2048 .f32) (l : Fin 2048) :
    k0_pay6 (F := Ideal) x d z (ix2 0 l) = z (ix2 0 l) + Norm.weights (M := 512) d x (ix2 0 l) := by
  pointwise [k0_pay6, k0_pay4, k0_pay3]
  simp only [inv_at]
  rfl

theorem reset_at (l : Fin 2048) : k0_pay5 (F := Ideal) (ix2 0 l) = 0 := by pointwise [k0_pay5]

/-- The rows' gradient after a point. -/
theorem out_rows (r : Fin 512) (l : Fin 2048) :
    (outsAt0 m c t.val t.isLt).1 (ix2 r l) = Norm.rows (dBlk m c t) (xBlk m c t) (gBlk m c t) (eBlk m c t) (ix2 r l) := by
  by_cases h : t.val % 16 = 0
  · rw [outsAt0_A m c t h]
    frame_out
    exact rows_at _ _ _ _ r l
  · rw [outsAt0_B m c t h]
    frame_out
    exact rows_at _ _ _ _ r l

/-- The weights' gradient after the first point. -/
theorem acc_first (h : t.val % 16 = 0) (l : Fin 2048) :
    (outsAt0 m c t.val t.isLt).2 (ix2 0 l) = Norm.weights (dBlk m c t) (xBlk m c t) (ix2 0 l) := by
  rw [outsAt0_A m c t h]
  frame_out
  refine (weights_at _ _ _ l).trans ?_
  rw [reset_at]
  exact zero_add _

/-- After a later one. -/
theorem acc_next (h : ¬t.val % 16 = 0) (l : Fin 2048) : (outsAt0 m c t.val t.isLt).2 (ix2 0 l)
    = (outsAt0 m c (t.val - 1) (Nat.lt_of_le_of_lt (Nat.sub_le _ _) t.isLt)).2 (ix2 0 l) + Norm.weights (dBlk m c t) (xBlk m c t) (ix2 0 l) := by
  rw [outsAt0_B m c t h]
  frame_out
  exact weights_at _ _ _ l

theorem index_at : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The first array that the kernel leaves. -/
theorem final_rows : (dats m 0 c).arrAt 4 (cfgs 0).N
    = Norm.rows (M := 8192) (V m c main_arg0) (V m c main_arg1) (V m c main_arg2) (V m c main_arg3) := by
  refine (dats m 0 c).arrAt_eq_of_covers 4 _ (by decide +kernel) fun t hf y => ?_
  blk_simp
  rw [after0_4]
  have ht : t.val < 16 := lt_of_lt_of_eq t.isLt N_0
  obtain ⟨r, l, rfl⟩ := Products.pair y
  have e : (win0_4.blk t).view.emb (ix2 r l) = ix2 ⟨t.val * 512 + r.val, by omega⟩ l := by
    blk_ext [index_at t]
  rw [e]
  refine (out_rows m c t r l).trans (Norm.rows_congr l (fun k => ?_) (fun k => ?_) (fun k => ?_) ?_)
  · blk_ext [dBlk, iblk, index_at]
  · blk_ext [xBlk, iblk, index_at]
  · blk_ext [gBlk, iblk, index_at]
  · blk_ext [eBlk, iblk, index_at]

/-- The second. -/
theorem final_weights : (dats m 0 c).arrAt 5 (cfgs 0).N = Norm.weights (M := 8192) (V m c main_arg0) (V m c main_arg1) := by
  refine (dats m 0 c).arrAt_eq_of_covers 5 _ (by decide +kernel) fun t hf y => ?_
  blk_simp
  rw [after0_5]
  have ht : t.val < 16 := lt_of_lt_of_eq t.isLt N_0
  have h := (flush0_5 t).mp hf
  obtain ⟨r, l, rfl⟩ := Products.pair y
  obtain rfl : r = 0 := Subsingleton.elim (α := Fin 1) _ _
  have e : (win0_5.blk t).view.emb (ix2 0 l) = ix2 0 l := by
    blk_ext [index_at t]
  rw [e]
  refine Products.run_sum (fun n h l => (outsAt0 m c n h).2 (ix2 0 l)) 16 512
    (fun p s l => dBlk m c p (ix2 s l) * (xBlk m c p (ix2 s l) * Norm.inv (xBlk m c p) s))
    (fun p h l => acc_first m c p h l) (fun p h l => acc_next m c p h l) t h l _ fun s k hk => ?_
  refine congrArg₂ (· * ·) ?_ (congrArg₂ (· * ·) ?_ (Norm.inv_congr fun k => ?_))
  · blk_ext [dBlk, iblk, index_at]
  · blk_ext [xBlk, iblk, index_at]
  · blk_ext [xBlk, iblk, index_at]

variable (d : Buf (Elt Ideal) ((c.tc : Thread nD τ).loc main_arg0)) (x : Buf (Elt Ideal) ((c.tc : Thread nD τ).loc main_arg1))
  (g : Buf (Elt Ideal) ((c.tc : Thread nD τ).loc main_arg2)) (e : Buf (Elt Ideal) ((c.tc : Thread nD τ).loc main_arg3))

section

open Cert.Reference24Ideal Cert.Reference24Ideal.Read

theorem refer_square (s : Fin 8192) : val_main_v6 (F := Ideal) x (ix2 s 0) = Norm.square (M := 8192) x s := by
  pointwise [val_main_v6, val_main_v5, val_main_v4, val_main_v3, val_main_v2, val_main_v1, val_main_v0, val_main_cst, val_main_cst_0, val_main_cst_1]
  rfl

theorem refer_inv (s : Fin 8192) : val_main_v7 (F := Ideal) x (ix2 s 0) = Norm.inv (M := 8192) x s := by
  pointwise [val_main_v7]
  rw [refer_square]
  rfl

theorem refer_back (s : Fin 8192) : val_main_v31 (F := Ideal) d x g (ix1 s) = Norm.back (M := 8192) d x g s := by
  pointwise [val_main_v31, val_main_v30, val_main_v29, val_main_v28, val_main_v24, val_main_v23, val_main_v22, val_main_v21, val_main_v20,
    val_main_v16, val_main_v10, val_main_v9, val_main_v8, val_main_cst_2, val_main_cst_4, val_main_cst_5, val_main_cst_6]
  refine (Fin.sum_univ_one _).trans ?_
  rw [refer_square, refer_inv]
  rfl

/-- The first array that the reference leaves. -/
theorem refer_rows : val_main_v36 (F := Ideal) d x g e = Norm.rows (M := 8192) d x g e := by
  funext i
  obtain ⟨s, l, rfl⟩ := Products.pair (M := 8192) (N := 2048) i
  refine Eq.trans ?_ (Norm.meet (M := 8192) d x g e s l)
  pointwise [val_main_v36, val_main_v35, val_main_v34, val_main_v33, val_main_v32, val_main_v27, val_main_v26, val_main_v25, val_main_v21, val_main_v20,
    val_main_v16, val_main_v15]
  simp only [refer_back, refer_inv]

/-- The second. -/
theorem refer_weights : val_main_v19 (F := Ideal) d x = Norm.weights (M := 8192) d x := by
  funext i
  obtain ⟨r, l, rfl⟩ := Products.pair (M := 1) (N := 2048) i
  obtain rfl : r = 0 := Subsingleton.elim (α := Fin 1) _ _
  pointwise [val_main_v19, val_main_v18, val_main_v17, val_main_v16, val_main_v12, val_main_v11, val_main_cst_3]
  simp only [refer_inv]
  exact Finset.sum_congr rfl fun k _ => mul_comm _ _

end

/-- Kernel and reference leave the same arrays. -/
theorem value : algebraic_Kernel24Ideal_Reference24Ideal := by
  intro m g m' g' _ hag
  refine ⟨fun c => (dats m 0 c).arrAt 4 cfg0.N, fun c => (dats m 0 c).arrAt 5 cfg0.N, Cert.Kernel24Ideal.Value.run_blocks m g, ?_⟩
  refine (θ_run _ _ _).mono (fun r h c => ?_) (Cert.Reference24Ideal.Value.run m' g')
  obtain ⟨h0, h1, h2, h3⟩ := hag c
  obtain ⟨r0, r1, k⟩ := h c
  refine ⟨r0.trans ?_, r1.trans ?_, k⟩
  · rw [Cert.Reference24Ideal.Read.val_main_v36_eq, h0, h1, h2, h3]
    exact (refer_rows c _ _ _ _).trans ((final_rows m c).trans (by rw [V_main_arg0, V_main_arg1, V_main_arg2, V_main_arg3])).symm
  · rw [Cert.Reference24Ideal.Read.val_main_v19_eq, h0, h1]
    exact (refer_weights c _ _).trans ((final_weights m c).trans (by rw [V_main_arg0, V_main_arg1])).symm

end Cert.Kernel24Ideal.Mm

end
-- ==== Proof.RmsFwd.lean ====
/- The forward call of the scaling by the root mean square: what one grid point writes, the array that the kernel leaves, and
that the reference leaves the same one. -/
module

public import proofs.«01_k».proof.Proof.Norm
public import proofs.«01_k».proof.Proof.Gen.Kernel25Ideal.Value
public import proofs.«01_k».proof.Proof.Gen.Reference25Ideal.Run
public import proofs.«01_k».proof.Proof.Gen.Reference25Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel25Ideal.Mm

open Cert.Kernel25Ideal Cert.Kernel25Ideal.Gen Idealize.ShloMosaic Idealize.ShloMosaic.TcCoe Idealize.SL.Sem

variable (m : (ℓ : Loc nD τ sig) → Buf (Elt Ideal) ℓ) (c : Dev nD) (t : Fin cfg0.N)

theorem scaled_at (x : Vec Ideal S512x2048 .f32) (g : Vec Ideal S1x2048 .f32) (r : Fin 512) (l : Fin 2048) :
    k0_pay1 (F := Ideal) x g (ix2 r l) = Norm.scaled (M := 512) x g (ix2 r l) := by
  pointwise [k0_pay1]
  rfl

theorem index_at : ∀ t : Fin cfg0.N, win0_0.index t = ![t.val, 0] ∧ win0_1.index t = ![0, 0] ∧ win0_2.index t = ![t.val, 0] :=
  (by decide +kernel : ∀ t : Fin grid0.N, _)

/-- The array that the kernel leaves. -/
theorem final : (dats m 0 c).arrAt 2 (cfgs 0).N = Norm.scaled (M := 8192) (V m c main_arg0) (V m c main_arg1) := by
  refine (dats m 0 c).arrAt_eq_of_covers 2 _ (by decide +kernel) fun t hf y => ?_
  blk_simp
  rw [after0_2]
  have ht : t.val < 16 := lt_of_lt_of_eq t.isLt N_0
  obtain ⟨r, l, rfl⟩ := Products.pair y
  have e : (win0_2.blk t).view.emb (ix2 r l) = ix2 ⟨t.val * 512 + r.val, by omega⟩ l := by
    blk_ext [index_at t]
  rw [e]
  unfold out0_2
  frame_out
  refine (scaled_at _ _ r l).trans (Norm.scaled_congr (M := 512) (M' := 8192) l (fun k => ?_) ?_)
  · blk_ext [iblk, index_at]
  · blk_ext [iblk, index_at]

variable (x : Buf (Elt Ideal) ((c.tc : Thread nD τ).loc main_arg0)) (g : Buf (Elt Ideal) ((c.tc : Thread nD τ).loc main_arg1))

open Cert.Reference25Ideal Cert.Reference25Ideal.Read in
/-- The array that the reference leaves. -/
theorem refer : val_main_v12 (F := Ideal) x g = Norm.scaled (M := 8192) x g := by
  funext i
  obtain ⟨s, l, rfl⟩ := Products.pair (M := 8192) (N := 2048) i
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

/-- Kernel and reference leave the same array. -/
theorem value : algebraic_Kernel25Ideal_Reference25Ideal := by
  intro m g m' g' _ hag
  refine ⟨fun c => (dats m 0 c).arrAt 2 cfg0.N, Cert.Kernel25Ideal.Value.run_blocks m g, ?_⟩
  refine (θ_run _ _ _).mono (fun r h c => ?_) (Cert.Reference25Ideal.Value.run m' g')
  obtain ⟨h0, h1⟩ := hag c
  refine ⟨(h c).1.trans ?_, (h c).2⟩
  rw [Cert.Reference25Ideal.Read.val_main_v12_eq, h0, h1]
  exact (refer c _ _).trans ((final m c).trans (by rw [V_main_arg0, V_main_arg1])).symm

end Cert.Kernel25Ideal.Mm

end
-- ==== Proof.ConvGluFwd.lean ====
/- The forward call of the convolved gate: what one grid point writes, the three arrays that the kernel leaves, and that the
reference leaves the same ones. -/
module

public import proofs.«01_k».proof.Proof.Shift
public import proofs.«01_k».proof.Proof.Products
public import proofs.«01_k».proof.Proof.Gen.Kernel26Ideal.Value
public import proofs.«01_k».proof.Proof.Gen.Reference26Ideal.Run
public import proofs.«01_k».proof.Proof.Gen.Reference26Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel26Ideal.Mm

open Cert.Kernel26Ideal Cert.Kernel26Ideal.Gen Idealize.ShloMosaic Idealize.ShloMosaic.TcCoe Idealize.SL.Sem
open Cert.KernelIdeal.Glu (word_one word_zero sum_hot sel_eq)

/-! ## Rows moved down by one and by two -/

/-- The one-hot matrix: row `r` of the upper half selects row `r - 1`, row `256 + r` of the lower half row `r - 2`. -/
theorem hot_at (r : Fin 512) (k : Fin 256) (h : ((r : ℕ) < 256 ∧ 1 ≤ (r : ℕ)) ∨ 258 ≤ (r : ℕ)) :
    k0_pay1 (F := Ideal) (ix2 r k) = if (k : ℕ) = (if (r : ℕ) < 256 then (r : ℕ) - 1 else (r : ℕ) - 258) then 1 else 0 := by
  have hr := r.isLt
  have hk := k.isLt
  pointwise [k0_pay1]
  rw [WordCmp.cmpi_slt_ofNat (by omega) (by omega)]
  have e : Scalar.select (BitVec.ofBool (decide (r.val < 256))) (IntOp.subi (BitVec.ofNat 32 r.val) 1#32)
      (IntOp.subi (IntOp.subi (BitVec.ofNat 32 r.val) 256#32) 2#32) = BitVec.ofNat 32 (if (r : ℕ) < 256 then (r : ℕ) - 1 else (r : ℕ) - 258) := by
    by_cases h1 : (r : ℕ) < 256
    · simp only [h1, Scalar.select, decide_true, BitVec.ofBool_true, if_true]
      unfold IntOp.subi
      apply BitVec.eq_of_toNat_eq
      simp [BitVec.toNat_sub]
      omega
    · simp only [h1, Scalar.select, decide_false, BitVec.ofBool_false, if_false]
      unfold IntOp.subi
      apply BitVec.eq_of_toNat_eq
      simp [BitVec.toNat_sub]
      omega
  rw [e, WordCmp.cmpi_eq_ofNat (by omega) (by split <;> omega)]
  by_cases h2 : (k : ℕ) = (if (r : ℕ) < 256 then (r : ℕ) - 1 else (r : ℕ) - 258)
  · simp [h2, word_one]
  · simp [h2, word_zero]

theorem hot_one (f : Fin 256 → EReal) (r : Fin 512) (h : (r : ℕ) < 256) (h' : 1 ≤ (r : ℕ)) :
    ∑ x : Fin 256, k0_pay1 (F := Ideal) (ix2 r x) * f x = f ⟨r - 1, by omega⟩ := by
  have e : ∀ x : Fin 256, k0_pay1 (F := Ideal) (ix2 r x) = if (x : ℕ) = (r : ℕ) - 1 then (1 : EReal) else 0 := fun x => by
    rw [hot_at r x (.inl ⟨h, h'⟩), if_pos h]
  simp only [e]
  exact sum_hot _ _ f

theorem hot_two (f : Fin 256 → EReal) (r : Fin 512) (h : 258 ≤ (r : ℕ)) :
    ∑ x : Fin 256, k0_pay1 (F := Ideal) (ix2 r x) * f x = f ⟨r - 258, by omega⟩ := by
  have e : ∀ x : Fin 256, k0_pay1 (F := Ideal) (ix2 r x) = if (x : ℕ) = (r : ℕ) - 258 then (1 : EReal) else 0 := fun x => by
    rw [hot_at r x (.inr h), if_neg (show ¬ (r : ℕ) < 256 by omega)]
  simp only [e]
  exact sum_hot _ _ f

/-- A choice on an order of two small words. -/
theorem sel_slt (a : ℕ) (ha : a < 256) (x y : EReal) :
    Scalar.select (IntOp.cmpi .slt (BitVec.ofNat 32 a) 2#32) x y = if a < 2 then x else y := by
  rw [WordCmp.cmpi_slt_ofNat (b := 2) (by omega) (by omega)]
  by_cases h : a < 2 <;> simp [h, Scalar.select]

/-- Half a tile moved down by one row, the row before it `z`. -/
theorem half_one (f : Fin 256 → EReal) (r : ℕ) (hr : r < 256) (z : EReal) :
    (if h : r < 8 then Scalar.select (IntOp.cmpi .eq (BitVec.ofNat 32 r) 0#32) z
        (∑ x : Fin 256, k0_pay1 (F := Ideal) (ix2 (⟨r, by omega⟩ : Fin 512) x) * f x)
      else ∑ x : Fin 256, k0_pay1 (F := Ideal) (ix2 (⟨8 + (r - 8), by omega⟩ : Fin 512) x) * f x)
      = if h : r < 1 then z else f ⟨r - 1, by omega⟩ := by
  by_cases h1 : r < 8
  · rw [dif_pos h1, sel_eq r 0 (by omega) (by omega)]
    by_cases h2 : r = 0
    · rw [if_pos h2, dif_pos (by omega)]
    · rw [if_neg h2, dif_neg (by omega)]
      exact hot_one f ⟨r, by omega⟩ hr (show 1 ≤ r by omega)
  · rw [dif_neg h1, dif_neg (by omega)]
    rw [hot_one f ⟨8 + (r - 8), by omega⟩ (show 8 + (r - 8) < 256 by omega) (show 1 ≤ 8 + (r - 8) by omega)]
    exact congrArg f (Fin.ext (show 8 + (r - 8) - 1 = r - 1 by omega))

/-- Half a tile moved down by two rows, the row two before it `z`. -/
theorem half_two (f : Fin 256 → EReal) (r : ℕ) (hr : r < 256) (z : EReal) :
    (if h : r < 8 then Scalar.select (IntOp.cmpi .slt (BitVec.ofNat 32 r) 2#32) z
        (∑ x : Fin 256, k0_pay1 (F := Ideal) (ix2 (⟨256 + r, by omega⟩ : Fin 512) x) * f x)
      else ∑ x : Fin 256, k0_pay1 (F := Ideal) (ix2 (⟨256 + (8 + (r - 8)), by omega⟩ : Fin 512) x) * f x)
      = if h : r < 2 then z else f ⟨r - 2, by omega⟩ := by
  by_cases h1 : r < 8
  · rw [dif_pos h1, sel_slt r hr]
    by_cases h2 : r < 2
    · rw [if_pos h2, dif_pos h2]
    · rw [if_neg h2, dif_neg h2]
      rw [hot_two f ⟨256 + r, by omega⟩ (show 258 ≤ 256 + r by omega)]
      exact congrArg f (Fin.ext (show 256 + r - 258 = r - 2 by omega))
  · rw [dif_neg h1, dif_neg (by omega)]
    rw [hot_two f ⟨256 + (8 + (r - 8)), by omega⟩ (show 258 ≤ 256 + (8 + (r - 8)) by omega)]
    exact congrArg f (Fin.ext (show 256 + (8 + (r - 8)) - 258 = r - 2 by omega))

/-! ## One tile -/

/-- The three taps of the convolution. -/
def taps (b w2 w1 w0 x2 x1 x0 : EReal) : EReal := b + w2 * x2 + w1 * x1 + w0 * x0

theorem taps_congr {b w2 w1 w0 x2 x1 x0 x2' x1' x0' : EReal} (h2 : x2 = x2') (h1 : x1 = x1') (h0 : x0 = x0') :
    taps b w2 w1 w0 x2 x1 x0 = taps b w2 w1 w0 x2' x1' x0' := by
  rw [h2, h1, h0]

abbrev Tile := Vec Ideal S512x1408 .bf16
abbrev Halo := Vec Ideal S16x1408 .bf16

/-- The tile `n` rows before, from the halo where it starts; the first tile has nothing before it. -/
def back (first : Prop) [Decidable first] (h : Halo) (x : Tile) (n : ℕ) (hn : 1 ≤ n ∧ n ≤ 2) (r : Fin 512) (l : Fin 1408) : EReal :=
  if hr : r.val < n then (if first then 0 else h (ix2 ⟨16 - n + r.val, by omega⟩ l)) else x (ix2 ⟨r.val - n, by omega⟩ l)

def conv (first : Prop) [Decidable first] (h : Halo) (x : Tile) (w : Vec Ideal S3x1408 .f32) (b : Vec Ideal S1x1408 .f32) (r : Fin 512) (l : Fin 1408) : EReal :=
  taps (b (ix2 0 l)) (w (ix2 0 l)) (w (ix2 1 l)) (w (ix2 2 l)) (back first h x 2 (by omega) r l) (back first h x 1 (by omega) r l) (x (ix2 r l))

theorem sel_first (n : ℕ) (hn : n < 16) (y : EReal) : Scalar.select (Scalar.cmpi .eq (BitVec.ofNat 32 n) 0#32) 0 y = if n = 0 then 0 else y :=
  sel_eq n 0 (by omega) (by omega) _ _

section

variable (i : grid0.Coords) (hi : (i 0).val < 16) (w : Vec Ideal S3x1408 .f32) (b : Vec Ideal S1x1408 .f32) (h : Halo) (x : Tile)
  (X Y : Vec Ideal S256x1408 .bf16) (hX : ∀ (r : Fin 256) (l : Fin 1408), X (ix2 r l) = x (ix2 ⟨r.val, by omega⟩ l))
  (hY : ∀ (r : Fin 256) (l : Fin 1408), Y (ix2 r l) = x (ix2 ⟨256 + r.val, by omega⟩ l))

include hi hX in
theorem upper_one (r : Fin 512) (l : Fin 1408) (hr : r.val < 256) :
    (if hn : r.val < 1 then Scalar.select (Scalar.cmpi .eq (BitVec.ofNat 32 (i 0).val) 0#32) 0 (h (ix2 (⟨8 + (r.val + 8 - 1) % 8, by omega⟩ : Fin 16) l))
      else X (ix2 (⟨r.val - 1, by omega⟩ : Fin 256) l)) = back ((i 0).val = 0) h x 1 (by omega) r l := by
  unfold back
  by_cases hn : r.val < 1
  · rw [dif_pos hn, dif_pos hn, sel_first _ hi]
    refine congrArg (fun z => if (i 0).val = 0 then (0 : EReal) else z) (congrArg h ?_)
    idx_ext <;> omega
  · rw [dif_neg hn, dif_neg hn]
    exact hX _ l

include hX hY in
theorem lower_one (r : Fin 512) (l : Fin 1408) (hr : ¬ r.val < 256) :
    (if hn : r.val - 256 < 1 then X (ix2 (⟨248 + (r.val - 256 + 8 - 1) % 8, by omega⟩ : Fin 256) l)
      else Y (ix2 (⟨r.val - 256 - 1, by omega⟩ : Fin 256) l)) = back ((i 0).val = 0) h x 1 (by omega) r l := by
  unfold back
  rw [dif_neg (show ¬ r.val < 1 by omega)]
  by_cases hn : r.val - 256 < 1
  · rw [dif_pos hn]
    refine (hX _ l).trans (congrArg x ?_)
    idx_ext <;> omega
  · rw [dif_neg hn]
    refine (hY _ l).trans (congrArg x ?_)
    idx_ext <;> omega

include hi hX in
theorem upper_two (r : Fin 512) (l : Fin 1408) (hr : r.val < 256) :
    (if hn : r.val < 2 then Scalar.select (Scalar.cmpi .eq (BitVec.ofNat 32 (i 0).val) 0#32) 0 (h (ix2 (⟨8 + (r.val + 8 - 2) % 8, by omega⟩ : Fin 16) l))
      else X (ix2 (⟨r.val - 2, by omega⟩ : Fin 256) l)) = back ((i 0).val = 0) h x 2 (by omega) r l := by
  unfold back
  by_cases hn : r.val < 2
  · rw [dif_pos hn, dif_pos hn, sel_first _ hi]
    refine congrArg (fun z => if (i 0).val = 0 then (0 : EReal) else z) (congrArg h ?_)
    idx_ext <;> omega
  · rw [dif_neg hn, dif_neg hn]
    exact hX _ l

include hX hY in
theorem lower_two (r : Fin 512) (l : Fin 1408) (hr : ¬ r.val < 256) :
    (if hn : r.val - 256 < 2 then X (ix2 (⟨248 + (r.val - 256 + 8 - 2) % 8, by omega⟩ : Fin 256) l)
      else Y (ix2 (⟨r.val - 256 - 2, by omega⟩ : Fin 256) l)) = back ((i 0).val = 0) h x 2 (by omega) r l := by
  unfold back
  rw [dif_neg (show ¬ r.val < 2 by omega)]
  by_cases hn : r.val - 256 < 2
  · rw [dif_pos hn]
    refine (hX _ l).trans (congrArg x ?_)
    idx_ext <;> omega
  · rw [dif_neg hn]
    refine (hY _ l).trans (congrArg x ?_)
    idx_ext <;> omega

include hi hX hY in
/-- Both halves of the tile, each mended at its first rows. -/
theorem mended (r : Fin 512) (l : Fin 1408) :
    (if hr : r.val < 256 then taps (b (ix2 0 l)) (w (ix2 0 l)) (w (ix2 1 l)) (w (ix2 2 l))
        (if hn : r.val < 8 then Scalar.select (IntOp.cmpi .slt (BitVec.ofNat 32 (r.val)) 2#32) (Scalar.select (Scalar.cmpi .eq (BitVec.ofNat 32 (i 0).val) 0#32) 0 (h (ix2 (⟨8 + (r.val + 8 - 2) % 8, by omega⟩ : Fin 16) l)))
          (∑ k : Fin 256, k0_pay1 (F := Ideal) (ix2 (⟨256 + r.val, by omega⟩ : Fin 512) k) * X (ix2 k l))
        else ∑ k : Fin 256, k0_pay1 (F := Ideal) (ix2 (⟨256 + (8 + (r.val - 8)), by omega⟩ : Fin 512) k) * X (ix2 k l))
        (if hn : r.val < 8 then Scalar.select (IntOp.cmpi .eq (BitVec.ofNat 32 (r.val)) 0#32) (Scalar.select (Scalar.cmpi .eq (BitVec.ofNat 32 (i 0).val) 0#32) 0 (h (ix2 (⟨8 + (r.val + 8 - 1) % 8, by omega⟩ : Fin 16) l)))
          (∑ k : Fin 256, k0_pay1 (F := Ideal) (ix2 (⟨r.val, by omega⟩ : Fin 512) k) * X (ix2 k l))
        else ∑ k : Fin 256, k0_pay1 (F := Ideal) (ix2 (⟨8 + (r.val - 8), by omega⟩ : Fin 512) k) * X (ix2 k l))
        (X (ix2 (⟨r.val, by omega⟩ : Fin 256) l))
      else taps (b (ix2 0 l)) (w (ix2 0 l)) (w (ix2 1 l)) (w (ix2 2 l))
        (if hn : r.val - 256 < 8 then Scalar.select (IntOp.cmpi .slt (BitVec.ofNat 32 (r.val - 256)) 2#32) (X (ix2 (⟨248 + (r.val - 256 + 8 - 2) % 8, by omega⟩ : Fin 256) l))
          (∑ k : Fin 256, k0_pay1 (F := Ideal) (ix2 (⟨256 + (r.val - 256), by omega⟩ : Fin 512) k) * Y (ix2 k l))
        else ∑ k : Fin 256, k0_pay1 (F := Ideal) (ix2 (⟨256 + (8 + (r.val - 256 - 8)), by omega⟩ : Fin 512) k) * Y (ix2 k l))
        (if hn : r.val - 256 < 8 then Scalar.select (IntOp.cmpi .eq (BitVec.ofNat 32 (r.val - 256)) 0#32) (X (ix2 (⟨248 + (r.val - 256 + 8 - 1) % 8, by omega⟩ : Fin 256) l))
          (∑ k : Fin 256, k0_pay1 (F := Ideal) (ix2 (⟨r.val - 256, by omega⟩ : Fin 512) k) * Y (ix2 k l))
        else ∑ k : Fin 256, k0_pay1 (F := Ideal) (ix2 (⟨8 + (r.val - 256 - 8), by omega⟩ : Fin 512) k) * Y (ix2 k l))
        (Y (ix2 (⟨r.val - 256, by omega⟩ : Fin 256) l)))
      = conv ((i 0).val = 0) h x w b r l := by
  unfold conv
  by_cases hr : r.val < 256
  · rw [dif_pos hr]
    exact taps_congr ((half_two (fun k => X (ix2 k l)) r.val hr _).trans (upper_two i hi h x X hX r l hr))
      ((half_one (fun k => X (ix2 k l)) r.val hr _).trans (upper_one i hi h x X hX r l hr)) (hX ⟨r.val, hr⟩ l)
  · have h' : r.val - 256 < 256 := by omega
    rw [dif_neg hr]
    refine taps_congr ((half_two (fun k => Y (ix2 k l)) (r.val - 256) h' _).trans (lower_two i h x X Y hX hY r l hr))
      ((half_one (fun k => Y (ix2 k l)) (r.val - 256) h' _).trans (lower_one i h x X Y hX hY r l hr)) ((hY ⟨r.val - 256, h'⟩ l).trans (congrArg x ?_))
    idx_ext <;> omega

include hi hX hY in
theorem paid_a (r : Fin 512) (l : Fin 1408) :
    k0_pay9 (F := Ideal) k0_pay1 w b (iota .tc S8x1408 32 [0] iota_S8x1408_d0_w32) (k0_pay3 X) (k0_pay5 X)
      (k0_pay6 i h X) k0_pay7 (k0_pay8 i h) Y (ix2 r l) = conv ((i 0).val = 0) h x w b r l := by
  refine Eq.trans ?_ (mended i hi w b h x X Y hX hY r l)
  generalize hM : k0_pay1 (F := Ideal) = M
  pointwise [k0_pay9, k0_pay3, k0_pay5, k0_pay6, k0_pay7, k0_pay8, k0_pay2, k0_pay4]
  subst hM
  rfl

include hi hX hY in
theorem paid_b (r : Fin 512) (l : Fin 1408) :
    k0_pay16 (F := Ideal) w b (iota .tc S8x1408 32 [0] iota_S8x1408_d0_w32)
      (k0_pay11 (Scalar.cmpi .eq (BitVec.ofNat 32 (i 0).val) 0#32) k0_pay1 w b h X) (k0_pay12 X) (k0_pay13 Y)
      (k0_pay14 k0_pay1 Y) (k0_pay15 k0_pay1 Y) (ix2 r l) = conv ((i 0).val = 0) h x w b r l := by
  refine Eq.trans ?_ (mended i hi w b h x X Y hX hY r l)
  generalize hM : k0_pay1 (F := Ideal) = M
  pointwise [k0_pay16, k0_pay10, k0_pay11, k0_pay12, k0_pay13, k0_pay14, k0_pay15]
  subst hM
  rfl

end

theorem ld_low (x : Tile) (r : Fin 256) (l : Fin 1408) : View.ld x r0_3 (ix2 r l) = x (ix2 ⟨r.val, by omega⟩ l) :=
  congrArg x (by idx_ext)

theorem ld_high (x : Tile) (r : Fin 256) (l : Fin 1408) : View.ld x r0_4 (ix2 r l) = x (ix2 ⟨256 + r.val, by omega⟩ l) :=
  congrArg x (by idx_ext)

theorem index_at : ∀ t : Fin cfg0.N, win0_0.index t = ![t.val / 4, t.val % 4] ∧ win0_1.index t = ![t.val / 4, t.val % 4 + 4]
    ∧ win0_2.index t = ![t.val / 4 * 32 - 1, t.val % 4] ∧ win0_3.index t = ![t.val / 4 * 32 - 1, t.val % 4 + 4]
    ∧ win0_4.index t = ![0, t.val % 4] ∧ win0_5.index t = ![0, t.val % 4 + 4]
    ∧ win0_6.index t = ![0, t.val % 4] ∧ win0_7.index t = ![0, t.val % 4 + 4]
    ∧ win0_8.index t = ![t.val / 4, t.val % 4] ∧ win0_9.index t = ![t.val / 4, t.val % 4] ∧ win0_10.index t = ![t.val / 4, t.val % 4] :=
  (by decide +kernel : ∀ t : Fin grid0.N, _)

/-! ## The whole arrays -/

abbrev Up := (⟨S8192x11264, .bf16⟩ : BufTy).Contents (Elt Ideal)
abbrev Taps := (⟨S3x11264, .f32⟩ : BufTy).Contents (Elt Ideal)
abbrev Bias := (⟨S1x11264, .f32⟩ : BufTy).Contents (Elt Ideal)
abbrev Half := (⟨S8192x5632, .bf16⟩ : BufTy).Contents (Elt Ideal)

/-- The array `n` rows before; nothing lies before its start. -/
def past (u : Up) (n : ℕ) (s : Fin 8192) (l : Fin 11264) : EReal := if h : s.val < n then 0 else u (ix2 ⟨s.val - n, by omega⟩ l)

def convAll (u : Up) (w : Taps) (b : Bias) (s : Fin 8192) (l : Fin 11264) : EReal :=
  taps (b (ix2 0 l)) (w (ix2 0 l)) (w (ix2 1 l)) (w (ix2 2 l)) (past u 2 s l) (past u 1 s l) (u (ix2 s l))

/-- A column's place in the first half … -/
abbrev colA (l : Fin 5632) : Fin 11264 := ⟨l.val, by have := l.isLt; omega⟩

/-- … and in the second. -/
abbrev colB (l : Fin 5632) : Fin 11264 := ⟨5632 + l.val, by omega⟩

def partA (u : Up) (w : Taps) (b : Bias) : Half := fun i => convAll u w b (i 0) (colA (i 1))

def partB (u : Up) (w : Taps) (b : Bias) : Half := fun i => convAll u w b (i 0) (colB (i 1))

/-- The gate's activation times the other half. -/
def gate (a b : EReal) : EReal :=
  Ideal.ofBits .f32 0x3F000000#32 * a * (1 + Ideal.erf (a * Ideal.ofBits .f32 0x3F3504F3#32)) * b

def gated (u : Up) (w : Taps) (b : Bias) : Half := fun i => gate (convAll u w b (i 0) (colA (i 1))) (convAll u w b (i 0) (colB (i 1)))

variable (m : (ℓ : Loc nD τ sig) → Buf (Elt Ideal) ℓ) (c : Dev nD) (t : Fin cfg0.N)

theorem coord : ∀ t : Fin cfg0.N, ((grid0.coords t) 0).val = t.val / 4 := (by decide +kernel : ∀ t : Fin grid0.N, _)

theorem point_lt : t.val < 64 := lt_of_lt_of_eq t.isLt N_0

theorem coord_lt : ((grid0.coords t) 0).val < 16 := by
  have := point_lt t
  rw [coord]
  omega

abbrev rowOf (r : Fin 512) : Fin 8192 := ⟨t.val / 4 * 512 + r.val, by have := point_lt t; omega⟩

abbrev colOf (l : Fin 1408) : Fin 5632 := ⟨t.val % 4 * 1408 + l.val, by omega⟩

theorem tile_A (r : Fin 512) (l : Fin 1408) : (iblk m c 0 t : Tile) (ix2 r l) = (V m c main_arg0 : Up) (ix2 (rowOf t r) (colA (colOf t l))) := by
  blk_ext [iblk, index_at]

theorem back_A (n : ℕ) (hn : 1 ≤ n ∧ n ≤ 2) (r : Fin 512) (l : Fin 1408) :
    back (((grid0.coords t) 0).val = 0) (iblk m c 2 t) (iblk m c 0 t) n hn r l = past (V m c main_arg0) n (rowOf t r) (colA (colOf t l)) := by
  have ht := point_lt t
  unfold back past
  rw [coord]
  by_cases h1 : r.val < n
  · rw [dif_pos h1]
    by_cases h2 : t.val / 4 = 0
    · rw [if_pos h2, dif_pos (show t.val / 4 * 512 + r.val < n by omega)]
    · rw [if_neg h2, dif_neg (show ¬ t.val / 4 * 512 + r.val < n by omega)]
      blk_ext [iblk, index_at]
  · rw [dif_neg h1, dif_neg (show ¬ t.val / 4 * 512 + r.val < n by omega)]
    refine (tile_A m c t _ l).trans ?_
    refine congrArg (V m c main_arg0 : Up) ?_
    idx_ext <;> omega

theorem weights_A (k : Fin 3) (l : Fin 1408) : (iblk m c 4 t : Vec Ideal S3x1408 .f32) (ix2 k l) = (V m c main_arg1 : Taps) (ix2 k (colA (colOf t l))) := by
  blk_ext [iblk, index_at]

theorem bias_A (l : Fin 1408) : (iblk m c 6 t : Vec Ideal S1x1408 .f32) (ix2 0 l) = (V m c main_arg2 : Bias) (ix2 0 (colA (colOf t l))) := by
  blk_ext [iblk, index_at]

theorem conv_A (r : Fin 512) (l : Fin 1408) :
    conv (((grid0.coords t) 0).val = 0) (iblk m c 2 t) (iblk m c 0 t) (iblk m c 4 t) (iblk m c 6 t) r l
      = convAll (V m c main_arg0) (V m c main_arg1) (V m c main_arg2) (rowOf t r) (colA (colOf t l)) := by
  unfold conv convAll
  rw [bias_A, weights_A, weights_A, weights_A, back_A, back_A, tile_A]

theorem tile_B (r : Fin 512) (l : Fin 1408) : (iblk m c 1 t : Tile) (ix2 r l) = (V m c main_arg0 : Up) (ix2 (rowOf t r) (colB (colOf t l))) := by
  blk_ext [iblk, index_at]

theorem back_B (n : ℕ) (hn : 1 ≤ n ∧ n ≤ 2) (r : Fin 512) (l : Fin 1408) :
    back (((grid0.coords t) 0).val = 0) (iblk m c 3 t) (iblk m c 1 t) n hn r l = past (V m c main_arg0) n (rowOf t r) (colB (colOf t l)) := by
  have ht := point_lt t
  unfold back past
  rw [coord]
  by_cases h1 : r.val < n
  · rw [dif_pos h1]
    by_cases h2 : t.val / 4 = 0
    · rw [if_pos h2, dif_pos (show t.val / 4 * 512 + r.val < n by omega)]
    · rw [if_neg h2, dif_neg (show ¬ t.val / 4 * 512 + r.val < n by omega)]
      blk_ext [iblk, index_at]
  · rw [dif_neg h1, dif_neg (show ¬ t.val / 4 * 512 + r.val < n by omega)]
    refine (tile_B m c t _ l).trans ?_
    refine congrArg (V m c main_arg0 : Up) ?_
    idx_ext <;> omega

theorem weights_B (k : Fin 3) (l : Fin 1408) : (iblk m c 5 t : Vec Ideal S3x1408 .f32) (ix2 k l) = (V m c main_arg1 : Taps) (ix2 k (colB (colOf t l))) := by
  blk_ext [iblk, index_at]

theorem bias_B (l : Fin 1408) : (iblk m c 7 t : Vec Ideal S1x1408 .f32) (ix2 0 l) = (V m c main_arg2 : Bias) (ix2 0 (colB (colOf t l))) := by
  blk_ext [iblk, index_at]

theorem conv_B (r : Fin 512) (l : Fin 1408) :
    conv (((grid0.coords t) 0).val = 0) (iblk m c 3 t) (iblk m c 1 t) (iblk m c 5 t) (iblk m c 7 t) r l
      = convAll (V m c main_arg0) (V m c main_arg1) (V m c main_arg2) (rowOf t r) (colB (colOf t l)) := by
  unfold conv convAll
  rw [bias_B, weights_B, weights_B, weights_B, back_B, back_B, tile_B]

theorem half_a (r : Fin 512) (l : Fin 1408) :
    k0_pay21 (F := Ideal) (grid0.coords t) (iblk m c 0 t) (iblk m c 1 t) (iblk m c 2 t) (iblk m c 3 t) (iblk m c 4 t) (iblk m c 5 t) (iblk m c 6 t) (iblk m c 7 t) (ix2 r l)
      = convAll (V m c main_arg0) (V m c main_arg1) (V m c main_arg2) (rowOf t r) (colA (colOf t l)) := by
  refine Eq.trans ?_ (conv_A m c t r l)
  unfold k0_pay21 k0_pay20
  frame_out
  exact paid_a _ (coord_lt t) _ _ _ _ _ _ (ld_low _) (ld_high _) r l

theorem half_b (r : Fin 512) (l : Fin 1408) :
    k0_pay16 (F := Ideal) (iblk m c 5 t) (iblk m c 7 t)
      (k0_pay22 (F := Ideal) (grid0.coords t) (iblk m c 0 t) (iblk m c 1 t) (iblk m c 2 t) (iblk m c 3 t) (iblk m c 4 t) (iblk m c 5 t) (iblk m c 6 t) (iblk m c 7 t))
      (k0_pay23 (F := Ideal) (grid0.coords t) (iblk m c 0 t) (iblk m c 1 t) (iblk m c 2 t) (iblk m c 3 t) (iblk m c 4 t) (iblk m c 5 t) (iblk m c 6 t) (iblk m c 7 t))
      (k0_pay24 (F := Ideal) (grid0.coords t) (iblk m c 0 t) (iblk m c 1 t) (iblk m c 2 t) (iblk m c 3 t) (iblk m c 4 t) (iblk m c 5 t) (iblk m c 6 t) (iblk m c 7 t))
      (k0_pay25 (F := Ideal) (grid0.coords t) (iblk m c 0 t) (iblk m c 1 t) (iblk m c 2 t) (iblk m c 3 t) (iblk m c 4 t) (iblk m c 5 t) (iblk m c 6 t) (iblk m c 7 t))
      (k0_pay26 (F := Ideal) (grid0.coords t) (iblk m c 0 t) (iblk m c 1 t) (iblk m c 2 t) (iblk m c 3 t) (iblk m c 4 t) (iblk m c 5 t) (iblk m c 6 t) (iblk m c 7 t))
      (k0_pay27 (F := Ideal) (grid0.coords t) (iblk m c 0 t) (iblk m c 1 t) (iblk m c 2 t) (iblk m c 3 t) (iblk m c 4 t) (iblk m c 5 t) (iblk m c 6 t) (iblk m c 7 t)) (ix2 r l)
      = convAll (V m c main_arg0) (V m c main_arg1) (V m c main_arg2) (rowOf t r) (colB (colOf t l)) := by
  refine Eq.trans ?_ (conv_B m c t r l)
  unfold k0_pay27 k0_pay26 k0_pay25 k0_pay24 k0_pay23 k0_pay22 k0_pay20
  frame_out
  exact paid_b _ (coord_lt t) _ _ _ _ _ _ (ld_low _) (ld_high _) r l

theorem gate_at (x : FVec Ideal S512x1408 .f32) (v90 v91 v97 v129 v130 v132 v133 v134) (r : Fin 512) (l : Fin 1408) :
    k0_pay17 (F := Ideal) x v90 v91 v97 v129 v130 v132 v133 v134 (ix2 r l)
      = gate (x (ix2 r l)) (k0_pay16 (F := Ideal) v90 v91 v97 v129 v130 v132 v133 v134 (ix2 r l)) := by
  pointwise [k0_pay17]
  rfl

/-- The first array that the kernel leaves. -/
theorem final_gated : (dats m 0 c).arrAt 8 (cfgs 0).N = gated (V m c main_arg0) (V m c main_arg1) (V m c main_arg2) := by
  refine (dats m 0 c).arrAt_eq_of_covers 8 _ (by decide +kernel) fun t hf y => ?_
  blk_simp
  rw [after0_8]
  obtain ⟨r, l, rfl⟩ := Products.pair y
  have e : (win0_8.blk t).view.emb (ix2 r l) = ix2 (rowOf t r) (colOf t l) := by
    blk_ext [index_at t]
  rw [e]
  unfold out0_8
  frame_out
  refine (gate_at _ _ _ _ _ _ _ _ _ r l).trans ?_
  exact congrArg₂ gate (half_a m c t r l) (half_b m c t r l)

/-- The second. -/
theorem final_a : (dats m 0 c).arrAt 9 (cfgs 0).N = partA (V m c main_arg0) (V m c main_arg1) (V m c main_arg2) := by
  refine (dats m 0 c).arrAt_eq_of_covers 9 _ (by decide +kernel) fun t hf y => ?_
  blk_simp
  rw [after0_9]
  obtain ⟨r, l, rfl⟩ := Products.pair y
  have e : (win0_9.blk t).view.emb (ix2 r l) = ix2 (rowOf t r) (colOf t l) := by
    blk_ext [index_at t]
  rw [e]
  unfold out0_9
  frame_out
  exact half_a m c t r l

/-- The third. -/
theorem final_b : (dats m 0 c).arrAt 10 (cfgs 0).N = partB (V m c main_arg0) (V m c main_arg1) (V m c main_arg2) := by
  refine (dats m 0 c).arrAt_eq_of_covers 10 _ (by decide +kernel) fun t hf y => ?_
  blk_simp
  rw [after0_10]
  obtain ⟨r, l, rfl⟩ := Products.pair y
  have e : (win0_10.blk t).view.emb (ix2 r l) = ix2 (rowOf t r) (colOf t l) := by
    blk_ext [index_at t]
  rw [e]
  unfold out0_10
  frame_out
  exact half_b m c t r l

/-! ## The reference -/

section

open Cert.Reference26Ideal Cert.Reference26Ideal.Read

variable (u : (⟨Cert.Reference26Ideal.S8192x11264, .bf16⟩ : BufTy).Contents (Elt Ideal)) (w : (⟨Cert.Reference26Ideal.S3x11264, .f32⟩ : BufTy).Contents (Elt Ideal))
  (b : (⟨Cert.Reference26Ideal.S1x11264, .f32⟩ : BufTy).Contents (Elt Ideal))

theorem refer_conv (s : Fin 8192) (l : Fin 11264) : val_main_v26 (F := Ideal) u w b (ix2 s l) = convAll u w b s l := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst]
  refine taps_congr rfl ?_ rfl
  unfold past
  by_cases h : s.val < 1
  · rw [dif_pos h, dif_pos (show 1 + s.val < 2 by omega)]
  · rw [dif_neg h, dif_neg (show ¬ 1 + s.val < 2 by omega)]
    refine congrArg u ?_
    idx_ext <;> omega

theorem refer_a : val_main_v38 (F := Ideal) u w b = partA u w b := by
  funext i
  obtain ⟨s, l, rfl⟩ := Products.pair (M := 8192) (N := 5632) i
  pointwise [val_main_v38, val_main_v27]
  exact refer_conv u w b s (colA l)

theorem refer_b : val_main_v39 (F := Ideal) u w b = partB u w b := by
  funext i
  obtain ⟨s, l, rfl⟩ := Products.pair (M := 8192) (N := 5632) i
  pointwise [val_main_v39, val_main_v28]
  exact refer_conv u w b s (colB l)

theorem refer_gated : val_main_v37 (F := Ideal) u w b = gated u w b := by
  funext i
  obtain ⟨s, l, rfl⟩ := Products.pair (M := 8192) (N := 5632) i
  pointwise [val_main_v37, val_main_v36, val_main_v35, val_main_v34, val_main_v33, val_main_v32, val_main_v31, val_main_v30, val_main_v29, val_main_v28, val_main_v27,
    val_main_cst_0, val_main_cst_1]
  rw [neg_mul, Ideal.erfc_neg, refer_conv, refer_conv]
  rfl

end

/-- Kernel and reference leave the same arrays. -/
theorem value : algebraic_Kernel26Ideal_Reference26Ideal := by
  intro m g m' g' _ hag
  refine ⟨fun c => (dats m 0 c).arrAt 8 cfg0.N, fun c => (dats m 0 c).arrAt 9 cfg0.N, fun c => (dats m 0 c).arrAt 10 cfg0.N,
    Cert.Kernel26Ideal.Value.run_blocks m g, ?_⟩
  refine (θ_run _ _ _).mono (fun r h c => ?_) (Cert.Reference26Ideal.Value.run m' g')
  obtain ⟨h0, h1, h2⟩ := hag c
  obtain ⟨r0, r1, r2, k⟩ := h c
  refine ⟨r0.trans ?_, r1.trans ?_, r2.trans ?_, k⟩
  · rw [Cert.Reference26Ideal.Read.val_main_v37_eq, h0, h1, h2]
    exact (refer_gated _ _ _).trans ((final_gated m c).trans (by rw [V_main_arg0, V_main_arg1, V_main_arg2])).symm
  · rw [Cert.Reference26Ideal.Read.val_main_v38_eq, h0, h1, h2]
    exact (refer_a _ _ _).trans ((final_a m c).trans (by rw [V_main_arg0, V_main_arg1, V_main_arg2])).symm
  · rw [Cert.Reference26Ideal.Read.val_main_v39_eq, h0, h1, h2]
    exact (refer_b _ _ _).trans ((final_b m c).trans (by rw [V_main_arg0, V_main_arg1, V_main_arg2])).symm

end Cert.Kernel26Ideal.Mm

end
-- ==== Proof.LossHead.lean ====
/- The call of the loss and its gradient: what one grid point writes, the arrays that the kernel leaves, and that the
reference leaves the same ones. -/
module

public import proofs.«01_k».proof.Proof.Norm
public import proofs.«01_k».proof.Proof.Gen.Kernel27Ideal.Value
public import proofs.«01_k».proof.Proof.Gen.Reference27Ideal.Run
public import proofs.«01_k».proof.Proof.Gen.Reference27Ideal.Read
public import proofs.«01_k».proof.Defs
import Idealize.ShloMosaic.Lib.Pipeline.ValueKit
import Idealize.ShloMosaic.Lib.Pipeline.ReadBack

@[expose] public section

set_option maxRecDepth 16384

noncomputable section

namespace Cert.Kernel27Ideal.Mm

open Cert.Kernel27Ideal Cert.Kernel27Ideal.Gen Idealize.ShloMosaic Idealize.ShloMosaic.TcCoe Idealize.SL.Sem

variable (m : (ℓ : Loc nD τ sig) → Buf (Elt Ideal) ℓ) (c : Dev nD) (t : Fin cfg0.N)

/-- The blocks a point reads: the rows, their targets and the weights. -/
abbrev xBlk : Norm.Rows 512 := iblk m c 0 t

@[inherit_doc xBlk]
abbrev yBlk : Norm.Rows 512 := iblk m c 1 t

@[inherit_doc xBlk]
abbrev gBlk : Norm.Rows 1 := iblk m c 2 t

/-- The block's gradient with respect to the scaled rows. -/
abbrev dBlk : Norm.Rows 512 := Norm.push (xBlk m c t) (yBlk m c t) (gBlk m c t)

theorem inv_at (x : Vec Ideal S512x2048 .f32) (r : Fin 512) : k0_pay2 (F := Ideal) x (ix2 r 0) = Norm.inv (M := 512) x r := by
  pointwise [k0_pay2]
  rfl

theorem miss_at (x : Vec Ideal S512x2048 .f32) (g : Vec Ideal S1x2048 .f32) (y : Vec Ideal S512x2048 .f32) (r : Fin 512) (l : Fin 2048) :
    k0_pay4 (F := Ideal) x g y (ix2 r l) = Norm.miss (M := 512) x y g (ix2 r l) := by
  pointwise [k0_pay4, k0_pay3]
  rw [inv_at]
  rfl

theorem push_at (x : Vec Ideal S512x2048 .f32) (g : Vec Ideal S1x2048 .f32) (y : Vec Ideal S512x2048 .f32) (r : Fin 512) (l : Fin 2048) :
    k0_pay8 (F := Ideal) x g y (ix2 r l) = Norm.push (M := 512) x y g (ix2 r l) := by
  pointwise [k0_pay8]
  rw [miss_at]
  rfl

theorem rows_at (x : Vec Ideal S512x2048 .f32) (g : Vec Ideal S1x2048 .f32) (y : Vec Ideal S512x2048 .f32) (r : Fin 512) (l : Fin 2048) :
    k0_pay1 (F := Ideal) g (k0_pay2 x) (k0_pay3 x) (k0_pay8 x g y) (ix2 r l)
      = Norm.rows (M := 512) (Norm.push (M := 512) x y g) x g (fun _ => 0) (ix2 r l) := by
  refine Eq.trans ?_ (zero_add _).symm
  pointwise [k0_pay1, k0_pay3]
  simp only [inv_at, push_at]

theorem weights_at (x : Vec Ideal S512x2048 .f32) (g : Vec Ideal S1x2048 .f32) (y : Vec Ideal S512x2048 .f32) (z : Vec Ideal S1x2048 .f32) (l : Fin 2048) :
    k0_pay9 (F := Ideal) x g y z (ix2 0 l) = z (ix2 0 l) + Norm.weights (M := 512) (Norm.push (M := 512) x y g) x (ix2 0 l) := by
  pointwise [k0_pay9, k0_pay3]
  simp only [inv_at, push_at]
  rfl

theorem loss_at (x : Vec Ideal S512x2048 .f32) (g : Vec Ideal S1x2048 .f32) (y : Vec Ideal S512x2048 .f32) (z : Vec Ideal S1x2048 .f32) (l : Fin 2048) :
    k0_pay7 (F := Ideal) x g y z (ix2 0 l) = z (ix2 0 l) + Norm.loss (M := 512) x y g (ix2 0 l) := by
  refine Eq.trans ?_ (congrArg (z (ix2 0 l) + ·) (Norm.sum_square_mul (fun s => Norm.miss (M := 512) x y g (ix2 s l)) Norm.halfShare))
  pointwise [k0_pay7]
  simp only [miss_at]

theorem reset_weights (l : Fin 2048) : k0_pay5 (F := Ideal) (ix2 0 l) = 0 := by pointwise [k0_pay5]

theorem reset_loss (l : Fin 2048) : k0_pay6 (F := Ideal) (ix2 0 l) = 0 := by pointwise [k0_pay6]

/-- The rows' gradient after a point. -/
theorem out_rows (r : Fin 512) (l : Fin 2048) :
    (outsAt0 m c t.val t.isLt).1 (ix2 r l) = Norm.rows (dBlk m c t) (xBlk m c t) (gBlk m c t) (fun _ => 0) (ix2 r l) := by
  by_cases h : t.val % 16 = 0
  · rw [outsAt0_A m c t h]
    frame_out
    exact rows_at _ _ _ r l
  · rw [outsAt0_B m c t h]
    frame_out
    exact rows_at _ _ _ r l

/-- The weights' gradient and the loss after the first point. -/
theorem acc_first (h : t.val % 16 = 0) (l : Fin 2048) :
    (outsAt0 m c t.val t.isLt).2.1 (ix2 0 l) = Norm.weights (dBlk m c t) (xBlk m c t) (ix2 0 l) := by
  rw [outsAt0_A m c t h]
  frame_out
  refine (weights_at _ _ _ _ l).trans ?_
  rw [reset_weights]
  exact zero_add _

@[inherit_doc acc_first]
theorem loss_first (h : t.val % 16 = 0) (l : Fin 2048) :
    (outsAt0 m c t.val t.isLt).2.2 (ix2 0 l) = Norm.loss (xBlk m c t) (yBlk m c t) (gBlk m c t) (ix2 0 l) := by
  rw [outsAt0_A m c t h]
  frame_out
  refine (loss_at _ _ _ _ l).trans ?_
  rw [reset_loss]
  exact zero_add _

/-- After a later one. -/
theorem acc_next (h : ¬t.val % 16 = 0) (l : Fin 2048) : (outsAt0 m c t.val t.isLt).2.1 (ix2 0 l)
    = (outsAt0 m c (t.val - 1) (Nat.lt_of_le_of_lt (Nat.sub_le _ _) t.isLt)).2.1 (ix2 0 l) + Norm.weights (dBlk m c t) (xBlk m c t) (ix2 0 l) := by
  rw [outsAt0_B m c t h]
  frame_out
  exact weights_at _ _ _ _ l

@[inherit_doc acc_next]
theorem loss_next (h : ¬t.val % 16 = 0) (l : Fin 2048) : (outsAt0 m c t.val t.isLt).2.2 (ix2 0 l)
    = (outsAt0 m c (t.val - 1) (Nat.lt_of_le_of_lt (Nat.sub_le _ _) t.isLt)).2.2 (ix2 0 l) + Norm.loss (xBlk m c t) (yBlk m c t) (gBlk m c t) (ix2 0 l) := by
  rw [outsAt0_B m c t h]
  frame_out
  exact loss_at _ _ _ _ l

theorem index_at : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem row_lt (s : Fin 512) : t.val * 512 + s.val < 8192 := by
  have ht : t.val < 16 := lt_of_lt_of_eq t.isLt N_0
  omega

theorem x_at (s : Fin 512) (k : Fin 2048) : xBlk m c t (ix2 s k) = V m c main_arg0 (ix2 ⟨t.val * 512 + s.val, row_lt t s⟩ k) := by
  blk_ext [xBlk, iblk, index_at]

theorem y_at (s : Fin 512) (k : Fin 2048) : yBlk m c t (ix2 s k) = V m c main_arg1 (ix2 ⟨t.val * 512 + s.val, row_lt t s⟩ k) := by
  blk_ext [yBlk, iblk, index_at]

theorem g_at (k : Fin 2048) : gBlk m c t (ix2 0 k) = V m c main_arg2 (ix2 0 k) := by
  blk_ext [gBlk, iblk, index_at]

theorem miss_blk (s : Fin 512) (k : Fin 2048) : Norm.miss (xBlk m c t) (yBlk m c t) (gBlk m c t) (ix2 s k)
    = Norm.miss (M := 8192) (V m c main_arg0) (V m c main_arg1) (V m c main_arg2) (ix2 ⟨t.val * 512 + s.val, row_lt t s⟩ k) :=
  Norm.miss_congr (M' := 8192) k (x_at m c t s) (g_at m c t k) (y_at m c t s k)

/-- The gradient with respect to the scaled rows, over the whole arrays. -/
abbrev dAll : Norm.Rows 8192 := Norm.push (M := 8192) (V m c main_arg0) (V m c main_arg1) (V m c main_arg2)

/-- The first array that the kernel leaves. -/
theorem final_rows : (dats m 0 c).arrAt 3 (cfgs 0).N = Norm.rows (M := 8192) (dAll m c) (V m c main_arg0) (V m c main_arg2) (fun _ => 0) := by
  refine (dats m 0 c).arrAt_eq_of_covers 3 _ (by decide +kernel) fun t hf y => ?_
  blk_simp
  rw [after0_3]
  obtain ⟨r, l, rfl⟩ := Products.pair y
  have e : (win0_3.blk t).view.emb (ix2 r l) = ix2 ⟨t.val * 512 + r.val, row_lt t r⟩ l := by
    blk_ext [index_at t]
  rw [e]
  exact (out_rows m c t r l).trans (Norm.rows_congr (M' := 8192) l (fun k => congrArg (· * Norm.share) (miss_blk m c t r k)) (x_at m c t r) (g_at m c t) rfl)

theorem lone (y : S1x2048.Idx) : ∃ l : Fin 2048, y = ix2 0 l := by
  obtain ⟨r, l, rfl⟩ := Products.pair (M := 1) (N := 2048) y
  exact ⟨l, by rw [Subsingleton.elim (α := Fin 1) r 0]⟩

/-- The second. -/
theorem final_weights : (dats m 0 c).arrAt 4 (cfgs 0).N = Norm.weights (M := 8192) (dAll m c) (V m c main_arg0) := by
  refine (dats m 0 c).arrAt_eq_of_covers 4 _ (by decide +kernel) fun t hf y => ?_
  blk_simp
  rw [after0_4]
  have ht : t.val < 16 := lt_of_lt_of_eq t.isLt N_0
  have h := (flush0_4 t).mp hf
  obtain ⟨l, rfl⟩ := lone y
  have e : (win0_4.blk t).view.emb (ix2 0 l) = ix2 0 l := by
    blk_ext [index_at t]
  rw [e]
  refine Products.run_sum (fun n h l => (outsAt0 m c n h).2.1 (ix2 0 l)) 16 512
    (fun p s l => dBlk m c p (ix2 s l) * (xBlk m c p (ix2 s l) * Norm.inv (xBlk m c p) s))
    (fun p h l => acc_first m c p h l) (fun p h l => acc_next m c p h l) t h l _ fun s k hk => ?_
  have eq : 16 * (t.val / 16) + s.val = s.val := by omega
  have ei : (⟨(16 * (t.val / 16) + s.val) * 512 + k.val, row_lt ⟨16 * (t.val / 16) + s.val, Pipeline.run_point_lt_of_flush t h s⟩ k⟩ : Fin 8192) = ⟨s.val * 512 + k.val, hk⟩ :=
    Fin.ext (by simp only [eq])
  have ex := fun q => (x_at m c ⟨16 * (t.val / 16) + s.val, Pipeline.run_point_lt_of_flush t h s⟩ k q).trans (by rw [ei])
  exact congrArg₂ (· * ·) (congrArg (· * Norm.share) ((miss_blk m c _ k l).trans (by rw [ei]; rfl)))
    (congrArg₂ (· * ·) (ex l) (Norm.inv_congr (M' := 8192) ex))

/-- The third. -/
theorem final_loss : (dats m 0 c).arrAt 5 (cfgs 0).N = Norm.loss (M := 8192) (V m c main_arg0) (V m c main_arg1) (V m c main_arg2) := by
  refine (dats m 0 c).arrAt_eq_of_covers 5 _ (by decide +kernel) fun t hf y => ?_
  blk_simp
  rw [after0_5]
  have ht : t.val < 16 := lt_of_lt_of_eq t.isLt N_0
  have h := (flush0_5 t).mp hf
  obtain ⟨l, rfl⟩ := lone y
  have e : (win0_5.blk t).view.emb (ix2 0 l) = ix2 0 l := by
    blk_ext [index_at t]
  rw [e]
  refine Products.run_sum (fun n h l => (outsAt0 m c n h).2.2 (ix2 0 l)) 16 512
    (fun p s l => Norm.miss (xBlk m c p) (yBlk m c p) (gBlk m c p) (ix2 s l) * Norm.miss (xBlk m c p) (yBlk m c p) (gBlk m c p) (ix2 s l) * Norm.halfShare)
    (fun p h l => loss_first m c p h l) (fun p h l => loss_next m c p h l) t h l _ fun s k hk => ?_
  have eq : 16 * (t.val / 16) + s.val = s.val := by omega
  have ei : (⟨(16 * (t.val / 16) + s.val) * 512 + k.val, row_lt ⟨16 * (t.val / 16) + s.val, Pipeline.run_point_lt_of_flush t h s⟩ k⟩ : Fin 8192) = ⟨s.val * 512 + k.val, hk⟩ :=
    Fin.ext (by simp only [eq])
  have em := (miss_blk m c ⟨16 * (t.val / 16) + s.val, Pipeline.run_point_lt_of_flush t h s⟩ k l).trans (by rw [ei])
  exact congrArg (· * Norm.halfShare) (congrArg₂ (· * ·) em em)

variable (x : Buf (Elt Ideal) ((c.tc : Thread nD τ).loc main_arg0)) (y : Buf (Elt Ideal) ((c.tc : Thread nD τ).loc main_arg1))
  (g : Buf (Elt Ideal) ((c.tc : Thread nD τ).loc main_arg2))

section

open Cert.Reference27Ideal Cert.Reference27Ideal.Read

theorem refer_square (s : Fin 8192) : val_main_v6 (F := Ideal) x (ix2 s 0) = Norm.square (M := 8192) x s := by
  pointwise [val_main_v6, val_main_v5, val_main_v4, val_main_v3, val_main_v2, val_main_v1, val_main_v0, val_main_cst, val_main_cst_0, val_main_cst_1]
  rfl

theorem refer_inv (s : Fin 8192) : val_main_v7 (F := Ideal) x (ix2 s 0) = Norm.inv (M := 8192) x s := by
  pointwise [val_main_v7]
  rw [refer_square]
  rfl

theorem refer_miss (s : Fin 8192) (l : Fin 2048) : val_main_v15 (F := Ideal) x y g (ix2 s l) = Norm.miss (M := 8192) x y g (ix2 s l) := by
  pointwise [val_main_v15, val_main_v14, val_main_v13, val_main_v12, val_main_v11]
  rw [refer_inv]
  rfl

theorem refer_push (s : Fin 8192) (l : Fin 2048) : val_main_v32 (F := Ideal) x y g (ix2 s l) = Norm.push (M := 8192) x y g (ix2 s l) := by
  refine Eq.trans ?_ (Norm.push_meet _)
  pointwise [val_main_v32, val_main_v31, val_main_v30, val_main_v29, val_main_v28, val_main_v27, val_main_v26, val_main_v25, val_main_v18, val_main_v17,
    val_main_cst_3, val_main_cst_7, val_main_cst_8, val_main_cst_9, val_main_cst_10]
  rw [refer_miss, Fin.sum_univ_one]

theorem refer_back (s : Fin 8192) : val_main_v46 (F := Ideal) x y g (ix1 s) = Norm.back (M := 8192) (Norm.push (M := 8192) x y g) x g s := by
  pointwise [val_main_v46, val_main_v45, val_main_v44, val_main_v43, val_main_v40, val_main_v39, val_main_v38, val_main_v37, val_main_v36,
    val_main_v10, val_main_v9, val_main_v8, val_main_cst_2, val_main_cst_12, val_main_cst_13, val_main_cst_14]
  refine (Fin.sum_univ_one _).trans ?_
  rw [refer_square, refer_inv]
  simp only [refer_push]
  rfl

/-- The first array that the reference leaves. -/
theorem refer_rows : val_main_v52 (F := Ideal) x y g = Norm.rows (M := 8192) (Norm.push (M := 8192) x y g) x g (fun _ => 0) := by
  funext i
  obtain ⟨s, l, rfl⟩ := Products.pair (M := 8192) (N := 2048) i
  refine Eq.trans ?_ (Norm.meet (M := 8192) _ x g _ s l)
  rw [zero_add]
  pointwise [val_main_v52, val_main_v51, val_main_v50, val_main_v49, val_main_v48, val_main_v47, val_main_v42, val_main_v41, val_main_v37, val_main_v36]
  simp only [refer_back, refer_inv, refer_push]

/-- The second. -/
theorem refer_weights : val_main_v35 (F := Ideal) x y g = Norm.weights (M := 8192) (Norm.push (M := 8192) x y g) x := by
  funext i
  obtain ⟨l, rfl⟩ := lone i
  pointwise [val_main_v35, val_main_v34, val_main_v33, val_main_v12, val_main_v11, val_main_cst_11]
  simp only [refer_inv, refer_push]
  exact Finset.sum_congr rfl fun k _ => mul_comm _ _

/-- The third. -/
theorem refer_loss : val_main_v24 (F := Ideal) x y g = Norm.loss (M := 8192) x y g := by
  funext i
  obtain ⟨l, rfl⟩ := lone i
  refine Eq.trans ?_ ((Norm.loss_meet _).trans (Norm.sum_square_mul (fun s => Norm.miss (M := 8192) x y g (ix2 s l)) Norm.halfShare))
  pointwise [val_main_v24, val_main_v23, val_main_v22, val_main_v21, val_main_v20, val_main_v19, val_main_v16, val_main_cst_4, val_main_cst_5, val_main_cst_6]
  simp only [refer_miss]

end

/-- Kernel and reference leave the same arrays. -/
theorem value : algebraic_Kernel27Ideal_Reference27Ideal := by
  intro m g m' g' _ hag
  refine ⟨fun c => (dats m 0 c).arrAt 3 cfg0.N, fun c => (dats m 0 c).arrAt 4 cfg0.N, fun c => (dats m 0 c).arrAt 5 cfg0.N,
    Cert.Kernel27Ideal.Value.run_blocks m g, ?_⟩
  refine (θ_run _ _ _).mono (fun r h c => ?_) (Cert.Reference27Ideal.Value.run m' g')
  obtain ⟨h0, h1, h2⟩ := hag c
  obtain ⟨r0, r1, r2, k⟩ := h c
  refine ⟨r0.trans ?_, r1.trans ?_, r2.trans ?_, k⟩
  · rw [Cert.Reference27Ideal.Read.val_main_v52_eq, h0, h1, h2]
    exact (refer_rows c _ _ _).trans ((final_rows m c).trans (by rw [dAll, V_main_arg0, V_main_arg1, V_main_arg2])).symm
  · rw [Cert.Reference27Ideal.Read.val_main_v35_eq, h0, h1, h2]
    exact (refer_weights c _ _ _).trans ((final_weights m c).trans (by rw [dAll, V_main_arg0, V_main_arg1, V_main_arg2])).symm
  · rw [Cert.Reference27Ideal.Read.val_main_v24_eq, h0, h1, h2]
    exact (refer_loss c _ _ _).trans ((final_loss m c).trans (by rw [V_main_arg0, V_main_arg1, V_main_arg2])).symm

end Cert.Kernel27Ideal.Mm

end
-- ==== Proof.AttnMerge.lean ====
/- The merge of three partial attentions: what one grid point writes, the two arrays that the kernel leaves, and that the
reference leaves the same ones. -/
module

public import proofs.«01_k».proof.Proof.Norm
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Pre_finite28
public import proofs.«01_k».proof.Defs
import Idealize.ShloMosaic.Lib.Pipeline.ValueKit
import Idealize.ShloMosaic.Lib.Pipeline.ReadBack
import Idealize.ShloMosaic.Lib.StableHlo.RunRead

@[expose] public section

set_option maxRecDepth 16384

noncomputable section

namespace Cert.Kernel28Ideal.Mm

open Cert.Kernel28Ideal Cert.Kernel28Ideal.Gen Idealize.ShloMosaic Idealize.ShloMosaic.TcCoe Idealize.SL.Sem
open Cert.KernelIdeal.Glu (IsReal)

/-! ## Three weights and three values -/

/-- The greatest of the three. -/
def top (a : Fin 3 → EReal) : EReal := max (max (a 0) (a 1)) (a 2)

/-- The exponential of one of them, less the greatest. -/
def weight (a : Fin 3 → EReal) (k : Fin 3) : EReal := Ideal.exp (a k - top a)

def total (a : Fin 3 → EReal) : EReal := weight a 0 + weight a 1 + weight a 2

/-- The weighted mean of three values. -/
def merged (a o : Fin 3 → EReal) : EReal := Ideal.div (weight a 0 * o 0 + weight a 1 * o 1 + weight a 2 * o 2) (total a)

/-- The logarithm of the sum of the three exponentials. -/
def level (a : Fin 3 → EReal) : EReal := top a + Ideal.log (total a)

theorem top_real {a : Fin 3 → EReal} (ha : ∀ k, IsReal (a k)) : IsReal (top a) := by
  obtain ⟨p, hp⟩ := ha 0
  obtain ⟨q, hq⟩ := ha 1
  obtain ⟨r, hr⟩ := ha 2
  refine ⟨max (max p q) r, ?_⟩
  rw [top, hp, hq, hr, ← EReal.coe_strictMono.monotone.map_max, ← EReal.coe_strictMono.monotone.map_max]

theorem weight_real {a : Fin 3 → EReal} (ha : ∀ k, IsReal (a k)) (k : Fin 3) : ∃ r : ℝ, 0 < r ∧ weight a k = r := by
  obtain ⟨p, hp⟩ := ha k
  obtain ⟨q, hq⟩ := top_real ha
  refine ⟨Real.exp (p - q), Real.exp_pos _, ?_⟩
  rw [weight, hp, hq, ← EReal.coe_sub, Ideal.exp_coe]

/-- Where the three are real numbers the weights may be divided by their total before or after the sum is taken, whatever the values. -/
theorem merge_meet {a o : Fin 3 → EReal} (ha : ∀ k, IsReal (a k)) :
    ∑ k : Fin 3, Ideal.div (weight a k) (total a) * o k = merged a o := by
  obtain ⟨p, hp, ep⟩ := weight_real ha 0
  obtain ⟨q, hq, eq⟩ := weight_real ha 1
  obtain ⟨r, hr, er⟩ := weight_real ha 2
  have ht : total a = ((p + q + r : ℝ) : EReal) := by rw [total, ep, eq, er, EReal.coe_add, EReal.coe_add]
  have hn : 0 < p + q + r := by positivity
  have hm : merged a o = ∑ k, weight a k * o k * ((1 / (p + q + r) : ℝ) : EReal) := by
    rw [merged, ht, Ideal.div_coe hn.ne', ← Fin.sum_univ_three fun k => weight a k * o k]
    exact Norm.mul_sum_pos _ (one_div_pos.mpr hn)
  rw [hm]
  refine Finset.sum_congr rfl fun k _ => ?_
  rw [ht, Ideal.div_coe hn.ne', mul_right_comm]

/-! ## The kernel -/

variable (m : (ℓ : Loc nD τ sig) → Buf (Elt Ideal) ℓ) (c : Dev nD) (t : Fin cfg0.N)

abbrev Block := Vec Ideal S1024x512 .f32

theorem merged_at (a b d x y z : Block) (s : Fin 1024) (l : Fin 512) :
    k0_pay9 (F := Ideal) a b d x y z (ix2 s l) = merged ![a (ix2 s l), b (ix2 s l), d (ix2 s l)] ![x (ix2 s l), y (ix2 s l), z (ix2 s l)] := by
  pointwise [k0_pay9, k0_pay8, k0_pay7, k0_pay6, k0_pay5, k0_pay4, k0_pay3, k0_pay2, k0_pay1]
  rfl

theorem level_at (a b d : Block) (s : Fin 1024) (l : Fin 512) :
    k0_pay10 (F := Ideal) a b d (ix2 s l) = level ![a (ix2 s l), b (ix2 s l), d (ix2 s l)] := by
  pointwise [k0_pay10, k0_pay8, k0_pay7, k0_pay6, k0_pay5, k0_pay4, k0_pay3, k0_pay2, k0_pay1]
  rfl

theorem index_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev Rows := (⟨S8192x512, .f32⟩ : BufTy).Contents (Elt Ideal)
abbrev Heads := (⟨S8192x4, .f32⟩ : BufTy).Contents (Elt Ideal)

/-- A head's value, over the head's columns. -/
def spread (a : Heads) (s : Fin 8192) (l : Fin 512) : EReal := a (ix2 s ⟨l.val / 128, by omega⟩)

def rowsOf (a b d : Heads) (x y z : Rows) : (⟨S8192x512, .bf16⟩ : BufTy).Contents (Elt Ideal) := fun i =>
  merged ![spread a (i 0) (i 1), spread b (i 0) (i 1), spread d (i 0) (i 1)] ![x i, y i, z i]

def levelOf (a b d : Heads) : Rows := fun i => level ![spread a (i 0) (i 1), spread b (i 0) (i 1), spread d (i 0) (i 1)]

theorem wide (a : Heads) (s : Fin 8192) (l : Fin 512) :
    shapeCast S8192x512 (broadcastInDim S8192x4x128 ![0, 1] bcast_S8192x4_S8192x4x128_0_1 a) shapeCasts_S8192x4x128_S8192x512 (ix2 s l)
      = spread a s l := by
  pointwise []
  rfl

theorem wide_one (s : Fin 8192) (l : Fin 512) : (V m c main_v1 : Rows) (ix2 s l) = spread (m ((c.tc : Thread nD τ).loc main_arg3)) s l := by
  refine Eq.trans (congrFun (?_ : V m c main_v1 = _) (ix2 s l)) (wide _ s l)
  after_reads_simp
  rfl

theorem wide_two (s : Fin 8192) (l : Fin 512) : (V m c main_v3 : Rows) (ix2 s l) = spread (m ((c.tc : Thread nD τ).loc main_arg4)) s l := by
  refine Eq.trans (congrFun (?_ : V m c main_v3 = _) (ix2 s l)) (wide _ s l)
  after_reads_simp
  rfl

theorem wide_three (s : Fin 8192) (l : Fin 512) : (V m c main_v5 : Rows) (ix2 s l) = spread (m ((c.tc : Thread nD τ).loc main_arg5)) s l := by
  refine Eq.trans (congrFun (?_ : V m c main_v5 = _) (ix2 s l)) (wide _ s l)
  after_reads_simp
  rfl

theorem triple {p q r p' q' r' : EReal} (hp : p = p') (hq : q = q') (hr : r = r') : ![p, q, r] = ![p', q', r'] := by
  rw [hp, hq, hr]

theorem row_lt (r : Fin 1024) : t.val * 1024 + r.val < 8192 := by
  have ht : t.val < 8 := lt_of_lt_of_eq t.isLt N_0
  omega

theorem lse_one (r : Fin 1024) (l : Fin 512) :
    (iblk m c 3 t : Block) (ix2 r l) = spread (m ((c.tc : Thread nD τ).loc main_arg3)) ⟨t.val * 1024 + r.val, row_lt t r⟩ l := by
  refine Eq.trans ?_ (wide_one m c _ l)
  blk_ext [iblk, index_at]

theorem lse_two (r : Fin 1024) (l : Fin 512) :
    (iblk m c 4 t : Block) (ix2 r l) = spread (m ((c.tc : Thread nD τ).loc main_arg4)) ⟨t.val * 1024 + r.val, row_lt t r⟩ l := by
  refine Eq.trans ?_ (wide_two m c _ l)
  blk_ext [iblk, index_at]

theorem lse_three (r : Fin 1024) (l : Fin 512) :
    (iblk m c 5 t : Block) (ix2 r l) = spread (m ((c.tc : Thread nD τ).loc main_arg5)) ⟨t.val * 1024 + r.val, row_lt t r⟩ l := by
  refine Eq.trans ?_ (wide_three m c _ l)
  blk_ext [iblk, index_at]

theorem out_one (r : Fin 1024) (l : Fin 512) : (iblk m c 0 t : Block) (ix2 r l) = (V m c main_arg0 : Rows) (ix2 ⟨t.val * 1024 + r.val, row_lt t r⟩ l) := by
  blk_ext [iblk, index_at]

theorem out_two (r : Fin 1024) (l : Fin 512) : (iblk m c 1 t : Block) (ix2 r l) = (V m c main_arg1 : Rows) (ix2 ⟨t.val * 1024 + r.val, row_lt t r⟩ l) := by
  blk_ext [iblk, index_at]

theorem out_three (r : Fin 1024) (l : Fin 512) : (iblk m c 2 t : Block) (ix2 r l) = (V m c main_arg2 : Rows) (ix2 ⟨t.val * 1024 + r.val, row_lt t r⟩ l) := by
  blk_ext [iblk, index_at]

/-- The first array that the kernel leaves. -/
theorem final_rows : (dats m 0 c).arrAt 6 (cfgs 0).N = rowsOf (m ((c.tc : Thread nD τ).loc main_arg3)) (m ((c.tc : Thread nD τ).loc main_arg4))
    (m ((c.tc : Thread nD τ).loc main_arg5)) (V m c main_arg0) (V m c main_arg1) (V m c main_arg2) := by
  refine (dats m 0 c).arrAt_eq_of_covers 6 _ (by decide +kernel) fun t hf y => ?_
  blk_simp
  rw [after0_6]
  obtain ⟨r, l, rfl⟩ := Products.pair y
  have e : (win0_6.blk t).view.emb (ix2 r l) = ix2 ⟨t.val * 1024 + r.val, row_lt t r⟩ l := by
    blk_ext [index_at t]
  rw [e]
  unfold out0_6
  frame_out
  refine (merged_at _ _ _ _ _ _ r l).trans ?_
  exact congrArg₂ merged (triple (lse_one m c t r l) (lse_two m c t r l) (lse_three m c t r l))
    (triple (out_one m c t r l) (out_two m c t r l) (out_three m c t r l))

/-- The second. -/
theorem final_level : (dats m 0 c).arrAt 7 (cfgs 0).N = levelOf (m ((c.tc : Thread nD τ).loc main_arg3)) (m ((c.tc : Thread nD τ).loc main_arg4))
    (m ((c.tc : Thread nD τ).loc main_arg5)) := by
  refine (dats m 0 c).arrAt_eq_of_covers 7 _ (by decide +kernel) fun t hf y => ?_
  blk_simp
  rw [after0_7]
  obtain ⟨r, l, rfl⟩ := Products.pair y
  have e : (win0_7.blk t).view.emb (ix2 r l) = ix2 ⟨t.val * 1024 + r.val, row_lt t r⟩ l := by
    blk_ext [index_at t]
  rw [e]
  unfold out0_7
  frame_out
  exact (level_at _ _ _ r l).trans (congrArg level (triple (lse_one m c t r l) (lse_two m c t r l) (lse_three m c t r l)))

/-! ## The reference -/

section

open Cert.Reference28Ideal Cert.Reference28Ideal.Read

variable (x y z : (⟨Cert.Reference28Ideal.S8192x512, .f32⟩ : BufTy).Contents (Elt Ideal)) (a b d : (⟨Cert.Reference28Ideal.S8192x4, .f32⟩ : BufTy).Contents (Elt Ideal))

/-- The three, at one row and head. -/
def heads (s : Fin 8192) (h : Fin 4) : Fin 3 → EReal := ![a (ix2 s h), b (ix2 s h), d (ix2 s h)]

theorem stacked (k : Fin 3) (s : Fin 8192) (h : Fin 4) : val_main_v3 (F := Ideal) a b d (ix3 k s h) = heads a b d s h k := by
  have e : val_main_v3 (F := Ideal) a b d = concatenate Cert.Reference28Ideal.S3x8192x4 0
    [⟨Cert.Reference28Ideal.S1x8192x4, val_main_v0 (F := Ideal) a⟩, ⟨Cert.Reference28Ideal.S1x8192x4, val_main_v1 (F := Ideal) b⟩, ⟨Cert.Reference28Ideal.S1x8192x4, val_main_v2 (F := Ideal) d⟩] _ := rfl
  rw [e]
  fin_cases k
  · refine (concatenate_apply_piece 0 (xs := [⟨Cert.Reference28Ideal.S1x8192x4, val_main_v0 (F := Ideal) a⟩, ⟨Cert.Reference28Ideal.S1x8192x4, val_main_v1 (F := Ideal) b⟩, ⟨Cert.Reference28Ideal.S1x8192x4, val_main_v2 (F := Ideal) d⟩]) _ (ix3 (⟨0, by decide⟩ : Fin 3) s h) 0 (by simp) Cert.Reference28Ideal.S1x8192x4 (val_main_v0 (F := Ideal) a) rfl rfl 0 rfl (ix3 0 s h) ?_ rfl).trans ?_
    · intro b hb
      fin_cases b <;> first | rfl | exact absurd rfl hb
    · pointwise [val_main_v0]
      rfl
  · refine (concatenate_apply_piece 0 (xs := [⟨Cert.Reference28Ideal.S1x8192x4, val_main_v0 (F := Ideal) a⟩, ⟨Cert.Reference28Ideal.S1x8192x4, val_main_v1 (F := Ideal) b⟩, ⟨Cert.Reference28Ideal.S1x8192x4, val_main_v2 (F := Ideal) d⟩]) _ (ix3 (⟨1, by decide⟩ : Fin 3) s h) 1 (by simp) Cert.Reference28Ideal.S1x8192x4 (val_main_v1 (F := Ideal) b) rfl rfl 1 rfl (ix3 0 s h) ?_ rfl).trans ?_
    · intro b hb
      fin_cases b <;> first | rfl | exact absurd rfl hb
    · pointwise [val_main_v1]
      rfl
  · refine (concatenate_apply_piece 0 (xs := [⟨Cert.Reference28Ideal.S1x8192x4, val_main_v0 (F := Ideal) a⟩, ⟨Cert.Reference28Ideal.S1x8192x4, val_main_v1 (F := Ideal) b⟩, ⟨Cert.Reference28Ideal.S1x8192x4, val_main_v2 (F := Ideal) d⟩]) _ (ix3 (⟨2, by decide⟩ : Fin 3) s h) 2 (by simp) Cert.Reference28Ideal.S1x8192x4 (val_main_v2 (F := Ideal) d) rfl rfl 2 rfl (ix3 0 s h) ?_ rfl).trans ?_
    · intro b hb
      fin_cases b <;> first | rfl | exact absurd rfl hb
    · pointwise [val_main_v2]
      rfl

/-- The three values, at one row and column. -/
def values (s : Fin 8192) (l : Fin 512) : Fin 3 → EReal := ![x (ix2 s l), y (ix2 s l), z (ix2 s l)]

theorem stacked_values (k : Fin 3) (s : Fin 8192) (h : Fin 4) (q : Fin 128) :
    val_main_v10 (F := Ideal) x y z (ix4 k s h q) = values x y z s ⟨h.val * 128 + q.val, by omega⟩ k := by
  have e : val_main_v10 (F := Ideal) x y z = concatenate Cert.Reference28Ideal.S3x8192x4x128 0
    [⟨Cert.Reference28Ideal.S1x8192x4x128, val_main_v7 (F := Ideal) x⟩, ⟨Cert.Reference28Ideal.S1x8192x4x128, val_main_v8 (F := Ideal) y⟩, ⟨Cert.Reference28Ideal.S1x8192x4x128, val_main_v9 (F := Ideal) z⟩] _ := rfl
  rw [e]
  fin_cases k
  · refine (concatenate_apply_piece 0 (xs := [⟨Cert.Reference28Ideal.S1x8192x4x128, val_main_v7 (F := Ideal) x⟩, ⟨Cert.Reference28Ideal.S1x8192x4x128, val_main_v8 (F := Ideal) y⟩, ⟨Cert.Reference28Ideal.S1x8192x4x128, val_main_v9 (F := Ideal) z⟩]) _ (ix4 (⟨0, by decide⟩ : Fin 3) s h q) 0 (by simp) Cert.Reference28Ideal.S1x8192x4x128 (val_main_v7 (F := Ideal) x) rfl rfl 0 rfl (ix4 0 s h q) ?_ rfl).trans ?_
    · intro b hb
      fin_cases b <;> first | rfl | exact absurd rfl hb
    · pointwise [val_main_v7, val_main_v4]
      rfl
  · refine (concatenate_apply_piece 0 (xs := [⟨Cert.Reference28Ideal.S1x8192x4x128, val_main_v7 (F := Ideal) x⟩, ⟨Cert.Reference28Ideal.S1x8192x4x128, val_main_v8 (F := Ideal) y⟩, ⟨Cert.Reference28Ideal.S1x8192x4x128, val_main_v9 (F := Ideal) z⟩]) _ (ix4 (⟨1, by decide⟩ : Fin 3) s h q) 1 (by simp) Cert.Reference28Ideal.S1x8192x4x128 (val_main_v8 (F := Ideal) y) rfl rfl 1 rfl (ix4 0 s h q) ?_ rfl).trans ?_
    · intro b hb
      fin_cases b <;> first | rfl | exact absurd rfl hb
    · pointwise [val_main_v8, val_main_v5]
      rfl
  · refine (concatenate_apply_piece 0 (xs := [⟨Cert.Reference28Ideal.S1x8192x4x128, val_main_v7 (F := Ideal) x⟩, ⟨Cert.Reference28Ideal.S1x8192x4x128, val_main_v8 (F := Ideal) y⟩, ⟨Cert.Reference28Ideal.S1x8192x4x128, val_main_v9 (F := Ideal) z⟩]) _ (ix4 (⟨2, by decide⟩ : Fin 3) s h q) 2 (by simp) Cert.Reference28Ideal.S1x8192x4x128 (val_main_v9 (F := Ideal) z) rfl rfl 2 rfl (ix4 0 s h q) ?_ rfl).trans ?_
    · intro b hb
      fin_cases b <;> first | rfl | exact absurd rfl hb
    · pointwise [val_main_v9, val_main_v6]
      rfl

theorem fold_top (e : EReal) (he : e = ⊥) (f : Fin 3 → EReal) : (Finset.univ : Finset (Fin 3)).fold max e f = top f := by
  rw [he, show (Finset.univ : Finset (Fin 3)) = {0, 1, 2} by decide]
  rw [Finset.fold_insert (by decide), Finset.fold_insert (by decide), Finset.fold_singleton, max_bot_right, top, max_assoc]

theorem low : Ideal.ofBits .f32 0xFF800000#32 = ⊥ := by simp [Ideal.ofBits, Ideal.ieee]

theorem refer_top (s : Fin 8192) (h : Fin 4) : val_main_v11 (F := Ideal) a b d (ix2 s h) = top (heads a b d s h) := by
  pointwise [val_main_v11]
  simp only [stacked]
  exact fold_top _ low _

theorem refer_top_again (s : Fin 8192) (h : Fin 4) : val_main_v27 (F := Ideal) a b d (ix2 s h) = top (heads a b d s h) := by
  pointwise [val_main_v27]
  simp only [stacked]
  exact fold_top _ low _

theorem refer_top_low (s : Fin 8192) (h : Fin 4) : val_main_v13 (F := Ideal) a b d (ix2 s h) = top (heads a b d s h) := by
  pointwise [val_main_v13, val_main_v12, val_main_cst_0]
  rw [refer_top, low, max_bot_left]

theorem refer_weight (k : Fin 3) (s : Fin 8192) (h : Fin 4) : val_main_v17 (F := Ideal) a b d (ix3 k s h) = weight (heads a b d s h) k := by
  pointwise [val_main_v17, val_main_v16, val_main_v15, val_main_v14]
  rw [refer_top_low, stacked]
  rfl

theorem refer_total (s : Fin 8192) (h : Fin 4) : val_main_v18 (F := Ideal) a b d (ix2 s h) = total (heads a b d s h) := by
  pointwise [val_main_v18, val_main_cst_1]
  simp only [refer_weight]
  exact Fin.sum_univ_three _

/-- The second array that the reference leaves. -/
theorem refer_level : val_main_v38 (F := Ideal) a b d = levelOf a b d := by
  funext i
  obtain ⟨s, l, rfl⟩ := Products.pair (M := 8192) (N := 512) i
  pointwise [val_main_v38, val_main_v37, val_main_v36, val_main_v34, val_main_v33, val_main_v32, val_main_v31, val_main_v30, val_main_v29, val_main_v28, val_main_cst_4]
  simp only [refer_top_again, stacked]
  rw [Fin.sum_univ_three, add_comm]
  rfl

/-- The first, where the logarithms are real numbers. -/
theorem refer_rows (ha : ∀ i, IsReal (a i)) (hb : ∀ i, IsReal (b i)) (hd : ∀ i, IsReal (d i)) :
    val_main_v35 (F := Ideal) x y z a b d = rowsOf a b d x y z := by
  funext i
  obtain ⟨s, l, rfl⟩ := Products.pair (M := 8192) (N := 512) i
  pointwise [val_main_v35, val_main_v26, val_main_v25, val_main_v24, val_main_v23, val_main_v22, val_main_v21, val_main_v20, val_main_v19, val_main_cst_2]
  simp only [refer_weight, refer_total, stacked_values]
  have e : (⟨l.val / 128 * 128 + l.val % 128, by omega⟩ : Fin 512) = l := Fin.ext (show l.val / 128 * 128 + l.val % 128 = l.val by omega)
  rw [e]
  refine merge_meet fun k => ?_
  fin_cases k
  · exact ha _
  · exact hb _
  · exact hd _

end

/-- The precondition says that the logarithms are real numbers. -/
theorem finite_real (h : Pre_Kernel28Ideal_finite28 m) :
    (∀ i, IsReal (m ((c.tc : Thread nD τ).loc main_arg3) i)) ∧ (∀ i, IsReal (m ((c.tc : Thread nD τ).loc main_arg4) i))
    ∧ (∀ i, IsReal (m ((c.tc : Thread nD τ).loc main_arg5) i)) :=
  ⟨fun i => IsReal.of_lt (congrFun (h c).1 i), fun i => IsReal.of_lt (congrFun (h c).2.1 i), fun i => IsReal.of_lt (congrFun (h c).2.2 i)⟩

/-- Kernel and reference leave the same arrays. -/
theorem value : algebraic_Kernel28Ideal_Reference28Ideal_pre_finite28 := by
  intro m g m' g' hp hag
  refine ⟨fun c => (dats m 0 c).arrAt 6 cfg0.N, fun c => (dats m 0 c).arrAt 7 cfg0.N, Cert.Kernel28Ideal.Value.run_blocks m g, ?_⟩
  refine (θ_run _ _ _).mono (fun r h c => ?_) (Cert.Reference28Ideal.Value.run m' g')
  obtain ⟨h0, h1, h2, h3, h4, h5⟩ := hag c
  obtain ⟨f3, f4, f5⟩ := finite_real m c hp
  obtain ⟨r0, r1, k⟩ := h c
  refine ⟨r0.trans ?_, r1.trans ?_, k⟩
  · rw [Cert.Reference28Ideal.Read.val_main_v35_eq, h0, h1, h2, h3, h4, h5]
    exact (refer_rows _ _ _ _ _ _ f3 f4 f5).trans ((final_rows m c).trans (by rw [V_main_arg0, V_main_arg1, V_main_arg2])).symm
  · rw [Cert.Reference28Ideal.Read.val_main_v38_eq, h3, h4, h5]
    exact (refer_level _ _ _).trans (final_level m c).symm

end Cert.Kernel28Ideal.Mm

end
-- ==== Proof.PoolFwd.lean ====
/- The forward call of the pooling mixer: what one grid point writes, the array that the kernel leaves, and that the reference
leaves the same one. -/
module

public import proofs.«01_k».proof.Proof.Products
public import proofs.«01_k».proof.Proof.Shift
public import proofs.«01_k».proof.Proof.Slope
public import proofs.«01_k».proof.Proof.Gen.Kernel41Ideal.Value
public import proofs.«01_k».proof.Proof.Gen.Reference41Ideal.Run
public import proofs.«01_k».proof.Proof.Gen.Reference41Ideal.Read
public import proofs.«01_k».proof.Proof.Gen.Pre_finite41
public import proofs.«01_k».proof.Defs
import Idealize.ShloMosaic.Lib.Pipeline.ValueKit
import Idealize.ShloMosaic.Lib.Pipeline.ReadBack

@[expose] public section

set_option maxRecDepth 16384

noncomputable section

namespace Cert.Kernel41Ideal.Mm

open Cert.KernelIdeal.Glu (sel_eq IsReal)
open Cert.Kernel41Ideal Cert.Kernel41Ideal.Gen Idealize.ShloMosaic Idealize.ShloMosaic.TcCoe Idealize.SL.Sem

/-! ## Running sums -/

abbrev Cols := (⟨2, ![8192, 1024]⟩ : Shape).Idx → EReal

/-- Row `n - 16` of the array, zero outside it. -/
def ext (u : Cols) (l : Fin 1024) (n : ℕ) : EReal := if h : 16 ≤ n ∧ n < 8208 then u (ix2 ⟨n - 16, by omega⟩ l) else 0

/-- The sum of the `w` rows that end with row `n - 16`. -/
def window (u : Cols) (l : Fin 1024) (w n : ℕ) : EReal := ∑ j ∈ Finset.range w, ext u l (n - j)

theorem window_one (u : Cols) (l : Fin 1024) (n : ℕ) : window u l 1 n = ext u l n := by simp [window]

theorem window_add (u : Cols) (l : Fin 1024) (a b n : ℕ) : window u l (a + b) n = window u l a n + window u l b (n - a) := by
  unfold window
  rw [Finset.sum_range_add]
  simp only [Nat.sub_sub]

theorem window_sixteen (u : Cols) (l : Fin 1024) (n : ℕ) : window u l 16 n = window u l 8 n + window u l 8 (n - 8) := window_add u l 8 8 n

/-- The number of rows in the window that ends with row `t`: `w`, and fewer at the start. -/
def count (w : BitVec 32) (t : ℕ) : EReal := FloatOps.sitofp (F := Ideal) .f32 (IntOp.minsi (IntOp.addi (BitVec.ofNat 32 t) 1#32) w)

/-- The mean of a window less its last row. -/
def pooled (u : Cols) (w : ℕ) (t : Fin 8192) (l : Fin 1024) : EReal :=
  Ideal.div (window u l w (t.val + 16)) (count (BitVec.ofNat 32 w) t.val) - u (ix2 t l)

/-- The pooled rows, each group of columns through its own linear map, scaled. -/
def mixed (u : Cols) (wl : (⟨3, ![4, 256, 256]⟩ : Shape).Idx → EReal) (s : (⟨2, ![1, 1024]⟩ : Shape).Idx → EReal) (t : Fin 8192) (l : Fin 1024) : EReal :=
  (∑ k : Fin 256, pooled u (2 ^ (l.val / 256 + 1)) t ⟨l.val / 256 * 256 + k.val, by omega⟩
    * wl (ix3 ⟨l.val / 256, by omega⟩ k ⟨l.val % 256, by omega⟩)) * s (ix2 0 l)

theorem mixed_at (u : Cols) (wl : (⟨3, ![4, 256, 256]⟩ : Shape).Idx → EReal) (s : (⟨2, ![1, 1024]⟩ : Shape).Idx → EReal) (t : Fin 8192)
    (g : Fin 4) (l : Fin 256) (p : Fin 256 → EReal) (hp : ∀ k : Fin 256, p k = pooled u (2 ^ (g.val + 1)) t ⟨g.val * 256 + k.val, by omega⟩) :
    (∑ k : Fin 256, p k * wl (ix3 g k l)) * s (ix2 0 ⟨g.val * 256 + l.val, by omega⟩) = mixed u wl s t ⟨g.val * 256 + l.val, by omega⟩ := by
  obtain ⟨g, hg⟩ := g
  obtain ⟨l, hl⟩ := l
  have e : (g * 256 + l) / 256 = g := by omega
  have f : (g * 256 + l) % 256 = l := by omega
  simp only [mixed, hp, e, f]

/-! ## One tile -/

theorem word (n r : ℕ) : IntOp.addi (Scalar.muli (BitVec.ofNat 32 n) 512#32) (BitVec.ofNat 32 r) = BitVec.ofNat 32 (n * 512 + r) := by
  show BitVec.ofNat 32 n * BitVec.ofNat 32 512 + BitVec.ofNat 32 r = _
  rw [← BitVec.ofNat_mul, ← BitVec.ofNat_add]

section

variable (u : Cols) (i : grid0.Coords) (hi : (i 0).val < 16) (x : Vec Ideal S512x1024 .f32) (h : Vec Ideal S16x1024 .f32)
  (hx : ∀ (r : Fin 512) (l : Fin 1024), x (ix2 r l) = u (ix2 ⟨(i 0).val * 512 + r.val, by omega⟩ l))
  (hh : ∀ (r : Fin 16) (l : Fin 1024) (_ : (i 0).val ≠ 0), h (ix2 r l) = u (ix2 ⟨(i 0).val * 512 + r.val - 16, by omega⟩ l))

include hi hx hh in
/-- The tile with the rows before it. -/
theorem tall (r : ℕ) (hr : r < 528) (l : Fin 1024) :
    (if hn : r < 16 then Scalar.select (Scalar.cmpi .eq (BitVec.ofNat 32 (i 0).val) 0#32) 0 (h (ix2 (⟨r, hn⟩ : Fin 16) l))
      else x (ix2 (⟨r - 16, by omega⟩ : Fin 512) l)) = ext u l ((i 0).val * 512 + r) := by
  unfold ext
  by_cases hn : r < 16
  · rw [dif_pos hn]
    refine (sel_eq (i 0).val 0 (by omega) (by omega) _ _).trans ?_
    by_cases h0 : (i 0).val = 0
    · rw [if_pos h0, dif_neg (by omega)]
    · rw [if_neg h0, dif_pos (by omega), hh _ _ h0]
  · rw [dif_neg hn, dif_pos (by omega), hx]
    exact congrArg u (congrArg (fun z => ix2 z l) (Fin.ext (show (i 0).val * 512 + (r - 16) = (i 0).val * 512 + r - 16 by omega)))

include hi hx hh in
theorem two (r : Fin 528) (hr : 1 ≤ r.val) (l : Fin 1024) : k0_pay4 (F := Ideal) i x h (ix2 r l) = window u l 2 ((i 0).val * 512 + r.val) := by
  have e : (r.val + 528 - 1) % 528 = r.val - 1 := by omega
  pointwise [k0_pay4]
  simp only [e]
  refine (congrArg₂ (· + ·) (tall u i hi x h hx hh r.val r.isLt l) (tall u i hi x h hx hh (r.val - 1) (by omega) l)).trans ?_
  rw [show (2 : ℕ) = 1 + 1 from rfl, window_add, window_one, window_one, show (i 0).val * 512 + r.val - 1 = (i 0).val * 512 + (r.val - 1) by omega]

include hi hx hh in
theorem four (r : Fin 528) (hr : 3 ≤ r.val) (l : Fin 768) :
    k0_pay6 (F := Ideal) i x h (ix2 r l) = window u ⟨256 + l.val, by omega⟩ 4 ((i 0).val * 512 + r.val) := by
  have e : (r.val + 528 - 2) % 528 = r.val - 2 := by omega
  pointwise [k0_pay6]
  simp only [e]
  rw [two u i hi x h hx hh _ (by show 1 ≤ r.val; omega), two u i hi x h hx hh _ (by show 1 ≤ r.val - 2; omega)]
  rw [show (4 : ℕ) = 2 + 2 from rfl, window_add, show (i 0).val * 512 + r.val - 2 = (i 0).val * 512 + (r.val - 2) by omega]

include hi hx hh in
theorem eight (r : Fin 528) (hr : 7 ≤ r.val) (l : Fin 512) :
    k0_pay8 (F := Ideal) i x h (ix2 r l) = window u ⟨512 + l.val, by omega⟩ 8 ((i 0).val * 512 + r.val) := by
  have e : (r.val + 528 - 4) % 528 = r.val - 4 := by omega
  have f : 256 + (256 + l.val) = 512 + l.val := by omega
  pointwise [k0_pay8]
  simp only [e]
  rw [four u i hi x h hx hh _ (by show 3 ≤ r.val; omega), four u i hi x h hx hh _ (by show 3 ≤ r.val - 4; omega)]
  simp only [f]
  rw [show (8 : ℕ) = 4 + 4 from rfl, window_add, show (i 0).val * 512 + r.val - 4 = (i 0).val * 512 + (r.val - 4) by omega]

/-- The row of the array at which row `r` of the tile lies. -/
abbrev rowIn (r : Fin 512) : Fin 8192 := ⟨(i 0).val * 512 + r.val, by omega⟩

include hx in
theorem pooled_of (w : ℕ) (t : EReal) (r : Fin 512) (l : Fin 1024) (ht : t = window u l w ((i 0).val * 512 + (16 + r.val))) :
    Ideal.div t (FloatOps.sitofp (F := Ideal) .f32 (IntOp.minsi (IntOp.addi (IntOp.addi (Scalar.muli (BitVec.ofNat 32 (i 0).val) 512#32) (BitVec.ofNat 32 r.val)) 1#32)
      (BitVec.ofNat 32 w))) - x (ix2 r l) = pooled u w (rowIn i hi r) l := by
  rw [ht, hx, word]
  unfold pooled count
  rw [show (i 0).val * 512 + (16 + r.val) = (i 0).val * 512 + r.val + 16 by omega]

include hi hx hh in
theorem pooled_two (r : Fin 512) (l : Fin 256) : k0_pay5 (F := Ideal) i x h (ix2 r l) = pooled u 2 (rowIn i hi r) ⟨l.val, by omega⟩ := by
  pointwise [k0_pay5]
  exact pooled_of u i hi x hx 2 _ r _ (two u i hi x h hx hh _ (by show 1 ≤ 16 + r.val; omega) _)

include hi hx hh in
theorem pooled_four (r : Fin 512) (l : Fin 256) : k0_pay7 (F := Ideal) i x h (ix2 r l) = pooled u 4 (rowIn i hi r) ⟨256 + l.val, by omega⟩ := by
  pointwise [k0_pay7]
  exact pooled_of u i hi x hx 4 _ r _ (four u i hi x h hx hh _ (by show 3 ≤ 16 + r.val; omega) _)

include hi hx hh in
theorem pooled_eight (r : Fin 512) (l : Fin 256) :
    k0_pay10 (F := Ideal) (BitVec.ofNat 32 (i 0).val) x (k0_pay9 (F := Ideal) i x h) 512#32 (ix2 r l) = pooled u 8 (rowIn i hi r) ⟨512 + l.val, by omega⟩ := by
  pointwise [k0_pay10, k0_pay9]
  refine pooled_of u i hi x hx 8 _ r _ ?_
  exact eight u i hi x h hx hh _ (by show 7 ≤ 16 + r.val; omega) _

include hi hx hh in
theorem pooled_sixteen (r : Fin 512) (l : Fin 256) :
    k0_pay11 (F := Ideal) (BitVec.ofNat 32 (i 0).val) x (k0_pay8 (F := Ideal) i x h) (ix2 r l) = pooled u 16 (rowIn i hi r) ⟨768 + l.val, by omega⟩ := by
  have e : (16 + r.val + 528 - 8) % 528 = 16 + r.val - 8 := by omega
  have f : 512 + (256 + l.val) = 768 + l.val := by omega
  pointwise [k0_pay11]
  simp only [e]
  refine pooled_of u i hi x hx 16 _ r _ ?_
  refine (congrArg₂ (· + ·) (eight u i hi x h hx hh _ (by show 7 ≤ 16 + r.val; omega) _) (eight u i hi x h hx hh _ (by show 7 ≤ 16 + r.val - 8; omega) _)).trans ?_
  simp only [f]
  have g : (i 0).val * 512 + (16 + r.val - 8) = (i 0).val * 512 + (16 + r.val) - 8 := by omega
  simp only [g]
  exact (window_sixteen u ⟨768 + l.val, by omega⟩ ((i 0).val * 512 + (16 + r.val))).symm

end

variable (m : (ℓ : Loc nD τ sig) → Buf (Elt Ideal) ℓ) (c : Dev nD) (t : Fin cfg0.N)

theorem index_at : ∀ t : Fin cfg0.N, win0_0.index t = ![t.val, 0] ∧ win0_1.index t = ![t.val * 32 - 1, 0] ∧ win0_2.index t = ![0, 0, 0]
    ∧ win0_3.index t = ![0, 0] ∧ win0_4.index t = ![t.val, 0] ∧ ((grid0.coords t) 0).val = t.val :=
  (by decide +kernel : ∀ t : Fin grid0.N, _)

theorem coord_lt : ((grid0.coords t) 0).val < 16 := ((grid0.coords t) 0).isLt

theorem tile_at (r : Fin 512) (l : Fin 1024) : iblk m c 0 t (ix2 r l) = V m c main_arg0 (ix2 (rowIn (grid0.coords t) (coord_lt t) r) l) := by
  have := (index_at t).2.2.2.2.2
  blk_ext [iblk, index_at]

theorem halo_at (r : Fin 16) (l : Fin 1024) (h0 : ((grid0.coords t) 0).val ≠ 0) :
    iblk m c 1 t (ix2 r l) = V m c main_arg0 (ix2 ⟨((grid0.coords t) 0).val * 512 + r.val - 16, by have := coord_lt t; omega⟩ l) := by
  have := (index_at t).2.2.2.2.2
  blk_ext [iblk, index_at]

theorem weight_at (g : Fin 4) (k l : Fin 256) : iblk m c 2 t (ix3 g k l) = V m c main_arg1 (ix3 g k l) := by
  blk_ext [iblk, index_at]

theorem scale_at (l : Fin 1024) : iblk m c 3 t (ix2 0 l) = V m c main_arg2 (ix2 0 l) := by
  blk_ext [iblk, index_at]

theorem map_two (v : Vec Ideal S512x256 .f32) (w : Vec Ideal S1x256x256 .bf16) (s : Vec Ideal S1x256 .f32) (r : Fin 512) (l : Fin 256) :
    k0_pay12 (F := Ideal) v w s (ix2 r l) = (∑ k : Fin 256, v (ix2 r k) * w (ix3 0 k l)) * s (ix2 0 l) := by
  pointwise [k0_pay12]

theorem map_four (v : Vec Ideal S512x256 .f32) (w : Vec Ideal S1x256x256 .bf16) (s : Vec Ideal S1x256 .f32) (r : Fin 512) (l : Fin 256) :
    k0_pay1 (F := Ideal) (k0_pay13 v) (k0_pay14 w) s (ix2 r l) = (∑ k : Fin 256, v (ix2 r k) * w (ix3 0 k l)) * s (ix2 0 l) := by
  pointwise [k0_pay1, k0_pay13, k0_pay14]

theorem map_eight (v : Vec Ideal S512x256 .f32) (w : Vec Ideal S1x256x256 .bf16) (s : Vec Ideal S1x256 .f32) (r : Fin 512) (l : Fin 256) :
    k0_pay2 (F := Ideal) v w s (ix2 r l) = (∑ k : Fin 256, v (ix2 r k) * w (ix3 0 k l)) * s (ix2 0 l) := by
  pointwise [k0_pay2]

theorem map_sixteen (v : Vec Ideal S512x256 .f32) (w : Vec Ideal S1x256x256 .bf16) (s : Vec Ideal S1x256 .f32) (r : Fin 512) (l : Fin 256) :
    k0_pay3 (F := Ideal) v w s (ix2 r l) = (∑ k : Fin 256, v (ix2 r k) * w (ix3 0 k l)) * s (ix2 0 l) := by
  pointwise [k0_pay3]

/-- One group's columns of a tile are the array's. -/
theorem group (g : Fin 4) (v : Vec Ideal S512x256 .f32) (w : Vec Ideal S1x256x256 .bf16) (s : Vec Ideal S1x256 .f32) (r : Fin 512) (l : Fin 256)
    (hv : ∀ k : Fin 256, v (ix2 r k) = pooled (V m c main_arg0) (2 ^ (g.val + 1)) (rowIn (grid0.coords t) (coord_lt t) r) ⟨g.val * 256 + k.val, by omega⟩)
    (hw : ∀ k : Fin 256, w (ix3 0 k l) = V m c main_arg1 (ix3 g k l)) (hs : s (ix2 0 l) = V m c main_arg2 (ix2 0 ⟨g.val * 256 + l.val, by omega⟩)) :
    (∑ k : Fin 256, v (ix2 r k) * w (ix3 0 k l)) * s (ix2 0 l)
      = mixed (V m c main_arg0) (V m c main_arg1) (V m c main_arg2) (rowIn (grid0.coords t) (coord_lt t) r) ⟨g.val * 256 + l.val, by omega⟩ := by
  simp only [hw, hs]
  exact mixed_at _ _ _ _ g l _ hv

theorem ld_tile (x : Vec Ideal S512x1024 .f32) : View.ld x r0_0 = x := View.ld_unit_zero (S := S512x1024) (funext fun a => by fin_cases a <;> rfl) _ x

theorem ld_halo (x : Vec Ideal S16x1024 .f32) : View.ld x r0_1 = x := View.ld_unit_zero (S := S16x1024) (funext fun a => by fin_cases a <;> rfl) _ x

/-- The array that the kernel leaves. -/
theorem final : (dats m 0 c).arrAt 4 (cfgs 0).N = fun i : S8192x1024.Idx => mixed (V m c main_arg0) (V m c main_arg1) (V m c main_arg2) (i 0) (i 1) := by
  refine (dats m 0 c).arrAt_eq_of_covers 4 _ (by decide +kernel) fun t hf y => ?_
  blk_simp
  rw [after0_4]
  obtain ⟨r, l, rfl⟩ := Products.pair y
  have := (index_at t).2.2.2.2.2
  have e : (win0_4.blk t).view.emb (ix2 r l) = ix2 (rowIn (grid0.coords t) (coord_lt t) r) l := by
    blk_ext [index_at t]
  rw [e]
  show _ = mixed (V m c main_arg0) (V m c main_arg1) (V m c main_arg2) (rowIn (grid0.coords t) (coord_lt t) r) l
  unfold out0_4
  rw [ld_tile, ld_halo]
  canon_tiles z h
  case piece0 =>
    obtain ⟨r', l', rfl⟩ := Products.pair z
    obtain rfl : r = r' := Fin.ext h0
    rw [show l = (⟨(3 : Fin 4).val * 256 + l'.val, by have := l'.isLt; omega⟩ : Fin 1024) from Fin.ext h1]
    refine (map_sixteen _ _ _ r l').trans (group m c t 3 _ _ _ r l' (fun k => ?_) (fun k => ?_) ?_)
    · exact pooled_sixteen _ _ (coord_lt t) _ _ (tile_at m c t) (halo_at m c t) r k
    · exact (congrArg (iblk m c 2 t) (by idx_ext)).trans (weight_at m c t 3 k l')
    · exact (congrArg (iblk m c 3 t) (by idx_ext)).trans (scale_at m c t _)
  case piece1 =>
    obtain ⟨r', l', rfl⟩ := Products.pair z
    obtain rfl : r = r' := Fin.ext h0
    rw [show l = (⟨(2 : Fin 4).val * 256 + l'.val, by have := l'.isLt; omega⟩ : Fin 1024) from Fin.ext h1]
    refine (map_eight _ _ _ r l').trans (group m c t 2 _ _ _ r l' (fun k => ?_) (fun k => ?_) ?_)
    · exact pooled_eight _ _ (coord_lt t) _ _ (tile_at m c t) (halo_at m c t) r k
    · exact (congrArg (iblk m c 2 t) (by idx_ext)).trans (weight_at m c t 2 k l')
    · exact (congrArg (iblk m c 3 t) (by idx_ext)).trans (scale_at m c t _)
  case piece2 =>
    obtain ⟨r', l', rfl⟩ := Products.pair z
    obtain rfl : r = r' := Fin.ext h0
    rw [show l = (⟨(1 : Fin 4).val * 256 + l'.val, by have := l'.isLt; omega⟩ : Fin 1024) from Fin.ext h1]
    refine (map_four _ _ _ r l').trans (group m c t 1 _ _ _ r l' (fun k => ?_) (fun k => ?_) ?_)
    · exact pooled_four _ _ (coord_lt t) _ _ (tile_at m c t) (halo_at m c t) r k
    · exact (congrArg (iblk m c 2 t) (by idx_ext)).trans (weight_at m c t 1 k l')
    · exact (congrArg (iblk m c 3 t) (by idx_ext)).trans (scale_at m c t _)
  case piece3 =>
    obtain ⟨r', l', rfl⟩ := Products.pair z
    obtain rfl : r = r' := Fin.ext h0
    rw [show l = (⟨(0 : Fin 4).val * 256 + l'.val, by have := l'.isLt; omega⟩ : Fin 1024) from Fin.ext (h1.trans (by show l'.val = 0 * 256 + l'.val; omega))]
    refine (map_two _ _ _ r l').trans (group m c t 0 _ _ _ r l' (fun k => ?_) (fun k => ?_) ?_)
    · refine (pooled_two _ _ (coord_lt t) _ _ (tile_at m c t) (halo_at m c t) r k).trans ?_
      exact congrArg (pooled _ _ _) (Fin.ext (show k.val = 0 * 256 + k.val by omega))
    · exact (congrArg (iblk m c 2 t) (by idx_ext)).trans (weight_at m c t 0 k l')
    · exact (congrArg (iblk m c 3 t) (by idx_ext)).trans (scale_at m c t _)

/-! ## The reference -/

section

open Cert.Reference41Ideal Cert.Reference41Ideal.Read

theorem window_low (u : Cols) (l : Fin 1024) (w n : ℕ) (hn : n < 16) : window u l w n = 0 := by
  unfold window ext
  exact Finset.sum_eq_zero fun j _ => dif_neg (by omega)

theorem fold_sum (n : ℕ) (f : Fin n → EReal) : (List.finRange n).foldl (fun r k => r + f k) 0 = ∑ k, f k := by
  rw [Fin.sum_univ_def, List.sum_eq_foldl, List.foldl_map]

/-- The positions of a column's window. -/
def column (n : ℕ) : (⟨2, ![n, 1]⟩ : Shape).Idx ≃ Fin n where
  toFun y := y 0
  invFun q := ix2 q 0
  left_inv y := by
    obtain ⟨a, b, rfl⟩ := Products.pair y
    rw [Subsingleton.elim b 0]
    rfl
  right_inv _ := rfl

/-- The sum over windows is a sum over the window's positions. -/
theorem window_sum {s t u : Shape} (window strides lo hi : Fin s.rank → ℕ) (x : s.Idx → EReal) (z : u.Idx → EReal) (hz : ∀ i, z i = 0)
    (h : s.ReduceWindows window strides lo hi t) (hu : 0 < u.numel) (j : t.Idx) :
    Host.reduceWindowAdd (F := Ideal) (φ := .f32) window strides lo hi x z h hu j
      = ∑ y : (⟨s.rank, window⟩ : Shape).Idx, if hin : ∀ a, lo a ≤ (j (a.cast h.1.symm)).val * strides a + (y a).val
          ∧ (j (a.cast h.1.symm)).val * strides a + (y a).val - lo a < s.size a
        then x (fun a => ⟨(j (a.cast h.1.symm)).val * strides a + (y a).val - lo a, (hin a).2⟩) else 0 := by
  show Host.reduceWindow (· + ·) window strides lo hi x (fun _ : u.Idx => z _) h hu j = _
  unfold Host.reduceWindow
  simp only [hz]
  refine (fold_sum _ _).trans ?_
  exact Equiv.sum_comp (Shape.rowMajor ⟨s.rank, window⟩).symm (fun y => if hin : ∀ a, lo a ≤ (j (a.cast h.1.symm)).val * strides a + (y a).val
          ∧ (j (a.cast h.1.symm)).val * strides a + (y a).val - lo a < s.size a
        then x (fun a => ⟨(j (a.cast h.1.symm)).val * strides a + (y a).val - lo a, (hin a).2⟩) else 0)

/-- A running sum is the sum of the rows up to its own. -/
theorem running (n p : ℕ) (hp : p + 1 = n) (x : (⟨2, ![n, 256]⟩ : Shape).Idx → EReal) (z : (⟨0, ![]⟩ : Shape).Idx → EReal) (hz : ∀ i, z i = 0)
    (h : (⟨2, ![n, 256]⟩ : Shape).ReduceWindows ![n, 1] ![1, 1] ![p, 0] ![0, 0] ⟨2, ![n, 256]⟩) (hu : 0 < (⟨0, ![]⟩ : Shape).numel)
    (r : Fin n) (l : Fin 256) :
    Host.reduceWindowAdd (F := Ideal) (φ := .f32) ![n, 1] ![1, 1] ![p, 0] ![0, 0] x z h hu (ix2 r l)
      = ∑ q : Fin n, if hq : p ≤ r.val + q.val then x (ix2 ⟨r.val + q.val - p, by omega⟩ l) else 0 := by
  rw [window_sum _ _ _ _ _ _ hz]
  refine (Fintype.sum_equiv (column n) _ _ fun y => ?_)
  obtain ⟨q, b, rfl⟩ := Products.pair y
  obtain rfl : b = 0 := Subsingleton.elim b 0
  show _ = if hq : p ≤ r.val + q.val then x (ix2 ⟨r.val + q.val - p, by omega⟩ l) else 0
  by_cases hq : p ≤ r.val + q.val
  · rw [dif_pos hq, dif_pos (fun a => by
      fin_cases a
      · show p ≤ r.val * 1 + q.val ∧ r.val * 1 + q.val - p < n
        omega
      · show 0 ≤ l.val * 1 + 0 ∧ l.val * 1 + 0 - 0 < 256
        omega)]
    refine congrArg x (funext fun a => Fin.ext ?_)
    fin_cases a
    · show r.val * 1 + q.val - p = r.val + q.val - p
      omega
    · show l.val * 1 + 0 - 0 = l.val
      omega
  · rw [dif_neg hq, dif_neg (fun H => hq (by
      have := (H 0).1
      change p ≤ r.val * 1 + q.val at this
      omega))]

theorem running_window (u : Cols) (x : (⟨2, ![8192, 256]⟩ : Shape).Idx → EReal) (d : Fin 256 → Fin 1024)
    (hx : ∀ (r : Fin 8192) (l : Fin 256), x (ix2 r l) = u (ix2 r (d l))) (r : Fin 8192) (l : Fin 256) :
    (∑ q : Fin 8192, if hq : 8191 ≤ r.val + q.val then x (ix2 ⟨r.val + q.val - 8191, by omega⟩ l) else 0) = window u (d l) 8192 (r.val + 16) := by
  unfold window
  rw [← Finset.sum_range_reflect, ← Fin.sum_univ_eq_sum_range (fun q => ext u (d l) (r.val + 16 - (8192 - 1 - q))) 8192]
  refine Finset.sum_congr rfl fun q _ => ?_
  unfold ext
  by_cases hq : 8191 ≤ r.val + q.val
  · rw [dif_pos hq, dif_pos (by omega), hx]
    exact congrArg (fun n => u (ix2 n (d l))) (Fin.ext (by show r.val + q.val - 8191 = r.val + 16 - (8192 - 1 - q.val) - 16; omega))
  · rw [dif_neg hq, dif_neg (by omega)]

theorem window_real (u : Cols) (hu : ∀ i, IsReal (u i)) (l : Fin 1024) (w n : ℕ) : IsReal (window u l w n) := by
  unfold window
  induction w with
  | zero => exact IsReal.zero
  | succ w ih =>
    rw [Finset.sum_range_succ]
    refine ih.add ?_
    unfold ext
    by_cases h : 16 ≤ n - w ∧ n - w < 8208
    · rw [dif_pos h]; exact hu _
    · rw [dif_neg h]; exact IsReal.zero

/-- The difference of two running sums is the sum of the rows between them. -/
theorem between (u : Cols) (hu : ∀ i, IsReal (u i)) (l : Fin 1024) (w : ℕ) (hw : w ≤ 8192) (t : ℕ) (ht : t < 8192) (y : EReal)
    (h0 : t < w → y = 0) (h1 : w ≤ t → y = window u l 8192 (t - w + 16)) : window u l 8192 (t + 16) - y = window u l w (t + 16) := by
  have e : window u l 8192 (t + 16) = window u l w (t + 16) + window u l (8192 - w) (t + 16 - w) := by
    rw [← window_add, Nat.add_sub_cancel' hw]
  have f : y = window u l (8192 - w) (t + 16 - w) := by
    by_cases h : t < w
    · rw [h0 h, window_low u l _ _ (by omega)]
    · rw [h1 (by omega), show t - w + 16 = t + 16 - w by omega]
      conv_lhs => rw [← Nat.sub_add_cancel hw, window_add, window_low u l w _ (by omega), add_zero]
  rw [e, f]
  obtain ⟨b, hb⟩ := window_real u hu l (8192 - w) (t + 16 - w)
  rw [hb]
  exact EReal.add_sub_cancel_right

theorem cum_two (x : Cols) (r : Fin 8192) (l : Fin 256) : val_main_v4 (F := Ideal) x (ix2 r l) = window x ⟨l.val, by omega⟩ 8192 (r.val + 16) := by
  unfold val_main_v4
  refine (running 8192 8191 rfl _ _ (fun i => ?_) _ _ r l).trans (running_window x _ (fun l => ⟨l.val, by omega⟩) (fun r l => ?_) r l)
  · show Ideal.ofBits .f32 0x00000000#32 = 0
    exact Ideal.ofBits_zero_f32
  · pointwise [val_main_v3, val_main_v2, val_main_v0]

theorem cum_four (x : Cols) (r : Fin 8192) (l : Fin 256) : val_main_v19 (F := Ideal) x (ix2 r l) = window x ⟨256 + l.val, by omega⟩ 8192 (r.val + 16) := by
  unfold val_main_v19
  refine (running 8192 8191 rfl _ _ (fun i => ?_) _ _ r l).trans (running_window x _ (fun l => ⟨256 + l.val, by omega⟩) (fun r l => ?_) r l)
  · show Ideal.ofBits .f32 0x00000000#32 = 0
    exact Ideal.ofBits_zero_f32
  · pointwise [val_main_v18, val_main_v17, val_main_v0]

theorem cum_eight (x : Cols) (r : Fin 8192) (l : Fin 256) : val_main_v34 (F := Ideal) x (ix2 r l) = window x ⟨512 + l.val, by omega⟩ 8192 (r.val + 16) := by
  unfold val_main_v34
  refine (running 8192 8191 rfl _ _ (fun i => ?_) _ _ r l).trans (running_window x _ (fun l => ⟨512 + l.val, by omega⟩) (fun r l => ?_) r l)
  · show Ideal.ofBits .f32 0x00000000#32 = 0
    exact Ideal.ofBits_zero_f32
  · pointwise [val_main_v33, val_main_v32, val_main_v0]

theorem cum_sixteen (x : Cols) (r : Fin 8192) (l : Fin 256) : val_main_v49 (F := Ideal) x (ix2 r l) = window x ⟨768 + l.val, by omega⟩ 8192 (r.val + 16) := by
  unfold val_main_v49
  refine (running 8192 8191 rfl _ _ (fun i => ?_) _ _ r l).trans (running_window x _ (fun l => ⟨768 + l.val, by omega⟩) (fun r l => ?_) r l)
  · show Ideal.ofBits .f32 0x00000000#32 = 0
    exact Ideal.ofBits_zero_f32
  · pointwise [val_main_v48, val_main_v47, val_main_v0]

theorem refer_two (x : Cols) (hx : ∀ i, IsReal (x i)) (r : Fin 8192) (l : Fin 256) :
    val_main_v16 (F := Ideal) x (ix2 r l) = pooled x 2 r ⟨l.val, by omega⟩ := by
  pointwise [val_main_v16, val_main_v15, val_main_v14, val_main_v13, val_main_v12, val_main_v11, val_main_v10, val_main_v9, val_main_v8, val_main_v7, val_main_v6, val_main_v5, val_main_v3, val_main_v2, val_main_v1, val_main_v0, val_main_c, val_main_c_0, val_main_c_1, val_main_call1_v0]
  simp only [cum_two]
  unfold pooled count
  refine congrArg (fun d => Ideal.div d _ - _) (between x hx _ 2 (by decide) r.val r.isLt _ (fun h => ?_) (fun h => ?_))
  · rw [dif_neg (by omega)]
    show ((((0#32 : BitVec 32).toInt : ℤ) : ℝ) : EReal) = 0
    simp
  · rw [dif_pos (by omega)]

theorem refer_four (x : Cols) (hx : ∀ i, IsReal (x i)) (r : Fin 8192) (l : Fin 256) :
    val_main_v31 (F := Ideal) x (ix2 r l) = pooled x 4 r ⟨256 + l.val, by omega⟩ := by
  pointwise [val_main_v31, val_main_v30, val_main_v29, val_main_v28, val_main_v27, val_main_v26, val_main_v25, val_main_v24, val_main_v23, val_main_v22, val_main_v21, val_main_v20, val_main_v18, val_main_v17, val_main_v1, val_main_v0, val_main_c_2, val_main_c_3, val_main_c_4, val_main_call3_v0]
  simp only [cum_four]
  unfold pooled count
  refine congrArg (fun d => Ideal.div d _ - _) (between x hx _ 4 (by decide) r.val r.isLt _ (fun h => ?_) (fun h => ?_))
  · rw [dif_neg (by omega)]
    show ((((0#32 : BitVec 32).toInt : ℤ) : ℝ) : EReal) = 0
    simp
  · rw [dif_pos (by omega)]

theorem refer_eight (x : Cols) (hx : ∀ i, IsReal (x i)) (r : Fin 8192) (l : Fin 256) :
    val_main_v46 (F := Ideal) x (ix2 r l) = pooled x 8 r ⟨512 + l.val, by omega⟩ := by
  pointwise [val_main_v46, val_main_v45, val_main_v44, val_main_v43, val_main_v42, val_main_v41, val_main_v40, val_main_v39, val_main_v38, val_main_v37, val_main_v36, val_main_v35, val_main_v33, val_main_v32, val_main_v1, val_main_v0, val_main_c_5, val_main_c_6, val_main_c_7, val_main_call5_v0]
  simp only [cum_eight]
  unfold pooled count
  refine congrArg (fun d => Ideal.div d _ - _) (between x hx _ 8 (by decide) r.val r.isLt _ (fun h => ?_) (fun h => ?_))
  · rw [dif_neg (by omega)]
    show ((((0#32 : BitVec 32).toInt : ℤ) : ℝ) : EReal) = 0
    simp
  · rw [dif_pos (by omega)]

theorem refer_sixteen (x : Cols) (hx : ∀ i, IsReal (x i)) (r : Fin 8192) (l : Fin 256) :
    val_main_v61 (F := Ideal) x (ix2 r l) = pooled x 16 r ⟨768 + l.val, by omega⟩ := by
  pointwise [val_main_v61, val_main_v60, val_main_v59, val_main_v58, val_main_v57, val_main_v56, val_main_v55, val_main_v54, val_main_v53, val_main_v52, val_main_v51, val_main_v50, val_main_v48, val_main_v47, val_main_v1, val_main_v0, val_main_c_8, val_main_c_9, val_main_c_10, val_main_call7_v0]
  simp only [cum_sixteen]
  unfold pooled count
  refine congrArg (fun d => Ideal.div d _ - _) (between x hx _ 16 (by decide) r.val r.isLt _ (fun h => ?_) (fun h => ?_))
  · rw [dif_neg (by omega)]
    show ((((0#32 : BitVec 32).toInt : ℤ) : ℝ) : EReal) = 0
    simp
  · rw [dif_pos (by omega)]

theorem refer (x : Cols) (w : (⟨3, ![4, 256, 256]⟩ : Shape).Idx → EReal) (s : (⟨2, ![1, 1024]⟩ : Shape).Idx → EReal) (hx : ∀ i, IsReal (x i)) :
    val_main_v73 (F := Ideal) x w s = fun i => mixed x w s (i 0) (i 1) := by
  funext i
  obtain ⟨r, l, rfl⟩ := Products.pair i
  show _ = mixed x w s r l
  obtain ⟨l, hl⟩ := l
  pointwise [val_main_v73, val_main_v72, val_main_v71, val_main_v70, val_main_v69, val_main_v68, val_main_v67, val_main_v66, val_main_v65, val_main_v64, val_main_v63, val_main_v62]
  unfold mixed
  refine congrArg (· * s (ix2 0 ⟨l, hl⟩)) (Finset.sum_congr rfl fun k _ => (mul_comm _ _).trans (congrArg (· * w (ix3 ⟨l / 256, by omega⟩ k ⟨l % 256, by omega⟩)) ?_))
  obtain h | h | h | h : l / 256 = 0 ∨ l / 256 = 1 ∨ l / 256 = 2 ∨ l / 256 = 3 := by omega
  · rw [dif_pos (by omega), refer_two x hx]
    simp only [h]
    exact congrArg (pooled x 2 r) (Fin.ext (by show k.val = 0 * 256 + k.val; omega))
  · rw [dif_neg (by omega), dif_pos (by omega), refer_four x hx]
    simp only [h]
    rfl
  · rw [dif_neg (by omega), dif_neg (by omega), dif_pos (by omega), refer_eight x hx]
    simp only [h]
    rfl
  · rw [dif_neg (by omega), dif_neg (by omega), dif_neg (by omega), refer_sixteen x hx]
    simp only [h]
    rfl

end

/-- The precondition says that the array to be pooled is of real numbers. -/
theorem finite_real (h : Pre_Kernel41Ideal_finite41 m) : ∀ i, IsReal (m ((c.tc : Thread nD τ).loc main_arg0) i) :=
  fun i => IsReal.of_lt (congrFun (h c) i)

theorem value : algebraic_Kernel41Ideal_Reference41Ideal_pre_finite41 := by
  intro m g m' g' hp hag
  refine ⟨fun c => (dats m 0 c).arrAt 4 cfg0.N, Cert.Kernel41Ideal.Value.run_blocks m g, ?_⟩
  refine (θ_run _ _ _).mono (fun r h c => ?_) (Cert.Reference41Ideal.Value.run m' g')
  obtain ⟨h0, h1, h2⟩ := hag c
  obtain ⟨r0, k⟩ := h c
  refine ⟨r0.trans ?_, k⟩
  rw [Cert.Reference41Ideal.Read.val_main_v73_eq, h0, h1, h2]
  exact (refer _ _ _ (finite_real m c hp)).trans ((final m c).trans (by rw [V_main_arg0, V_main_arg1, V_main_arg2])).symm

end Cert.Kernel41Ideal.Mm

end
-- ==== Proof.Adam.lean ====
/- The optimiser's step, one call for each shape of a weight: every block of the kernel's arrays is the step of the same blocks of
its arguments, and the reference takes the same step of the whole arrays. -/
module

public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run
public import proofs.«01_k».proof.Defs

@[expose] public section

noncomputable section

open Idealize.ShloMosaic Idealize.ShloMosaic.TcCoe Idealize.SL.Sem

/-- Kernel and reference leave the same arrays. -/
theorem Cert.Kernel29Ideal.Mm.value : algebraic_Kernel29Ideal_Reference29Ideal := by
  intro m g m' g' _ hag
  refine ⟨_, _, _, Cert.Kernel29Ideal.Value.run m g, (θ_run _ _ _).mono (fun r h c => ?_) (Cert.Reference29Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel30Ideal.Mm.value : algebraic_Kernel30Ideal_Reference30Ideal := by
  intro m g m' g' _ hag
  refine ⟨_, _, _, Cert.Kernel30Ideal.Value.run m g, (θ_run _ _ _).mono (fun r h c => ?_) (Cert.Reference30Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel31Ideal.Mm.value : algebraic_Kernel31Ideal_Reference31Ideal := by
  intro m g m' g' _ hag
  refine ⟨_, _, _, Cert.Kernel31Ideal.Value.run m g, (θ_run _ _ _).mono (fun r h c => ?_) (Cert.Reference31Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel32Ideal.Mm.value : algebraic_Kernel32Ideal_Reference32Ideal := by
  intro m g m' g' _ hag
  refine ⟨_, _, _, Cert.Kernel32Ideal.Value.run m g, (θ_run _ _ _).mono (fun r h c => ?_) (Cert.Reference32Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel33Ideal.Mm.value : algebraic_Kernel33Ideal_Reference33Ideal := by
  intro m g m' g' _ hag
  refine ⟨_, _, _, Cert.Kernel33Ideal.Value.run m g, (θ_run _ _ _).mono (fun r h c => ?_) (Cert.Reference33Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel34Ideal.Mm.value : algebraic_Kernel34Ideal_Reference34Ideal := by
  intro m g m' g' _ hag
  refine ⟨_, _, _, Cert.Kernel34Ideal.Value.run m g, (θ_run _ _ _).mono (fun r h c => ?_) (Cert.Reference34Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel35Ideal.Mm.value : algebraic_Kernel35Ideal_Reference35Ideal := by
  intro m g m' g' _ hag
  refine ⟨_, _, _, Cert.Kernel35Ideal.Value.run m g, (θ_run _ _ _).mono (fun r h c => ?_) (Cert.Reference35Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel36Ideal.Mm.value : algebraic_Kernel36Ideal_Reference36Ideal := by
  intro m g m' g' _ hag
  refine ⟨_, _, _, Cert.Kernel36Ideal.Value.run m g, (θ_run _ _ _).mono (fun r h c => ?_) (Cert.Reference36Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel37Ideal.Mm.value : algebraic_Kernel37Ideal_Reference37Ideal := by
  intro m g m' g' _ hag
  refine ⟨_, _, _, Cert.Kernel37Ideal.Value.run m g, (θ_run _ _ _).mono (fun r h c => ?_) (Cert.Reference37Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel38Ideal.Mm.value : algebraic_Kernel38Ideal_Reference38Ideal := by
  intro m g m' g' _ hag
  refine ⟨_, _, _, Cert.Kernel38Ideal.Value.run m g, (θ_run _ _ _).mono (fun r h c => ?_) (Cert.Reference38Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel39Ideal.Mm.value : algebraic_Kernel39Ideal_Reference39Ideal := by
  intro m g m' g' _ hag
  refine ⟨_, _, _, Cert.Kernel39Ideal.Value.run m g, (θ_run _ _ _).mono (fun r h c => ?_) (Cert.Reference39Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

/-- Kernel and reference leave the same arrays. -/
theorem Cert.Kernel40Ideal.Mm.value : algebraic_Kernel40Ideal_Reference40Ideal := by
  intro m g m' g' _ hag
  refine ⟨_, _, _, Cert.Kernel40Ideal.Value.run m g, (θ_run _ _ _).mono (fun r h c => ?_) (Cert.Reference40Ideal.Value.run m' g')⟩
  obtain ⟨h0, h1, h2, h3⟩ := hag c
  obtain ⟨k0, k1, k2, kept⟩ := h c
  rw [h0, h1, h2, h3] at k0
  rw [h1, h2] at k1
  rw [h1, h3] at k2
  exact ⟨k0, k1, k2, kept⟩

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite
public import proofs.«01_k».proof.Proof.Gen.KernelIdeal.Value
public import proofs.«01_k».proof.Proof.Gen.ReferenceIdeal.Launch
public import proofs.«01_k».proof.Proof.Gen.ReferenceIdeal.Skeleton
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference.Launch
public import proofs.«01_k».proof.Proof.Gen.Reference.Skeleton
public import proofs.«01_k».proof.Proof.Gen.Reference.Points
public import proofs.«01_k».proof.Proof.Gen.Reference.Frame
public import proofs.«01_k».proof.Proof.Whole
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Launch
public import proofs.«01_k».proof.Proof.Gen.Kernel13Ideal.Skeleton
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Launch
public import proofs.«01_k».proof.Proof.Gen.Kernel14Ideal.Skeleton
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Launch
public import proofs.«01_k».proof.Proof.Gen.Kernel15Ideal.Skeleton
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Launch
public import proofs.«01_k».proof.Proof.Gen.Kernel16Ideal.Skeleton
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Launch
public import proofs.«01_k».proof.Proof.Gen.Kernel17Ideal.Skeleton
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Launch
public import proofs.«01_k».proof.Proof.Gen.Kernel18Ideal.Skeleton
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Launch
public import proofs.«01_k».proof.Proof.Gen.Kernel19Ideal.Skeleton
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Launch
public import proofs.«01_k».proof.Proof.Gen.Kernel20Ideal.Skeleton
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Launch
public import proofs.«01_k».proof.Proof.Gen.Kernel21Ideal.Skeleton
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Launch
public import proofs.«01_k».proof.Proof.Gen.Kernel22Ideal.Skeleton
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Launch
public import proofs.«01_k».proof.Proof.Gen.Kernel23Ideal.Skeleton
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Launch
public import proofs.«01_k».proof.Proof.Gen.Kernel24Ideal.Skeleton
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Launch
public import proofs.«01_k».proof.Proof.Gen.Kernel25Ideal.Skeleton
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26Ideal.Launch
public import proofs.«01_k».proof.Proof.Gen.Kernel26Ideal.Skeleton
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27Ideal.Launch
public import proofs.«01_k».proof.Proof.Gen.Kernel27Ideal.Skeleton
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Launch
public import proofs.«01_k».proof.Proof.Gen.Kernel28Ideal.Skeleton
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Kernel29Ideal.Launch
public import proofs.«01_k».proof.Proof.Gen.Kernel29Ideal.Skeleton
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30Ideal
public import proofs.«01_k».proof.Proof.Gen.Kernel30Ideal.Launch
public import proofs.«01_k».proof.Proof.Gen.Kernel30Ideal.Skeleton
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Kernel31Ideal.Launch
public import proofs.«01_k».proof.Proof.Gen.Kernel31Ideal.Skeleton
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32Ideal
public import proofs.«01_k».proof.Proof.Gen.Kernel32Ideal.Launch
public import proofs.«01_k».proof.Proof.Gen.Kernel32Ideal.Skeleton
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33Ideal
public import proofs.«01_k».proof.Proof.Gen.Kernel33Ideal.Launch
public import proofs.«01_k».proof.Proof.Gen.Kernel33Ideal.Skeleton
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34Ideal
public import proofs.«01_k».proof.Proof.Gen.Kernel34Ideal.Launch
public import proofs.«01_k».proof.Proof.Gen.Kernel34Ideal.Skeleton
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35Ideal
public import proofs.«01_k».proof.Proof.Gen.Kernel35Ideal.Launch
public import proofs.«01_k».proof.Proof.Gen.Kernel35Ideal.Skeleton
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36Ideal
public import proofs.«01_k».proof.Proof.Gen.Kernel36Ideal.Launch
public import proofs.«01_k».proof.Proof.Gen.Kernel36Ideal.Skeleton
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37Ideal
public import proofs.«01_k».proof.Proof.Gen.Kernel37Ideal.Launch
public import proofs.«01_k».proof.Proof.Gen.Kernel37Ideal.Skeleton
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38Ideal
public import proofs.«01_k».proof.Proof.Gen.Kernel38Ideal.Launch
public import proofs.«01_k».proof.Proof.Gen.Kernel38Ideal.Skeleton
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39Ideal
public import proofs.«01_k».proof.Proof.Gen.Kernel39Ideal.Launch
public import proofs.«01_k».proof.Proof.Gen.Kernel39Ideal.Skeleton
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40Ideal
public import proofs.«01_k».proof.Proof.Gen.Kernel40Ideal.Launch
public import proofs.«01_k».proof.Proof.Gen.Kernel40Ideal.Skeleton
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41Ideal
public import proofs.«01_k».proof.Proof.Gen.Kernel41Ideal.Launch
public import proofs.«01_k».proof.Proof.Gen.Kernel41Ideal.Skeleton
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Pre_finite41
public import proofs.«01_k».proof.Proof.Gen.Pre_finite28
public import proofs.«01_k».proof.Proof.Frames
public import proofs.«01_k».proof.Proof.DwUp
public import proofs.«01_k».proof.Proof.DhTwo
public import proofs.«01_k».proof.Proof.DfDown
public import proofs.«01_k».proof.Proof.DwDown
public import proofs.«01_k».proof.Proof.DwIn
public import proofs.«01_k».proof.Proof.DhOne
public import proofs.«01_k».proof.Proof.DwOut
public import proofs.«01_k».proof.Proof.DMixed
public import proofs.«01_k».proof.Proof.DwPool
public import proofs.«01_k».proof.Proof.DPool
public import proofs.«01_k».proof.Proof.DwAttn
public import proofs.«01_k».proof.Proof.DAttn
public import proofs.«01_k».proof.Proof.UpProj
public import proofs.«01_k».proof.Proof.DownProj
public import proofs.«01_k».proof.Proof.OutProj
public import proofs.«01_k».proof.Proof.PoolProj
public import proofs.«01_k».proof.Proof.PoolIn
public import proofs.«01_k».proof.Proof.HeadsIn
public import proofs.«01_k».proof.Proof.GatesIn
public import proofs.«01_k».proof.Proof.AttnMix
public import proofs.«01_k».proof.Proof.GateBwd
public import proofs.«01_k».proof.Proof.RmsTwoBwd
public import proofs.«01_k».proof.Proof.RmsOneBwd
public import proofs.«01_k».proof.Proof.RmsFwd
public import proofs.«01_k».proof.Proof.ConvGluFwd
public import proofs.«01_k».proof.Proof.LossHead
public import proofs.«01_k».proof.Proof.AttnMerge
public import proofs.«01_k».proof.Proof.PoolFwd
public import proofs.«01_k».proof.Proof.Adam
public import Idealize.ShloMosaic.Adequacy
public import Idealize.ShloMosaic.Init

@[expose] public section

noncomputable section

namespace Cert.Proof

open Idealize.ShloMosaic Idealize.SL.Sem Cert.Kernel

/-- Where a program declares no semaphore, every counter is at zero. -/
theorem no_counter {nD : ℕ} {τ : Topo} {sig : RefSig} (h : sig.nSem + sig.nDmaSem = 0) (f : GSem nD τ sig → ℤ) : f = fun _ => 0 :=
  funext fun g => ((Fintype.card_eq_zero_iff.mp (SemLoc.card_eq.trans h)).false g.2).elim

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Pre_finite.Gen.facts,
    Cert.Pre_finite28.Gen.facts,
    Cert.Pre_finite41.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    Cert.Frames.frame_kernel2, fun m ρ _ => Cert.Kernel2Ideal.Gen.frame m ρ, fun m ρ _ => (θ_run _ _ _).mono (fun _ h => ⟨fun c => (h c).2, no_counter rfl _⟩) (Cert.Reference2Ideal.Value.run m ρ),
    Cert.Frames.frame_kernel3, fun m ρ _ => Cert.Kernel3Ideal.Gen.frame m ρ, fun m ρ _ => (θ_run _ _ _).mono (fun _ h => ⟨fun c => (h c).2, no_counter rfl _⟩) (Cert.Reference3Ideal.Value.run m ρ),
    Cert.Frames.frame_kernel4, fun m ρ _ => Cert.Kernel4Ideal.Gen.frame m ρ, fun m ρ _ => (θ_run _ _ _).mono (fun _ h => ⟨fun c => (h c).2, no_counter rfl _⟩) (Cert.Reference4Ideal.Value.run m ρ),
    Cert.Frames.frame_kernel5, fun m ρ _ => Cert.Kernel5Ideal.Gen.frame m ρ, fun m ρ _ => (θ_run _ _ _).mono (fun _ h => ⟨fun c => (h c).2, no_counter rfl _⟩) (Cert.Reference5Ideal.Value.run m ρ),
    Cert.Frames.frame_kernel6, fun m ρ _ => Cert.Kernel6Ideal.Gen.frame m ρ, fun m ρ _ => (θ_run _ _ _).mono (fun _ h => ⟨fun c => (h c).2, no_counter rfl _⟩) (Cert.Reference6Ideal.Value.run m ρ),
    Cert.Frames.frame_kernel7, fun m ρ _ => Cert.Kernel7Ideal.Gen.frame m ρ, fun m ρ _ => (θ_run _ _ _).mono (fun _ h => ⟨fun c => (h c).2, no_counter rfl _⟩) (Cert.Reference7Ideal.Value.run m ρ),
    Cert.Frames.frame_kernel8, fun m ρ _ => Cert.Kernel8Ideal.Gen.frame m ρ, fun m ρ _ => (θ_run _ _ _).mono (fun _ h => ⟨fun c => (h c).2, no_counter rfl _⟩) (Cert.Reference8Ideal.Value.run m ρ),
    Cert.Frames.frame_kernel9, fun m ρ _ => Cert.Kernel9Ideal.Gen.frame m ρ, fun m ρ _ => (θ_run _ _ _).mono (fun _ h => ⟨fun c => (h c).2, no_counter rfl _⟩) (Cert.Reference9Ideal.Value.run m ρ),
    Cert.Frames.frame_kernel10, fun m ρ _ => Cert.Kernel10Ideal.Gen.frame m ρ, fun m ρ _ => (θ_run _ _ _).mono (fun _ h => ⟨fun c => (h c).2, no_counter rfl _⟩) (Cert.Reference10Ideal.Value.run m ρ),
    Cert.Frames.frame_kernel11, fun m ρ _ => Cert.Kernel11Ideal.Gen.frame m ρ, fun m ρ _ => (θ_run _ _ _).mono (fun _ h => ⟨fun c => (h c).2, no_counter rfl _⟩) (Cert.Reference11Ideal.Value.run m ρ),
    Cert.Frames.frame_kernel12, fun m ρ _ => Cert.Kernel12Ideal.Gen.frame m ρ, fun m ρ _ => (θ_run _ _ _).mono (fun _ h => ⟨fun c => (h c).2, no_counter rfl _⟩) (Cert.Reference12Ideal.Value.run m ρ),
    Cert.Frames.frame_kernel13, fun m ρ _ => Cert.Kernel13Ideal.Gen.frame m ρ, fun m ρ _ => (θ_run _ _ _).mono (fun _ h => ⟨fun c => (h c).2, no_counter rfl _⟩) (Cert.Reference13Ideal.Value.run m ρ),
    Cert.Frames.frame_kernel14, fun m ρ _ => Cert.Kernel14Ideal.Gen.frame m ρ, fun m ρ _ => (θ_run _ _ _).mono (fun _ h => ⟨fun c => (h c).2, no_counter rfl _⟩) (Cert.Reference14Ideal.Value.run m ρ),
    Cert.Frames.frame_kernel15, fun m ρ _ => Cert.Kernel15Ideal.Gen.frame m ρ, fun m ρ _ => (θ_run _ _ _).mono (fun _ h => ⟨fun c => (h c).2, no_counter rfl _⟩) (Cert.Reference15Ideal.Value.run m ρ),
    Cert.Frames.frame_kernel16, fun m ρ _ => Cert.Kernel16Ideal.Gen.frame m ρ, fun m ρ _ => (θ_run _ _ _).mono (fun _ h => ⟨fun c => (h c).2, no_counter rfl _⟩) (Cert.Reference16Ideal.Value.run m ρ),
    Cert.Frames.frame_kernel17, fun m ρ _ => Cert.Kernel17Ideal.Gen.frame m ρ, fun m ρ _ => (θ_run _ _ _).mono (fun _ h => ⟨fun c => (h c).2, no_counter rfl _⟩) (Cert.Reference17Ideal.Value.run m ρ),
    Cert.Frames.frame_kernel18, fun m ρ _ => Cert.Kernel18Ideal.Gen.frame m ρ, fun m ρ _ => (θ_run _ _ _).mono (fun _ h => ⟨fun c => (h c).2, no_counter rfl _⟩) (Cert.Reference18Ideal.Value.run m ρ),
    Cert.Frames.frame_kernel19, fun m ρ _ => Cert.Kernel19Ideal.Gen.frame m ρ, fun m ρ _ => (θ_run _ _ _).mono (fun _ h => ⟨fun c => (h c).2, no_counter rfl _⟩) (Cert.Reference19Ideal.Value.run m ρ),
    Cert.Frames.frame_kernel20, fun m ρ _ => Cert.Kernel20Ideal.Gen.frame m ρ, fun m ρ _ => (θ_run _ _ _).mono (fun _ h => ⟨fun c => (h c).2, no_counter rfl _⟩) (Cert.Reference20Ideal.Value.run m ρ),
    Cert.Frames.frame_kernel21, fun m ρ _ => Cert.Kernel21Ideal.Gen.frame m ρ, fun m ρ _ => (θ_run _ _ _).mono (fun _ h => ⟨fun c => (h c).2.2, no_counter rfl _⟩) (Cert.Reference21Ideal.Value.run m ρ),
    Cert.Frames.frame_kernel22, fun m ρ _ => Cert.Kernel22Ideal.Gen.frame m ρ, fun m ρ _ => (θ_run _ _ _).mono (fun _ h => ⟨fun c => (h c).2.2.2, no_counter rfl _⟩) (Cert.Reference22Ideal.Value.run m ρ),
    Cert.Frames.frame_kernel23, fun m ρ _ => Cert.Kernel23Ideal.Gen.frame m ρ, fun m ρ _ => (θ_run _ _ _).mono (fun _ h => ⟨fun c => (h c).2.2, no_counter rfl _⟩) (Cert.Reference23Ideal.Value.run m ρ),
    Cert.Frames.frame_kernel24, fun m ρ _ => Cert.Kernel24Ideal.Gen.frame m ρ, fun m ρ _ => (θ_run _ _ _).mono (fun _ h => ⟨fun c => (h c).2.2, no_counter rfl _⟩) (Cert.Reference24Ideal.Value.run m ρ),
    Cert.Frames.frame_kernel25, fun m ρ _ => Cert.Kernel25Ideal.Gen.frame m ρ, fun m ρ _ => (θ_run _ _ _).mono (fun _ h => ⟨fun c => (h c).2, no_counter rfl _⟩) (Cert.Reference25Ideal.Value.run m ρ),
    Cert.Frames.frame_kernel26, fun m ρ _ => Cert.Kernel26Ideal.Gen.frame m ρ, fun m ρ _ => (θ_run _ _ _).mono (fun _ h => ⟨fun c => (h c).2.2.2, no_counter rfl _⟩) (Cert.Reference26Ideal.Value.run m ρ),
    Cert.Frames.frame_kernel27, fun m ρ _ => Cert.Kernel27Ideal.Gen.frame m ρ, fun m ρ _ => (θ_run _ _ _).mono (fun _ h => ⟨fun c => (h c).2.2.2, no_counter rfl _⟩) (Cert.Reference27Ideal.Value.run m ρ),
    Cert.Frames.frame_kernel28, fun m ρ _ => Cert.Kernel28Ideal.Gen.frame m ρ, fun m ρ _ => Cert.Kernel28Ideal.Gen.frame m ρ, fun m ρ _ => (θ_run _ _ _).mono (fun _ h => ⟨fun c => (h c).2.2, no_counter rfl _⟩) (Cert.Reference28Ideal.Value.run m ρ),
      fun m ρ _ => (θ_run _ _ _).mono (fun _ h => ⟨fun c => (h c).2.2, no_counter rfl _⟩) (Cert.Reference28Ideal.Value.run m ρ),
    Cert.Frames.frame_kernel29, fun m ρ _ => Cert.Kernel29Ideal.Gen.frame m ρ, fun m ρ _ => (θ_run _ _ _).mono (fun _ h => ⟨fun c => (h c).2.2.2, no_counter rfl _⟩) (Cert.Reference29Ideal.Value.run m ρ),
    Cert.Frames.frame_kernel30, fun m ρ _ => Cert.Kernel30Ideal.Gen.frame m ρ, fun m ρ _ => (θ_run _ _ _).mono (fun _ h => ⟨fun c => (h c).2.2.2, no_counter rfl _⟩) (Cert.Reference30Ideal.Value.run m ρ),
    Cert.Frames.frame_kernel31, fun m ρ _ => Cert.Kernel31Ideal.Gen.frame m ρ, fun m ρ _ => (θ_run _ _ _).mono (fun _ h => ⟨fun c => (h c).2.2.2, no_counter rfl _⟩) (Cert.Reference31Ideal.Value.run m ρ),
    Cert.Frames.frame_kernel32, fun m ρ _ => Cert.Kernel32Ideal.Gen.frame m ρ, fun m ρ _ => (θ_run _ _ _).mono (fun _ h => ⟨fun c => (h c).2.2.2, no_counter rfl _⟩) (Cert.Reference32Ideal.Value.run m ρ),
    Cert.Frames.frame_kernel33, fun m ρ _ => Cert.Kernel33Ideal.Gen.frame m ρ, fun m ρ _ => (θ_run _ _ _).mono (fun _ h => ⟨fun c => (h c).2.2.2, no_counter rfl _⟩) (Cert.Reference33Ideal.Value.run m ρ),
    Cert.Frames.frame_kernel34, fun m ρ _ => Cert.Kernel34Ideal.Gen.frame m ρ, fun m ρ _ => (θ_run _ _ _).mono (fun _ h => ⟨fun c => (h c).2.2.2, no_counter rfl _⟩) (Cert.Reference34Ideal.Value.run m ρ),
    Cert.Frames.frame_kernel35, fun m ρ _ => Cert.Kernel35Ideal.Gen.frame m ρ, fun m ρ _ => (θ_run _ _ _).mono (fun _ h => ⟨fun c => (h c).2.2.2, no_counter rfl _⟩) (Cert.Reference35Ideal.Value.run m ρ),
    Cert.Frames.frame_kernel36, fun m ρ _ => Cert.Kernel36Ideal.Gen.frame m ρ, fun m ρ _ => (θ_run _ _ _).mono (fun _ h => ⟨fun c => (h c).2.2.2, no_counter rfl _⟩) (Cert.Reference36Ideal.Value.run m ρ),
    Cert.Frames.frame_kernel37, fun m ρ _ => Cert.Kernel37Ideal.Gen.frame m ρ, fun m ρ _ => (θ_run _ _ _).mono (fun _ h => ⟨fun c => (h c).2.2.2, no_counter rfl _⟩) (Cert.Reference37Ideal.Value.run m ρ),
    Cert.Frames.frame_kernel38, fun m ρ _ => Cert.Kernel38Ideal.Gen.frame m ρ, fun m ρ _ => (θ_run _ _ _).mono (fun _ h => ⟨fun c => (h c).2.2.2, no_counter rfl _⟩) (Cert.Reference38Ideal.Value.run m ρ),
    Cert.Frames.frame_kernel39, fun m ρ _ => Cert.Kernel39Ideal.Gen.frame m ρ, fun m ρ _ => (θ_run _ _ _).mono (fun _ h => ⟨fun c => (h c).2.2.2, no_counter rfl _⟩) (Cert.Reference39Ideal.Value.run m ρ),
    Cert.Frames.frame_kernel40, fun m ρ _ => Cert.Kernel40Ideal.Gen.frame m ρ, fun m ρ _ => (θ_run _ _ _).mono (fun _ h => ⟨fun c => (h c).2.2.2, no_counter rfl _⟩) (Cert.Reference40Ideal.Value.run m ρ),
    Cert.Frames.frame_kernel41, fun m ρ _ => Cert.Kernel41Ideal.Gen.frame m ρ, fun m ρ _ => Cert.Kernel41Ideal.Gen.frame m ρ, fun m ρ _ => (θ_run _ _ _).mono (fun _ h => ⟨fun c => (h c).2, no_counter rfl _⟩) (Cert.Reference41Ideal.Value.run m ρ),
      fun m ρ _ => (θ_run _ _ _).mono (fun _ h => ⟨fun c => (h c).2, no_counter rfl _⟩) (Cert.Reference41Ideal.Value.run m ρ),
    ⟨IdealRules.named_const.statement Cert.KernelIdeal.κ "inv_sqrt2" .f32 0x3F3504F3#32 (((Real.sqrt 2)⁻¹ : ℝ) : EReal) rfl,
      IdealRules.named_const.statement Cert.KernelIdeal.κ "inv_sqrt_2pi" .f32 0x3ECC422A#32 (((Real.sqrt (2 * Real.pi))⁻¹ : ℝ) : EReal) rfl⟩,
    ⟨IdealRules.named_const.statement Cert.ReferenceIdeal.κ "inv_sqrt2" .f32 0x3F3504F3#32 (((Real.sqrt 2)⁻¹ : ℝ) : EReal) rfl,
      IdealRules.named_const.statement Cert.ReferenceIdeal.κ "two_over_sqrt_pi" .f32 0x3F906EBB#32 ((2 * (Real.sqrt Real.pi)⁻¹ : ℝ) : EReal) rfl⟩,
    value,
    trivial, Cert.Kernel2Ideal.Mm.value,
    trivial, Cert.Kernel3Ideal.Mm.value,
    trivial, Cert.Kernel4Ideal.Mm.value,
    trivial, Cert.Kernel5Ideal.Mm.value,
    trivial, Cert.Kernel6Ideal.Mm.value,
    trivial, Cert.Kernel7Ideal.Mm.value,
    trivial, Cert.Kernel8Ideal.Mm.value,
    trivial, Cert.Kernel9Ideal.Mm.value,
    trivial, Cert.Kernel10Ideal.Mm.value,
    trivial, Cert.Kernel11Ideal.Mm.value,
    trivial, Cert.Kernel12Ideal.Mm.value,
    trivial, Cert.Kernel13Ideal.Mm.value,
    trivial, Cert.Kernel14Ideal.Mm.value,
    trivial, Cert.Kernel15Ideal.Mm.value,
    trivial, Cert.Kernel16Ideal.Mm.value,
    trivial, Cert.Kernel17Ideal.Mm.value,
    trivial, Cert.Kernel18Ideal.Mm.value,
    trivial, Cert.Kernel19Ideal.Mm.value,
    trivial, Cert.Kernel20Ideal.Mm.value,
    trivial, Cert.Kernel21Ideal.Mm.value,
    trivial, Cert.Kernel22Ideal.Mm.value,
    trivial, Cert.Kernel23Ideal.Mm.value,
    trivial, Cert.Kernel24Ideal.Mm.value,
    trivial, Cert.Kernel25Ideal.Mm.value,
    trivial, Cert.Kernel26Ideal.Mm.value,
    trivial, Cert.Kernel27Ideal.Mm.value,
    trivial, Cert.Kernel28Ideal.Mm.value,
    trivial, Cert.Kernel29Ideal.Mm.value,
    trivial, Cert.Kernel30Ideal.Mm.value,
    trivial, Cert.Kernel31Ideal.Mm.value,
    trivial, Cert.Kernel32Ideal.Mm.value,
    trivial, Cert.Kernel33Ideal.Mm.value,
    trivial, Cert.Kernel34Ideal.Mm.value,
    trivial, Cert.Kernel35Ideal.Mm.value,
    trivial, Cert.Kernel36Ideal.Mm.value,
    trivial, Cert.Kernel37Ideal.Mm.value,
    trivial, Cert.Kernel38Ideal.Mm.value,
    trivial, Cert.Kernel39Ideal.Mm.value,
    trivial, Cert.Kernel40Ideal.Mm.value,
    trivial, Cert.Kernel41Ideal.Mm.value⟩

end Cert.Proof

end
